-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_table_follows [hPre_table_follows : Cert.Pre_table_follows.Facts] (m : (ℓ : Loc Cert.KernelIdeal.nD Cert.KernelIdeal.τ Cert.KernelIdeal.sig) → Buf (Elt Ideal) ℓ) : Prop :=
  ∀ c : Dev Cert.KernelIdeal.nD,
    (Cert.Pre_table_follows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_table_follows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_table_follows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.1 = (fun _ => 1#1)
    ∧ (Cert.Pre_table_follows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2.1 = (fun _ => 1#1)
    ∧ (Cert.Pre_table_follows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_table_follows [hPre_table_follows : Cert.Pre_table_follows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_table_follows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_table_follows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_table_follows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.1 = (fun _ => 1#1)
    ∧ (Cert.Pre_table_follows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.2.1 = (fun _ => 1#1)
    ∧ (Cert.Pre_table_follows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_above_bottom [hPre_above_bottom : Cert.Pre_above_bottom.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_above_bottom.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_above_bottom [hPre_above_bottom : Cert.Pre_above_bottom.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_above_bottom.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_weights [hPre_finite_weights : Cert.Pre_finite_weights.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_weights.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))).1 = (fun _ => 1#1)
    ∧ (Cert.Pre_finite_weights.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))).2.1 = (fun _ => 1#1)
    ∧ (Cert.Pre_finite_weights.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))).2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_weights [hPre_finite_weights : Cert.Pre_finite_weights.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_weights.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))).1 = (fun _ => 1#1)
    ∧ (Cert.Pre_finite_weights.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))).2.1 = (fun _ => 1#1)
    ∧ (Cert.Pre_finite_weights.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_table_follows [hKernelIdeal : Cert.KernelIdeal.Facts] [hPre_table_follows : Cert.Pre_table_follows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_table_follows m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_table_follows [hReferenceIdeal : Cert.ReferenceIdeal.Facts] [hPre_table_follows : Cert.Pre_table_follows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_table_follows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Kernel5Ideal_pre_above_bottom [hKernel5Ideal : Cert.Kernel5Ideal.Facts] [hPre_above_bottom : Cert.Pre_above_bottom.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_above_bottom m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Reference5Ideal_pre_above_bottom [hReference5Ideal : Cert.Reference5Ideal.Facts] [hPre_above_bottom : Cert.Pre_above_bottom.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_above_bottom m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Kernel6Ideal_pre_finite_weights [hKernel6Ideal : Cert.Kernel6Ideal.Facts] [hPre_finite_weights : Cert.Pre_finite_weights.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_weights m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Reference6Ideal_pre_finite_weights [hReference6Ideal : Cert.Reference6Ideal.Facts] [hPre_finite_weights : Cert.Pre_finite_weights.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_weights m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def preserves_Kernel_KernelIdeal : Prop :=
  True

def algebraic_KernelIdeal_ReferenceIdeal_pre_table_follows [hKernelIdeal : Cert.KernelIdeal.Facts] [hReferenceIdeal : Cert.ReferenceIdeal.Facts] [hPre_table_follows : Cert.Pre_table_follows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_table_follows m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v23) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v23) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v1)) (v1 : (c : Dev Cert.Kernel4Ideal.nD) → Buf (Elt Ideal) ((c.tc : Thread Cert.Kernel4Ideal.nD Cert.Kernel4Ideal.τ).loc Cert.Kernel4Ideal.main_v2)) (v2 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_v2) = v1 c
          ∧ r.2.mem ((c.tc : Thread Cert.Kernel4Ideal.nD Cert.Kernel4Ideal.τ).loc Cert.Kernel4Ideal.main_v3) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v28) = v0 c
          ∧ r.2.mem ((c.tc : Thread Cert.Reference4Ideal.nD Cert.Reference4Ideal.τ).loc Cert.Reference4Ideal.main_v30) = v1 c
          ∧ r.2.mem ((c.tc : Thread Cert.Reference4Ideal.nD Cert.Reference4Ideal.τ).loc Cert.Reference4Ideal.main_v32) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal_pre_above_bottom [hKernel5Ideal : Cert.Kernel5Ideal.Facts] [hReference5Ideal : Cert.Reference5Ideal.Facts] [hPre_above_bottom : Cert.Pre_above_bottom.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_above_bottom m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal_pre_finite_weights [hKernel6Ideal : Cert.Kernel6Ideal.Facts] [hReference6Ideal : Cert.Reference6Ideal.Facts] [hPre_finite_weights : Cert.Pre_finite_weights.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_weights m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v4_0)) (v1 : (c : Dev Cert.Kernel6Ideal.nD) → Buf (Elt Ideal) ((c.tc : Thread Cert.Kernel6Ideal.nD Cert.Kernel6Ideal.τ).loc Cert.Kernel6Ideal.main_v4_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4_0) = v0 c
          ∧ r.2.mem ((c.tc : Thread Cert.Kernel6Ideal.nD Cert.Kernel6Ideal.τ).loc Cert.Kernel6Ideal.main_v4_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v69) = v0 c
          ∧ r.2.mem ((c.tc : Thread Cert.Reference6Ideal.nD Cert.Reference6Ideal.τ).loc Cert.Reference6Ideal.main_v71) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_table_follows : Cert.Pre_table_follows.Facts) (hPre_above_bottom : Cert.Pre_above_bottom.Facts) (hPre_finite_weights : Cert.Pre_finite_weights.Facts),
    quiescent_Kernel (hKernel := hKernel)
    ∧ quiescent_KernelIdeal (hKernelIdeal := hKernelIdeal)
    ∧ quiescent_KernelIdeal_pre_table_follows (hKernelIdeal := hKernelIdeal) (hPre_table_follows := hPre_table_follows)
    ∧ quiescent_ReferenceIdeal (hReferenceIdeal := hReferenceIdeal)
    ∧ quiescent_ReferenceIdeal_pre_table_follows (hReferenceIdeal := hReferenceIdeal) (hPre_table_follows := hPre_table_follows)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_above_bottom (hKernel5Ideal := hKernel5Ideal) (hPre_above_bottom := hPre_above_bottom)
    ∧ quiescent_Reference5Ideal (hReference5Ideal := hReference5Ideal)
    ∧ quiescent_Reference5Ideal_pre_above_bottom (hReference5Ideal := hReference5Ideal) (hPre_above_bottom := hPre_above_bottom)
    ∧ quiescent_Kernel6 (hKernel6 := hKernel6)
    ∧ quiescent_Kernel6Ideal (hKernel6Ideal := hKernel6Ideal)
    ∧ quiescent_Kernel6Ideal_pre_finite_weights (hKernel6Ideal := hKernel6Ideal) (hPre_finite_weights := hPre_finite_weights)
    ∧ quiescent_Reference6Ideal (hReference6Ideal := hReference6Ideal)
    ∧ quiescent_Reference6Ideal_pre_finite_weights (hReference6Ideal := hReference6Ideal) (hPre_finite_weights := hPre_finite_weights)
    ∧ preserves_Kernel_KernelIdeal
    ∧ algebraic_KernelIdeal_ReferenceIdeal_pre_table_follows (hKernelIdeal := hKernelIdeal) (hReferenceIdeal := hReferenceIdeal) (hPre_table_follows := hPre_table_follows)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_above_bottom (hKernel5Ideal := hKernel5Ideal) (hReference5Ideal := hReference5Ideal) (hPre_above_bottom := hPre_above_bottom)
    ∧ preserves_Kernel6_Kernel6Ideal
    ∧ algebraic_Kernel6Ideal_Reference6Ideal_pre_finite_weights (hKernel6Ideal := hKernel6Ideal) (hReference6Ideal := hReference6Ideal) (hPre_finite_weights := hPre_finite_weights)
-- ==== Pre_above_bottom.lean ====
abbrev S8x2048 : Shape := ⟨2, ![8, 2048]⟩
abbrev S2048x6144 : Shape := ⟨2, ![2048, 6144]⟩
abbrev S6144 : Shape := ⟨1, ![6144]⟩
abbrev S_ : Shape := ⟨0, ![]⟩

class Facts : Prop where
  bcast_S_S8x2048 : S_.BroadcastsInDim S8x2048 (![] : Fin 0 → Fin S8x2048.rank)

variable [Facts]

def fn {F : FTy → Type} [FloatOps F] (main_arg0 : FVec F S8x2048 .f32) (main_arg1 : FVec F S2048x6144 .f32) (main_arg2 : FVec F S6144 .f32) : IVec S8x2048 1 :=
  let main_cst : FVec F S_ .f32 := constant S_ .f32 0xFF800000#32
  let main_v0 : FVec F S8x2048 .f32 := broadcastInDim S8x2048 ![] bcast_S_S8x2048 main_cst
  let main_v1 : IVec S8x2048 1 := cmpf .ogt main_arg0 main_v0
  main_v1
-- ==== Pre_finite_weights.lean ====
abbrev S16384x2048 : Shape := ⟨2, ![16384, 2048]⟩
abbrev S2x1x6144 : Shape := ⟨3, ![2, 1, 6144]⟩
abbrev S1x2048 : Shape := ⟨2, ![1, 2048]⟩
abbrev S2048x256 : Shape := ⟨2, ![2048, 256]⟩
abbrev S2x128 : Shape := ⟨2, ![2, 128]⟩
abbrev S1x128 : Shape := ⟨2, ![1, 128]⟩
abbrev S2x1x4096 : Shape := ⟨3, ![2, 1, 4096]⟩
abbrev S_ : Shape := ⟨0, ![]⟩
abbrev S2048x128 : Shape := ⟨2, ![2048, 128]⟩

class Facts : Prop where
  slices_S2x1x6144_S2x1x4096_0_0_0 : S2x1x6144.Slices ![0, 0, 0] S2x1x4096
  bcast_S_S2x1x4096 : S_.BroadcastsInDim S2x1x4096 (![] : Fin 0 → Fin S2x1x4096.rank)
  bcast_S_S1x2048 : S_.BroadcastsInDim S1x2048 (![] : Fin 0 → Fin S1x2048.rank)
  slices_S2048x256_S2048x128_0_0 : S2048x256.Slices ![0, 0] S2048x128
  bcast_S_S2048x128 : S_.BroadcastsInDim S2048x128 (![] : Fin 0 → Fin S2048x128.rank)

variable [Facts]

def fn {F : FTy → Type} [FloatOps F] (main_arg0 : FVec F S16384x2048 .f32) (main_arg1 : FVec F S2x1x6144 .f32) (main_arg2 : FVec F S1x2048 .f32) (main_arg3 : FVec F S2048x256 .f32) (main_arg4 : FVec F S2x128 .f32) (main_arg5 : FVec F S1x128 .f32) : IVec S2x1x4096 1 × IVec S1x2048 1 × IVec S2048x128 1 :=
  let main_v0 : FVec F S2x1x4096 .f32 := (extractStridedSlice S2x1x4096 ![0, 0, 0] · slices_S2x1x6144_S2x1x4096_0_0_0) main_arg1
  let main_v1 : FVec F S2x1x4096 .f32 := Host.absf main_v0
  let main_cst : FVec F S_ .f32 := constant S_ .f32 0x7F800000#32
  let main_v2 : FVec F S2x1x4096 .f32 := broadcastInDim S2x1x4096 ![] bcast_S_S2x1x4096 main_cst
  let main_v3 : IVec S2x1x4096 1 := cmpf .olt main_v1 main_v2
  let main_v4 : FVec F S1x2048 .f32 := Host.absf main_arg2
  let main_cst_0 : FVec F S_ .f32 := constant S_ .f32 0x7F800000#32
  let main_v5 : FVec F S1x2048 .f32 := broadcastInDim S1x2048 ![] bcast_S_S1x2048 main_cst_0
  let main_v6 : IVec S1x2048 1 := cmpf .olt main_v4 main_v5
  let main_v7 : FVec F S2048x128 .f32 := (extractStridedSlice S2048x128 ![0, 0] · slices_S2048x256_S2048x128_0_0) main_arg3
  let main_v8 : FVec F S2048x128 .f32 := Host.absf main_v7
  let main_cst_1 : FVec F S_ .f32 := constant S_ .f32 0x7F800000#32
  let main_v9 : FVec F S2048x128 .f32 := broadcastInDim S2048x128 ![] bcast_S_S2048x128 main_cst_1
  let main_v10 : IVec S2048x128 1 := cmpf .olt main_v8 main_v9
  (main_v3, main_v6, main_v10)
-- ==== Pre_table_follows.lean ====
abbrev S16384x24576 : Shape := ⟨2, ![16384, 24576]⟩
abbrev S16384x128 : Shape := ⟨2, ![16384, 128]⟩
abbrev S2048 : Shape := ⟨1, ![2048]⟩
abbrev S2x128x64x8x16 : Shape := ⟨5, ![2, 128, 64, 8, 16]⟩
abbrev S2x128x64x8x1 : Shape := ⟨5, ![2, 128, 64, 8, 1]⟩
abbrev S2x128x64x8 : Shape := ⟨4, ![2, 128, 64, 8]⟩
abbrev S_ : Shape := ⟨0, ![]⟩
abbrev S2x128x8 : Shape := ⟨3, ![2, 128, 8]⟩
abbrev S2x128x1x8 : Shape := ⟨4, ![2, 128, 1, 8]⟩
abbrev S2x1x64x8 : Shape := ⟨4, ![2, 1, 64, 8]⟩
abbrev S2x127x64x8 : Shape := ⟨4, ![2, 127, 64, 8]⟩
abbrev S16384x2048 : Shape := ⟨2, ![16384, 2048]⟩

class Facts : Prop where
  shapeCasts_S16384x128_S2x128x64x8x16 : S16384x128.ShapeCasts S2x128x64x8x16
  slices_S2x128x64x8x16_S2x128x64x8x1_0_0_0_0_0 : S2x128x64x8x16.Slices ![0, 0, 0, 0, 0] S2x128x64x8x1
  shapeCasts_S2x128x64x8x1_S2x128x64x8 : S2x128x64x8x1.ShapeCasts S2x128x64x8
  slices_S2x128x64x8x16_S2x128x64x8x1_0_0_0_0_1 : S2x128x64x8x16.Slices ![0, 0, 0, 0, 1] S2x128x64x8x1
  slices_S2x128x64x8x16_S2x128x64x8x1_0_0_0_0_2 : S2x128x64x8x16.Slices ![0, 0, 0, 0, 2] S2x128x64x8x1
  slices_S2x128x64x8x16_S2x128x64x8x1_0_0_0_0_3 : S2x128x64x8x16.Slices ![0, 0, 0, 0, 3] S2x128x64x8x1
  slices_S2x128x64x8x16_S2x128x64x8x1_0_0_0_0_4 : S2x128x64x8x16.Slices ![0, 0, 0, 0, 4] S2x128x64x8x1
  reducesTo_S2x128x64x8_S2x128x8_d2 : S2x128x64x8.ReducesTo [2] S2x128x8
  h_S_ : 0 < S_.numel
  bcast_S2x128x8_S2x128x1x8_0_1_3 : S2x128x8.BroadcastsInDim S2x128x1x8 (![0, 1, 3] : Fin 3 → Fin S2x128x1x8.rank)
  slices_S2x128x64x8_S2x128x1x8_0_0_63_0 : S2x128x64x8.Slices ![0, 0, 63, 0] S2x128x1x8
  bcast_S2x128x1x8_S2x128x64x8_0_1_2_3 : S2x128x1x8.BroadcastsInDim S2x128x64x8 (![0, 1, 2, 3] : Fin 4 → Fin S2x128x64x8.rank)
  slices_S2x128x64x8_S2x1x64x8_0_0_0_0 : S2x128x64x8.Slices ![0, 0, 0, 0] S2x1x64x8
  bcast_S_S2x1x64x8 : S_.BroadcastsInDim S2x1x64x8 (![] : Fin 0 → Fin S2x1x64x8.rank)
  slices_S2x128x64x8_S2x127x64x8_0_1_0_0 : S2x128x64x8.Slices ![0, 1, 0, 0] S2x127x64x8
  slices_S2x128x64x8_S2x127x64x8_0_0_0_0 : S2x128x64x8.Slices ![0, 0, 0, 0] S2x127x64x8
  slices_S16384x24576_S16384x2048_0_18432 : S16384x24576.Slices ![0, 18432] S16384x2048
  bitsLt_bf16_f32 : FTy.bits .bf16 < FTy.bits .f32
  bcast_S_S16384x2048 : S_.BroadcastsInDim S16384x2048 (![] : Fin 0 → Fin S16384x2048.rank)

variable [Facts]

def fn_part1 {F : FTy → Type} [FloatOps F] (main_arg0 : FVec F S16384x24576 .bf16) (main_v6 : FVec F S2x128x64x8 .f32) (main_v8 : FVec F S2x128x64x8 .f32) (main_v10 : FVec F S2x128x64x8 .f32) (main_v14 : FVec F S2x128x1x8 .f32) (main_v17 : IVec S2x128x64x8 1) (main_v20 : IVec S2x1x64x8 1) (main_v21 : FVec F S2x127x64x8 .f32) : IVec S2x128x64x8 1 × IVec S2x1x64x8 1 × IVec S2x127x64x8 1 × IVec S2x128x64x8 1 × IVec S16384x2048 1 :=
  let main_v22 : FVec F S2x127x64x8 .f32 := (extractStridedSlice S2x127x64x8 ![0, 0, 0, 0] · slices_S2x128x64x8_S2x127x64x8_0_0_0_0) main_v10
  let main_v23 : IVec S2x127x64x8 1 := cmpf .oeq main_v21 main_v22
  let main_v24 : FVec F S2x128x64x8 .f32 := addf main_v6 main_v8
  let main_v25 : FVec F S2x128x64x8 .f32 := broadcastInDim S2x128x64x8 ![0, 1, 2, 3] bcast_S2x128x1x8_S2x128x64x8_0_1_2_3 main_v14
  let main_v26 : FVec F S2x128x64x8 .f32 := maximumf main_v24 main_v25
  let main_v27 : IVec S2x128x64x8 1 := cmpf .oeq main_v10 main_v26
  let main_v28 : FVec F S16384x2048 .bf16 := (extractStridedSlice S16384x2048 ![0, 18432] · slices_S16384x24576_S16384x2048_0_18432) main_arg0
  let main_v29 : FVec F S16384x2048 .f32 := (extf .f32 · bitsLt_bf16_f32) main_v28
  let main_cst_1 : FVec F S_ .f32 := constant S_ .f32 0xFF800000#32
  let main_v30 : FVec F S16384x2048 .f32 := broadcastInDim S16384x2048 ![] bcast_S_S16384x2048 main_cst_1
  let main_v31 : IVec S16384x2048 1 := cmpf .ogt main_v29 main_v30
  (main_v17, main_v20, main_v23, main_v27, main_v31)

def fn {F : FTy → Type} [FloatOps F] (main_arg0 : FVec F S16384x24576 .bf16) (main_arg1 : FVec F S16384x128 .f32) (main_arg2 : FVec F S2048 .f32) : IVec S2x128x64x8 1 × IVec S2x1x64x8 1 × IVec S2x127x64x8 1 × IVec S2x128x64x8 1 × IVec S16384x2048 1 :=
  let main_v0 : FVec F S2x128x64x8x16 .f32 := shapeCast S2x128x64x8x16 main_arg1 shapeCasts_S16384x128_S2x128x64x8x16
  let main_v1 : FVec F S2x128x64x8x1 .f32 := (extractStridedSlice S2x128x64x8x1 ![0, 0, 0, 0, 0] · slices_S2x128x64x8x16_S2x128x64x8x1_0_0_0_0_0) main_v0
  let main_v2 : FVec F S2x128x64x8 .f32 := shapeCast S2x128x64x8 main_v1 shapeCasts_S2x128x64x8x1_S2x128x64x8
  let main_v3 : FVec F S2x128x64x8x1 .f32 := (extractStridedSlice S2x128x64x8x1 ![0, 0, 0, 0, 1] · slices_S2x128x64x8x16_S2x128x64x8x1_0_0_0_0_1) main_v0
  let main_v4 : FVec F S2x128x64x8 .f32 := shapeCast S2x128x64x8 main_v3 shapeCasts_S2x128x64x8x1_S2x128x64x8
  let main_v5 : FVec F S2x128x64x8x1 .f32 := (extractStridedSlice S2x128x64x8x1 ![0, 0, 0, 0, 2] · slices_S2x128x64x8x16_S2x128x64x8x1_0_0_0_0_2) main_v0
  let main_v6 : FVec F S2x128x64x8 .f32 := shapeCast S2x128x64x8 main_v5 shapeCasts_S2x128x64x8x1_S2x128x64x8
  let main_v7 : FVec F S2x128x64x8x1 .f32 := (extractStridedSlice S2x128x64x8x1 ![0, 0, 0, 0, 3] · slices_S2x128x64x8x16_S2x128x64x8x1_0_0_0_0_3) main_v0
  let main_v8 : FVec F S2x128x64x8 .f32 := shapeCast S2x128x64x8 main_v7 shapeCasts_S2x128x64x8x1_S2x128x64x8
  let main_v9 : FVec F S2x128x64x8x1 .f32 := (extractStridedSlice S2x128x64x8x1 ![0, 0, 0, 0, 4] · slices_S2x128x64x8x16_S2x128x64x8x1_0_0_0_0_4) main_v0
  let main_v10 : FVec F S2x128x64x8 .f32 := shapeCast S2x128x64x8 main_v9 shapeCasts_S2x128x64x8x1_S2x128x64x8
  let main_v11 : FVec F S2x128x64x8 .f32 := subf main_v6 main_v4
  let main_v12 : FVec F S2x128x64x8 .f32 := addf main_v11 main_v2
  let main_cst : FVec F S_ .f32 := constant S_ .f32 0xFF800000#32
  let main_v13 : FVec F S2x128x8 .f32 := (fun x v => Host.reduce FloatOps.maximumf x v reducesTo_S2x128x64x8_S2x128x8_d2 h_S_) main_v12 main_cst
  let main_v14 : FVec F S2x128x1x8 .f32 := broadcastInDim S2x128x1x8 ![0, 1, 3] bcast_S2x128x8_S2x128x1x8_0_1_3 main_v13
  let main_v15 : FVec F S2x128x1x8 .f32 := (extractStridedSlice S2x128x1x8 ![0, 0, 63, 0] · slices_S2x128x64x8_S2x128x1x8_0_0_63_0) main_v4
  let main_v16 : FVec F S2x128x64x8 .f32 := broadcastInDim S2x128x64x8 ![0, 1, 2, 3] bcast_S2x128x1x8_S2x128x64x8_0_1_2_3 main_v15
  let main_v17 : IVec S2x128x64x8 1 := cmpf .oeq main_v6 main_v16
  let main_v18 : FVec F S2x1x64x8 .f32 := (extractStridedSlice S2x1x64x8 ![0, 0, 0, 0] · slices_S2x128x64x8_S2x1x64x8_0_0_0_0) main_v8
  let main_cst_0 : FVec F S_ .f32 := constant S_ .f32 0x00000000#32
  let main_v19 : FVec F S2x1x64x8 .f32 := broadcastInDim S2x1x64x8 ![] bcast_S_S2x1x64x8 main_cst_0
  let main_v20 : IVec S2x1x64x8 1 := cmpf .oeq main_v18 main_v19
  let main_v21 : FVec F S2x127x64x8 .f32 := (extractStridedSlice S2x127x64x8 ![0, 1, 0, 0] · slices_S2x128x64x8_S2x127x64x8_0_1_0_0) main_v8
  fn_part1 (F := F) main_arg0 main_v6 main_v8 main_v10 main_v14 main_v17 main_v20 main_v21
-- ==== Kernel.lean ====
abbrev S16384x24576 : Shape := ⟨2, ![16384, 24576]⟩
abbrev S16384x128 : Shape := ⟨2, ![16384, 128]⟩
abbrev S2048 : Shape := ⟨1, ![2048]⟩
abbrev S2x8192x8x16 : Shape := ⟨4, ![2, 8192, 8, 16]⟩
abbrev S2x8x16x8192 : Shape := ⟨4, ![2, 8, 16, 8192]⟩
abbrev S1x2048 : Shape := ⟨2, ![1, 2048]⟩
abbrev S16384x2048 : Shape := ⟨2, ![16384, 2048]⟩
abbrev S256x1024 : Shape := ⟨2, ![256, 1024]⟩
abbrev S256x2048 : Shape := ⟨2, ![256, 2048]⟩
abbrev S256x128 : Shape := ⟨2, ![256, 128]⟩
abbrev S1x8x16x256 : Shape := ⟨4, ![1, 8, 16, 256]⟩
abbrev S8x128x384 : Shape := ⟨3, ![8, 128, 384]⟩
abbrev S128x128 : Shape := ⟨2, ![128, 128]⟩
abbrev S256x256 : Shape := ⟨2, ![256, 256]⟩
abbrev S256x384 : Shape := ⟨2, ![256, 384]⟩
abbrev S256x1 : Shape := ⟨2, ![256, 1]⟩
abbrev S1x1x1x256 : Shape := ⟨4, ![1, 1, 1, 256]⟩
abbrev S1x256 : Shape := ⟨2, ![1, 256]⟩
abbrev S128x256 : Shape := ⟨2, ![128, 256]⟩
abbrev S128x1 : Shape := ⟨2, ![128, 1]⟩
abbrev S1x128 : Shape := ⟨2, ![1, 128]⟩
abbrev S128 : Shape := ⟨1, ![128]⟩
abbrev S128x384 : Shape := ⟨2, ![128, 384]⟩
abbrev S128x64 : Shape := ⟨2, ![128, 64]⟩
abbrev S64x384 : Shape := ⟨2, ![64, 384]⟩
abbrev S1x128x384 : Shape := ⟨3, ![1, 128, 384]⟩
abbrev S64x128 : Shape := ⟨2, ![64, 128]⟩
abbrev S1x1 : Shape := ⟨2, ![1, 1]⟩
abbrev S256 : Shape := ⟨1, ![256]⟩

abbrev nBuf : Space → Nat
  | .hbm => 7
  | .vmem => 18
  | .smem => 0
  | _ => 0

abbrev bufTy : (tb : Table) → Fin (tcTables nBuf tb) → BufTy
  | .hbm, ⟨0, _⟩ => ⟨S16384x24576, .bf16⟩
  | .hbm, ⟨1, _⟩ => ⟨S16384x128, .f32⟩
  | .hbm, ⟨2, _⟩ => ⟨S2048, .f32⟩
  | .hbm, ⟨3, _⟩ => ⟨S2x8192x8x16, .f32⟩
  | .hbm, ⟨4, _⟩ => ⟨S2x8x16x8192, .f32⟩
  | .hbm, ⟨5, _⟩ => ⟨S1x2048, .f32⟩
  | .hbm, ⟨6, _⟩ => ⟨S16384x2048, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S256x128, .f32⟩
  | .local _ .vmem, ⟨11, _⟩ => ⟨S256x128, .f32⟩
  | .local _ .vmem, ⟨12, _⟩ => ⟨S1x8x16x256, .f32⟩
  | .local _ .vmem, ⟨13, _⟩ => ⟨S1x8x16x256, .f32⟩
  | .local _ .vmem, ⟨14, _⟩ => ⟨S1x2048, .f32⟩
  | .local _ .vmem, ⟨15, _⟩ => ⟨S256x2048, .bf16⟩
  | .local _ .vmem, ⟨16, _⟩ => ⟨S256x2048, .bf16⟩
  | .local _ .vmem, ⟨17, _⟩ => ⟨S8x128x384, .f32⟩
  | _, _ => ⟨S16384x24576, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨3, ![2, 1, 32], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c12_i32 : BitVec 32 := 12#32
  let v2 : BitVec 32 := Scalar.addi c12_i32 arg1
  let c0_i32 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c13_i32 : BitVec 32 := 13#32
  let v2 : BitVec 32 := Scalar.addi c13_i32 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c7_i32 : BitVec 32 := 7#32
  let v2 : BitVec 32 := Scalar.addi c7_i32 arg1
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c8_i32 : BitVec 32 := 8#32
  let v2 : BitVec 32 := Scalar.addi c8_i32 arg1
  let c0_i32 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c9_i32 : BitVec 32 := 9#32
  let v2 : BitVec 32 := Scalar.addi c9_i32 arg1
  let c0_i32 : BitVec 32 := 0#32
  ![v1.toNat, v2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  let c0_i32_0 : BitVec 32 := 0#32
  ![v1.toNat, c0_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S1x8x16x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== ReferenceIdeal.lean ====
abbrev S16384x24576 : Shape := ⟨2, ![16384, 24576]⟩
abbrev S16384x128 : Shape := ⟨2, ![16384, 128]⟩
abbrev S2048 : Shape := ⟨1, ![2048]⟩
abbrev S16384x1024 : Shape := ⟨2, ![16384, 1024]⟩
abbrev S16384x2048 : Shape := ⟨2, ![16384, 2048]⟩
abbrev S2x8192x8x128 : Shape := ⟨4, ![2, 8192, 8, 128]⟩
abbrev S_ : Shape := ⟨0, ![]⟩
abbrev S2x8192x8x256 : Shape := ⟨4, ![2, 8192, 8, 256]⟩
abbrev S2x8192x8x16 : Shape := ⟨4, ![2, 8192, 8, 16]⟩
abbrev S2x8192x8x1 : Shape := ⟨4, ![2, 8192, 8, 1]⟩
abbrev S2x8192x8 : Shape := ⟨3, ![2, 8192, 8]⟩
abbrev S2x128x64x8x128 : Shape := ⟨5, ![2, 128, 64, 8, 128]⟩
abbrev S128x2x8x64x128 : Shape := ⟨5, ![128, 2, 8, 64, 128]⟩
abbrev S2x128x64x8x256 : Shape := ⟨5, ![2, 128, 64, 8, 256]⟩
abbrev S128x2x8x64x256 : Shape := ⟨5, ![128, 2, 8, 64, 256]⟩
abbrev S2x128x64x8 : Shape := ⟨4, ![2, 128, 64, 8]⟩
abbrev S128x2x8x64 : Shape := ⟨4, ![128, 2, 8, 64]⟩
abbrev S64x64 : Shape := ⟨2, ![64, 64]⟩
abbrev S2x8x128x256 : Shape := ⟨4, ![2, 8, 128, 256]⟩
abbrev S2x8x128 : Shape := ⟨3, ![2, 8, 128]⟩
abbrev S2x8 : Shape := ⟨2, ![2, 8]⟩
abbrev S1x2x8x64x128 : Shape := ⟨5, ![1, 2, 8, 64, 128]⟩
abbrev S2x8x64x128 : Shape := ⟨4, ![2, 8, 64, 128]⟩
abbrev S1x2x8x64x256 : Shape := ⟨5, ![1, 2, 8, 64, 256]⟩
abbrev S2x8x64x256 : Shape := ⟨4, ![2, 8, 64, 256]⟩
abbrev S1x2x8x64 : Shape := ⟨4, ![1, 2, 8, 64]⟩
abbrev S2x8x64 : Shape := ⟨3, ![2, 8, 64]⟩
abbrev S2x8x64x1 : Shape := ⟨4, ![2, 8, 64, 1]⟩
abbrev S2x8x1x64 : Shape := ⟨4, ![2, 8, 1, 64]⟩
abbrev S2x8x64x64 : Shape := ⟨4, ![2, 8, 64, 64]⟩
abbrev S2x8x1 : Shape := ⟨3, ![2, 8, 1]⟩
abbrev S2x8x1x1 : Shape := ⟨4, ![2, 8, 1, 1]⟩
abbrev S8x256 : Shape := ⟨2, ![8, 256]⟩
abbrev S1x1x8x256 : Shape := ⟨4, ![1, 1, 8, 256]⟩

abbrev nBuf : Space → Nat
  | .hbm => 218
  | .vmem => 0
  | .smem => 0
  | _ => 0

abbrev hbmTy0_0 (i : Nat) : BufTy := match i % 128 with
  | 0 => ⟨S16384x24576, .bf16⟩
  | 1 => ⟨S16384x128, .f32⟩
  | 2 => ⟨S2048, .f32⟩
  | 3 => ⟨S16384x1024, .bf16⟩
  | 4 => ⟨S16384x1024, .f32⟩
  | 5 => ⟨S16384x1024, .bf16⟩
  | 6 => ⟨S16384x1024, .f32⟩
  | 7 => ⟨S16384x2048, .bf16⟩
  | 8 => ⟨S16384x2048, .f32⟩
  | 9 => ⟨S2x8192x8x128, .f32⟩
  | 10 => ⟨S_, .f32⟩
  | 11 => ⟨S2x8192x8x128, .f32⟩
  | 12 => ⟨S2x8192x8x128, .f32⟩
  | 13 => ⟨S2x8192x8x128, .f32⟩
  | 14 => ⟨S2x8192x8x256, .f32⟩
  | 15 => ⟨S2x8192x8x16, .f32⟩
  | 16 => ⟨S2x8192x8x1, .f32⟩
  | 17 => ⟨S2x8192x8, .f32⟩
  | 18 => ⟨S2x8192x8x1, .f32⟩
  | 19 => ⟨S2x8192x8, .f32⟩
  | 20 => ⟨S2x128x64x8x128, .f32⟩
  | 21 => ⟨S128x2x8x64x128, .f32⟩
  | 22 => ⟨S2x128x64x8x128, .f32⟩
  | 23 => ⟨S128x2x8x64x128, .f32⟩
  | 24 => ⟨S2x128x64x8x256, .f32⟩
  | 25 => ⟨S128x2x8x64x256, .f32⟩
  | 26 => ⟨S2x128x64x8, .f32⟩
  | 27 => ⟨S128x2x8x64, .f32⟩
  | 28 => ⟨S2x128x64x8, .f32⟩
  | 29 => ⟨S128x2x8x64, .f32⟩
  | 30 => ⟨S_, .i1⟩
  | 31 => ⟨S64x64, .i1⟩
  | 32 => ⟨S64x64, .i32⟩
  | 33 => ⟨S_, .i32⟩
  | 34 => ⟨S64x64, .i32⟩
  | 35 => ⟨S64x64, .i32⟩
  | 36 => ⟨S64x64, .i32⟩
  | 37 => ⟨S64x64, .i1⟩
  | 38 => ⟨S_, .i1⟩
  | 39 => ⟨S64x64, .i1⟩
  | 40 => ⟨S64x64, .i1⟩
  | 41 => ⟨S_, .f32⟩
  | 42 => ⟨S2x8x128x256, .f32⟩
  | 43 => ⟨S_, .f32⟩
  | 44 => ⟨S2x8x128, .f32⟩
  | 45 => ⟨S_, .f32⟩
  | 46 => ⟨S2x8, .f32⟩
  | 47 => ⟨S_, .f32⟩
  | 48 => ⟨S128x2x8x64x256, .f32⟩
  | 49 => ⟨S_, .i32⟩
  | 50 => ⟨S128x2x8x64x128, .f32⟩
  | 51 => ⟨S128x2x8x64x128, .f32⟩
  | 52 => ⟨S128x2x8x64x256, .f32⟩
  | 53 => ⟨S128x2x8x64, .f32⟩
  | 54 => ⟨S128x2x8x64, .f32⟩
  | 55 => ⟨S64x64, .i1⟩
  | 56 => ⟨S_, .i32⟩
  | 57 => ⟨S2x8x128x256, .f32⟩
  | 58 => ⟨S2x8x128, .f32⟩
  | 59 => ⟨S2x8, .f32⟩
  | 60 => ⟨S128x2x8x64x256, .f32⟩
  | 61 => ⟨S_, .i32⟩
  | 62 => ⟨S_, .i1⟩
  | 63 => ⟨S_, .i32⟩
  | 64 => ⟨S_, .i32⟩
  | 65 => ⟨S_, .i32⟩
  | 66 => ⟨S_, .i32⟩
  | 67 => ⟨S1x2x8x64x128, .f32⟩
  | 68 => ⟨S2x8x64x128, .f32⟩
  | 69 => ⟨S_, .i32⟩
  | 70 => ⟨S_, .i32⟩
  | 71 => ⟨S_, .i32⟩
  | 72 => ⟨S_, .i32⟩
  | 73 => ⟨S1x2x8x64x128, .f32⟩
  | 74 => ⟨S2x8x64x128, .f32⟩
  | 75 => ⟨S_, .i32⟩
  | 76 => ⟨S_, .i32⟩
  | 77 => ⟨S_, .i32⟩
  | 78 => ⟨S_, .i32⟩
  | 79 => ⟨S1x2x8x64x256, .f32⟩
  | 80 => ⟨S2x8x64x256, .f32⟩
  | 81 => ⟨S_, .i32⟩
  | 82 => ⟨S_, .i32⟩
  | 83 => ⟨S_, .i32⟩
  | 84 => ⟨S1x2x8x64, .f32⟩
  | 85 => ⟨S2x8x64, .f32⟩
  | 86 => ⟨S_, .i32⟩
  | 87 => ⟨S_, .i32⟩
  | 88 => ⟨S_, .i32⟩
  | 89 => ⟨S1x2x8x64, .f32⟩
  | 90 => ⟨S2x8x64, .f32⟩
  | 91 => ⟨S2x8x64x1, .f32⟩
  | 92 => ⟨S2x8x1x64, .f32⟩
  | 93 => ⟨S2x8x64x64, .f32⟩
  | 94 => ⟨S2x8x64x64, .f32⟩
  | 95 => ⟨S2x8x64x64, .f32⟩
  | 96 => ⟨S2x8x1x64, .f32⟩
  | 97 => ⟨S2x8x64x64, .f32⟩
  | 98 => ⟨S2x8x64x64, .f32⟩
  | 99 => ⟨S_, .f32⟩
  | 100 => ⟨S_, .f32⟩
  | 101 => ⟨S2x8x64x64, .i1⟩
  | 102 => ⟨S2x8x64x64, .f32⟩
  | 103 => ⟨S2x8x64x64, .f32⟩
  | 104 => ⟨S2x8x1, .f32⟩
  | 105 => ⟨S2x8x64, .f32⟩
  | 106 => ⟨S2x8x64, .f32⟩
  | 107 => ⟨S_, .f32⟩
  | 108 => ⟨S2x8x64, .f32⟩
  | 109 => ⟨S2x8x64, .f32⟩
  | 110 => ⟨S2x8x64x1, .f32⟩
  | 111 => ⟨S2x8x64x64, .f32⟩
  | 112 => ⟨S2x8x64x64, .f32⟩
  | 113 => ⟨S2x8x64x64, .f32⟩
  | 114 => ⟨S2x8x64, .f32⟩
  | 115 => ⟨S2x8x64, .f32⟩
  | 116 => ⟨S2x8x64x64, .f32⟩
  | 117 => ⟨S2x8x64x64, .f32⟩
  | 118 => ⟨S2x8x64x1, .f32⟩
  | 119 => ⟨S2x8x64x256, .f32⟩
  | 120 => ⟨S2x8x64x256, .f32⟩
  | 121 => ⟨S2x8x64x256, .f32⟩
  | 122 => ⟨S2x8x64x256, .f32⟩
  | 123 => ⟨S2x8x64x256, .f32⟩
  | 124 => ⟨S2x8x64, .f32⟩
  | 125 => ⟨S2x8x64, .f32⟩
  | 126 => ⟨S_, .f32⟩
  | 127 => ⟨S2x8x64, .f32⟩
  | _ => ⟨S16384x24576, .bf16⟩

abbrev hbmTy0_1 (i : Nat) : BufTy := match i % 128 with
  | 0 => ⟨S2x8x64, .f32⟩
  | 1 => ⟨S2x8x64, .f32⟩
  | 2 => ⟨S2x8x64, .f32⟩
  | 3 => ⟨S2x8x64, .f32⟩
  | 4 => ⟨S2x8x64, .f32⟩
  | 5 => ⟨S2x8x64x1, .f32⟩
  | 6 => ⟨S2x8x64x256, .f32⟩
  | 7 => ⟨S2x8x64x256, .f32⟩
  | 8 => ⟨S2x8x1, .f32⟩
  | 9 => ⟨S2x8, .f32⟩
  | 10 => ⟨S2x8x1, .f32⟩
  | 11 => ⟨S2x8x64, .f32⟩
  | 12 => ⟨S2x8x64, .f32⟩
  | 13 => ⟨S2x8x64, .f32⟩
  | 14 => ⟨S2x8, .f32⟩
  | 15 => ⟨S_, .f32⟩
  | 16 => ⟨S2x8, .f32⟩
  | 17 => ⟨S2x8, .f32⟩
  | 18 => ⟨S2x8x1, .f32⟩
  | 19 => ⟨S2x8x64, .f32⟩
  | 20 => ⟨S2x8x64, .f32⟩
  | 21 => ⟨S2x8x64, .f32⟩
  | 22 => ⟨S2x8, .f32⟩
  | 23 => ⟨S2x8, .f32⟩
  | 24 => ⟨S2x8, .f32⟩
  | 25 => ⟨S2x8x1x1, .f32⟩
  | 26 => ⟨S2x8x128x256, .f32⟩
  | 27 => ⟨S2x8x128x256, .f32⟩
  | 28 => ⟨S2x8x64x1, .f32⟩
  | 29 => ⟨S2x8x64x128, .f32⟩
  | 30 => ⟨S2x8x64x128, .f32⟩
  | 31 => ⟨S2x8x128x256, .f32⟩
  | 32 => ⟨S2x8x128x256, .f32⟩
  | 33 => ⟨S2x8x1, .f32⟩
  | 34 => ⟨S2x8x128, .f32⟩
  | 35 => ⟨S2x8x128, .f32⟩
  | 36 => ⟨S2x8x128, .f32⟩
  | 37 => ⟨S2x8x128, .f32⟩
  | 38 => ⟨S1x2x8x64x256, .f32⟩
  | 39 => ⟨S_, .i32⟩
  | 40 => ⟨S_, .i32⟩
  | 41 => ⟨S_, .i32⟩
  | 42 => ⟨S_, .i32⟩
  | 43 => ⟨S128x2x8x64x256, .f32⟩
  | 44 => ⟨S_, .i32⟩
  | 45 => ⟨S_, .i32⟩
  | 46 => ⟨S2x128x64x8x256, .f32⟩
  | 47 => ⟨S2x8192x8x256, .f32⟩
  | 48 => ⟨S8x256, .f32⟩
  | 49 => ⟨S2x8192x8x256, .f32⟩
  | 50 => ⟨S_, .f32⟩
  | 51 => ⟨S2x8192x8, .f32⟩
  | 52 => ⟨S2x8192x8x1, .f32⟩
  | 53 => ⟨S_, .f32⟩
  | 54 => ⟨S2x8192x8x1, .f32⟩
  | 55 => ⟨S2x8192x8x1, .f32⟩
  | 56 => ⟨S_, .f32⟩
  | 57 => ⟨S2x8192x8x1, .f32⟩
  | 58 => ⟨S2x8192x8x1, .f32⟩
  | 59 => ⟨S2x8192x8x1, .f32⟩
  | 60 => ⟨S2x8192x8x256, .f32⟩
  | 61 => ⟨S2x8192x8x256, .f32⟩
  | 62 => ⟨S1x1x8x256, .f32⟩
  | 63 => ⟨S2x8192x8x256, .f32⟩
  | 64 => ⟨S2x8192x8x256, .f32⟩
  | 65 => ⟨S16384x2048, .f32⟩
  | 66 => ⟨S16384x2048, .bf16⟩
  | 67 => ⟨S16384x2048, .f32⟩
  | 68 => ⟨S16384x2048, .bf16⟩
  | 69 => ⟨S16384x2048, .f32⟩
  | 70 => ⟨S16384x2048, .f32⟩
  | 71 => ⟨S16384x2048, .f32⟩
  | 72 => ⟨S_, .f32⟩
  | 73 => ⟨S16384x2048, .f32⟩
  | 74 => ⟨S16384x2048, .f32⟩
  | 75 => ⟨S_, .f32⟩
  | 76 => ⟨S16384x2048, .f32⟩
  | 77 => ⟨S16384x2048, .f32⟩
  | 78 => ⟨S16384x2048, .f32⟩
  | 79 => ⟨S16384x2048, .f32⟩
  | 80 => ⟨S16384x2048, .f32⟩
  | 81 => ⟨S_, .f32⟩
  | 82 => ⟨S16384x2048, .f32⟩
  | 83 => ⟨S16384x2048, .f32⟩
  | 84 => ⟨S_, .f32⟩
  | 85 => ⟨S16384x2048, .f32⟩
  | 86 => ⟨S16384x2048, .f32⟩
  | 87 => ⟨S16384x2048, .f32⟩
  | 88 => ⟨S16384x2048, .f32⟩
  | 89 => ⟨S16384x2048, .bf16⟩
  | _ => ⟨S16384x24576, .bf16⟩

abbrev hbmTy (i : Nat) : BufTy := match i / 128 with
  | 0 => hbmTy0_0 i
  | 1 => hbmTy0_1 i
  | _ => ⟨S16384x24576, .bf16⟩

abbrev bufTy : (tb : Table) → Fin (tcTables nBuf tb) → BufTy
  | .hbm, ⟨i, _⟩ => hbmTy i
  | _, _ => ⟨S16384x24576, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_c : Ref sig .tc := ⟨.hbm, 30, rfl⟩
abbrev main_v26 : Ref sig .tc := ⟨.hbm, 31, rfl⟩
abbrev main_call0_v0 : Ref sig .tc := ⟨.hbm, 32, rfl⟩
abbrev main_call0_c : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_c_0 : Ref sig .tc := ⟨.hbm, 38, rfl⟩
abbrev main_call0_v5 : Ref sig .tc := ⟨.hbm, 39, rfl⟩
abbrev main_v27 : Ref sig .tc := ⟨.hbm, 40, rfl⟩
abbrev main_cst_0 : Ref sig .tc := ⟨.hbm, 41, rfl⟩
abbrev main_v28 : Ref sig .tc := ⟨.hbm, 42, rfl⟩
abbrev main_cst_1 : Ref sig .tc := ⟨.hbm, 43, rfl⟩
abbrev main_v29 : Ref sig .tc := ⟨.hbm, 44, rfl⟩
abbrev main_cst_2 : Ref sig .tc := ⟨.hbm, 45, rfl⟩
abbrev main_v30 : Ref sig .tc := ⟨.hbm, 46, rfl⟩
abbrev main_cst_3 : Ref sig .tc := ⟨.hbm, 47, rfl⟩
abbrev main_v31 : Ref sig .tc := ⟨.hbm, 48, rfl⟩
abbrev main_c_4 : Ref sig .tc := ⟨.hbm, 49, rfl⟩
abbrev main_v32_0 : Ref sig .tc := ⟨.hbm, 50, rfl⟩
abbrev main_v32_1 : Ref sig .tc := ⟨.hbm, 51, rfl⟩
abbrev main_v32_2 : Ref sig .tc := ⟨.hbm, 52, rfl⟩
abbrev main_v32_3 : Ref sig .tc := ⟨.hbm, 53, rfl⟩
abbrev main_v32_4 : Ref sig .tc := ⟨.hbm, 54, rfl⟩
abbrev main_v32_5 : Ref sig .tc := ⟨.hbm, 55, rfl⟩
abbrev main_v32_6 : Ref sig .tc := ⟨.hbm, 56, rfl⟩
abbrev main_v32_7 : Ref sig .tc := ⟨.hbm, 57, rfl⟩
abbrev main_v32_8 : Ref sig .tc := ⟨.hbm, 58, rfl⟩
abbrev main_v32_9 : Ref sig .tc := ⟨.hbm, 59, rfl⟩
abbrev main_v32_10 : Ref sig .tc := ⟨.hbm, 60, rfl⟩
abbrev main_while0c_c_20 : Ref sig .tc := ⟨.hbm, 61, rfl⟩
abbrev main_while0c_v64 : Ref sig .tc := ⟨.hbm, 62, rfl⟩
abbrev main_while0b_call1_c : Ref sig .tc := ⟨.hbm, 63, rfl⟩
abbrev main_while0b_call1_c_0 : Ref sig .tc := ⟨.hbm, 64, rfl⟩
abbrev main_while0b_call1_c_1 : Ref sig .tc := ⟨.hbm, 65, rfl⟩
abbrev main_while0b_call1_c_2 : Ref sig .tc := ⟨.hbm, 66, rfl⟩
abbrev main_while0b_call1_v0 : Ref sig .tc := ⟨.hbm, 67, rfl⟩
abbrev main_while0b_v64 : Ref sig .tc := ⟨.hbm, 68, rfl⟩
abbrev main_while0b_call2_c : Ref sig .tc := ⟨.hbm, 69, rfl⟩
abbrev main_while0b_call2_c_0 : Ref sig .tc := ⟨.hbm, 70, rfl⟩
abbrev main_while0b_call2_c_1 : Ref sig .tc := ⟨.hbm, 71, rfl⟩
abbrev main_while0b_call2_c_2 : Ref sig .tc := ⟨.hbm, 72, rfl⟩
abbrev main_while0b_call2_v0 : Ref sig .tc := ⟨.hbm, 73, rfl⟩
abbrev main_while0b_v65 : Ref sig .tc := ⟨.hbm, 74, rfl⟩
abbrev main_while0b_call3_c : Ref sig .tc := ⟨.hbm, 75, rfl⟩
abbrev main_while0b_call3_c_0 : Ref sig .tc := ⟨.hbm, 76, rfl⟩
abbrev main_while0b_call3_c_1 : Ref sig .tc := ⟨.hbm, 77, rfl⟩
abbrev main_while0b_call3_c_2 : Ref sig .tc := ⟨.hbm, 78, rfl⟩
abbrev main_while0b_call3_v0 : Ref sig .tc := ⟨.hbm, 79, rfl⟩
abbrev main_while0b_v66 : Ref sig .tc := ⟨.hbm, 80, rfl⟩
abbrev main_while0b_call4_c : Ref sig .tc := ⟨.hbm, 81, rfl⟩
abbrev main_while0b_call4_c_0 : Ref sig .tc := ⟨.hbm, 82, rfl⟩
abbrev main_while0b_call4_c_1 : Ref sig .tc := ⟨.hbm, 83, rfl⟩
abbrev main_while0b_call4_v0 : Ref sig .tc := ⟨.hbm, 84, rfl⟩
abbrev main_while0b_v67 : Ref sig .tc := ⟨.hbm, 85, rfl⟩
abbrev main_while0b_call5_c : Ref sig .tc := ⟨.hbm, 86, rfl⟩
abbrev main_while0b_call5_c_0 : Ref sig .tc := ⟨.hbm, 87, rfl⟩
abbrev main_while0b_call5_c_1 : Ref sig .tc := ⟨.hbm, 88, rfl⟩
abbrev main_while0b_call5_v0 : Ref sig .tc := ⟨.hbm, 89, rfl⟩
abbrev main_while0b_v68 : Ref sig .tc := ⟨.hbm, 90, rfl⟩
abbrev main_while0b_v69 : Ref sig .tc := ⟨.hbm, 91, rfl⟩
abbrev main_while0b_v70 : Ref sig .tc := ⟨.hbm, 92, rfl⟩
abbrev main_while0b_v71 : Ref sig .tc := ⟨.hbm, 93, rfl⟩
abbrev main_while0b_v72 : Ref sig .tc := ⟨.hbm, 94, rfl⟩
abbrev main_while0b_v73 : Ref sig .tc := ⟨.hbm, 95, rfl⟩
abbrev main_while0b_v74 : Ref sig .tc := ⟨.hbm, 96, rfl⟩
abbrev main_while0b_v75 : Ref sig .tc := ⟨.hbm, 97, rfl⟩
abbrev main_while0b_v76 : Ref sig .tc := ⟨.hbm, 98, rfl⟩
abbrev main_while0b_cst_20 : Ref sig .tc := ⟨.hbm, 99, rfl⟩
abbrev main_while0b_call6_v0 : Ref sig .tc := ⟨.hbm, 100, rfl⟩
abbrev main_while0b_call6_v1 : Ref sig .tc := ⟨.hbm, 101, rfl⟩
abbrev main_while0b_call6_v2 : Ref sig .tc := ⟨.hbm, 102, rfl⟩
abbrev main_while0b_v77 : Ref sig .tc := ⟨.hbm, 103, rfl⟩
abbrev main_while0b_v78 : Ref sig .tc := ⟨.hbm, 104, rfl⟩
abbrev main_while0b_v79 : Ref sig .tc := ⟨.hbm, 105, rfl⟩
abbrev main_while0b_v80 : Ref sig .tc := ⟨.hbm, 106, rfl⟩
abbrev main_while0b_cst_21 : Ref sig .tc := ⟨.hbm, 107, rfl⟩
abbrev main_while0b_v81 : Ref sig .tc := ⟨.hbm, 108, rfl⟩
abbrev main_while0b_v82 : Ref sig .tc := ⟨.hbm, 109, rfl⟩
abbrev main_while0b_v83 : Ref sig .tc := ⟨.hbm, 110, rfl⟩
abbrev main_while0b_v84 : Ref sig .tc := ⟨.hbm, 111, rfl⟩
abbrev main_while0b_v85 : Ref sig .tc := ⟨.hbm, 112, rfl⟩
abbrev main_while0b_v86 : Ref sig .tc := ⟨.hbm, 113, rfl⟩
abbrev main_while0b_v87 : Ref sig .tc := ⟨.hbm, 114, rfl⟩
abbrev main_while0b_v88 : Ref sig .tc := ⟨.hbm, 115, rfl⟩
abbrev main_while0b_v89 : Ref sig .tc := ⟨.hbm, 116, rfl⟩
abbrev main_while0b_v90 : Ref sig .tc := ⟨.hbm, 117, rfl⟩
abbrev main_while0b_v91 : Ref sig .tc := ⟨.hbm, 118, rfl⟩
abbrev main_while0b_v92 : Ref sig .tc := ⟨.hbm, 119, rfl⟩
abbrev main_while0b_v93 : Ref sig .tc := ⟨.hbm, 120, rfl⟩
abbrev main_while0b_v94 : Ref sig .tc := ⟨.hbm, 121, rfl⟩
abbrev main_while0b_v95 : Ref sig .tc := ⟨.hbm, 122, rfl⟩
abbrev main_while0b_v96 : Ref sig .tc := ⟨.hbm, 123, rfl⟩
abbrev main_while0b_v97 : Ref sig .tc := ⟨.hbm, 124, rfl⟩
abbrev main_while0b_v98 : Ref sig .tc := ⟨.hbm, 125, rfl⟩
abbrev main_while0b_cst_22 : Ref sig .tc := ⟨.hbm, 126, rfl⟩
abbrev main_while0b_v99 : Ref sig .tc := ⟨.hbm, 127, rfl⟩
abbrev main_while0b_v100 : Ref sig .tc := ⟨.hbm, 128, rfl⟩
abbrev main_while0b_v101 : Ref sig .tc := ⟨.hbm, 129, rfl⟩
abbrev main_while0b_v102 : Ref sig .tc := ⟨.hbm, 130, rfl⟩
abbrev main_while0b_v103 : Ref sig .tc := ⟨.hbm, 131, rfl⟩
abbrev main_while0b_v104 : Ref sig .tc := ⟨.hbm, 132, rfl⟩
abbrev main_while0b_v105 : Ref sig .tc := ⟨.hbm, 133, rfl⟩
abbrev main_while0b_v106 : Ref sig .tc := ⟨.hbm, 134, rfl⟩
abbrev main_while0b_v107 : Ref sig .tc := ⟨.hbm, 135, rfl⟩
abbrev main_while0b_v108 : Ref sig .tc := ⟨.hbm, 136, rfl⟩
abbrev main_while0b_v109 : Ref sig .tc := ⟨.hbm, 137, rfl⟩
abbrev main_while0b_v110 : Ref sig .tc := ⟨.hbm, 138, rfl⟩
abbrev main_while0b_v111 : Ref sig .tc := ⟨.hbm, 139, rfl⟩
abbrev main_while0b_v112 : Ref sig .tc := ⟨.hbm, 140, rfl⟩
abbrev main_while0b_v113 : Ref sig .tc := ⟨.hbm, 141, rfl⟩
abbrev main_while0b_v114 : Ref sig .tc := ⟨.hbm, 142, rfl⟩
abbrev main_while0b_cst_23 : Ref sig .tc := ⟨.hbm, 143, rfl⟩
abbrev main_while0b_v115 : Ref sig .tc := ⟨.hbm, 144, rfl⟩
abbrev main_while0b_v116 : Ref sig .tc := ⟨.hbm, 145, rfl⟩
abbrev main_while0b_v117 : Ref sig .tc := ⟨.hbm, 146, rfl⟩
abbrev main_while0b_v118 : Ref sig .tc := ⟨.hbm, 147, rfl⟩
abbrev main_while0b_v119 : Ref sig .tc := ⟨.hbm, 148, rfl⟩
abbrev main_while0b_v120 : Ref sig .tc := ⟨.hbm, 149, rfl⟩
abbrev main_while0b_v121 : Ref sig .tc := ⟨.hbm, 150, rfl⟩
abbrev main_while0b_v122 : Ref sig .tc := ⟨.hbm, 151, rfl⟩
abbrev main_while0b_v123 : Ref sig .tc := ⟨.hbm, 152, rfl⟩
abbrev main_while0b_v124 : Ref sig .tc := ⟨.hbm, 153, rfl⟩
abbrev main_while0b_v125 : Ref sig .tc := ⟨.hbm, 154, rfl⟩
abbrev main_while0b_v126 : Ref sig .tc := ⟨.hbm, 155, rfl⟩
abbrev main_while0b_v127 : Ref sig .tc := ⟨.hbm, 156, rfl⟩
abbrev main_while0b_v128 : Ref sig .tc := ⟨.hbm, 157, rfl⟩
abbrev main_while0b_v129 : Ref sig .tc := ⟨.hbm, 158, rfl⟩
abbrev main_while0b_v130 : Ref sig .tc := ⟨.hbm, 159, rfl⟩
abbrev main_while0b_v131 : Ref sig .tc := ⟨.hbm, 160, rfl⟩
abbrev main_while0b_v132 : Ref sig .tc := ⟨.hbm, 161, rfl⟩
abbrev main_while0b_v133 : Ref sig .tc := ⟨.hbm, 162, rfl⟩
abbrev main_while0b_v134 : Ref sig .tc := ⟨.hbm, 163, rfl⟩
abbrev main_while0b_v135 : Ref sig .tc := ⟨.hbm, 164, rfl⟩
abbrev main_while0b_v136 : Ref sig .tc := ⟨.hbm, 165, rfl⟩
abbrev main_while0b_call7_v0 : Ref sig .tc := ⟨.hbm, 166, rfl⟩
abbrev main_while0b_call7_c : Ref sig .tc := ⟨.hbm, 167, rfl⟩
abbrev main_while0b_call7_c_0 : Ref sig .tc := ⟨.hbm, 168, rfl⟩
abbrev main_while0b_call7_c_1 : Ref sig .tc := ⟨.hbm, 169, rfl⟩
abbrev main_while0b_call7_c_2 : Ref sig .tc := ⟨.hbm, 170, rfl⟩
abbrev main_while0b_v137 : Ref sig .tc := ⟨.hbm, 171, rfl⟩
abbrev main_while0b_c_24 : Ref sig .tc := ⟨.hbm, 172, rfl⟩
abbrev main_while0b_v138 : Ref sig .tc := ⟨.hbm, 173, rfl⟩
abbrev main_v33 : Ref sig .tc := ⟨.hbm, 174, rfl⟩
abbrev main_v34 : Ref sig .tc := ⟨.hbm, 175, rfl⟩
abbrev main_v35 : Ref sig .tc := ⟨.hbm, 176, rfl⟩
abbrev main_v36 : Ref sig .tc := ⟨.hbm, 177, rfl⟩
abbrev main_cst_5 : Ref sig .tc := ⟨.hbm, 178, rfl⟩
abbrev main_v37 : Ref sig .tc := ⟨.hbm, 179, rfl⟩
abbrev main_v38 : Ref sig .tc := ⟨.hbm, 180, rfl⟩
abbrev main_cst_6 : Ref sig .tc := ⟨.hbm, 181, rfl⟩
abbrev main_v39 : Ref sig .tc := ⟨.hbm, 182, rfl⟩
abbrev main_v40 : Ref sig .tc := ⟨.hbm, 183, rfl⟩
abbrev main_cst_7 : Ref sig .tc := ⟨.hbm, 184, rfl⟩
abbrev main_v41 : Ref sig .tc := ⟨.hbm, 185, rfl⟩
abbrev main_v42 : Ref sig .tc := ⟨.hbm, 186, rfl⟩
abbrev main_v43 : Ref sig .tc := ⟨.hbm, 187, rfl⟩
abbrev main_v44 : Ref sig .tc := ⟨.hbm, 188, rfl⟩
abbrev main_v45 : Ref sig .tc := ⟨.hbm, 189, rfl⟩
abbrev main_v46 : Ref sig .tc := ⟨.hbm, 190, rfl⟩
abbrev main_v47 : Ref sig .tc := ⟨.hbm, 191, rfl⟩
abbrev main_v48 : Ref sig .tc := ⟨.hbm, 192, rfl⟩
abbrev main_v49 : Ref sig .tc := ⟨.hbm, 193, rfl⟩
abbrev main_v50 : Ref sig .tc := ⟨.hbm, 194, rfl⟩
abbrev main_v51 : Ref sig .tc := ⟨.hbm, 195, rfl⟩
abbrev main_v52 : Ref sig .tc := ⟨.hbm, 196, rfl⟩
abbrev main_v53 : Ref sig .tc := ⟨.hbm, 197, rfl⟩
abbrev main_v54 : Ref sig .tc := ⟨.hbm, 198, rfl⟩
abbrev main_v55 : Ref sig .tc := ⟨.hbm, 199, rfl⟩
abbrev main_cst_8 : Ref sig .tc := ⟨.hbm, 200, rfl⟩
abbrev main_v56 : Ref sig .tc := ⟨.hbm, 201, rfl⟩
abbrev main_v57 : Ref sig .tc := ⟨.hbm, 202, rfl⟩
abbrev main_cst_9 : Ref sig .tc := ⟨.hbm, 203, rfl⟩
abbrev main_v58 : Ref sig .tc := ⟨.hbm, 204, rfl⟩
abbrev main_v59 : Ref sig .tc := ⟨.hbm, 205, rfl⟩
abbrev main_v60 : Ref sig .tc := ⟨.hbm, 206, rfl⟩
abbrev main_call8_v0 : Ref sig .tc := ⟨.hbm, 207, rfl⟩
abbrev main_call8_v1 : Ref sig .tc := ⟨.hbm, 208, rfl⟩
abbrev main_call8_cst : Ref sig .tc := ⟨.hbm, 209, rfl⟩
abbrev main_call8_v2 : Ref sig .tc := ⟨.hbm, 210, rfl⟩
abbrev main_call8_v3 : Ref sig .tc := ⟨.hbm, 211, rfl⟩
abbrev main_call8_cst_0 : Ref sig .tc := ⟨.hbm, 212, rfl⟩
abbrev main_call8_v4 : Ref sig .tc := ⟨.hbm, 213, rfl⟩
abbrev main_call8_v5 : Ref sig .tc := ⟨.hbm, 214, rfl⟩
abbrev main_v61 : Ref sig .tc := ⟨.hbm, 215, rfl⟩
abbrev main_v62 : Ref sig .tc := ⟨.hbm, 216, rfl⟩
abbrev main_v63 : Ref sig .tc := ⟨.hbm, 217, rfl⟩

abbrev nD : Nat := 1
abbrev τ : Topo := Topo.v7x

variable {F : FTy → Type} [FloatOps F]

abbrev main_while0_count : Scf.Loop 32 := ⟨0#32, 128#32, 1#32⟩
-- ==== Kernel2.lean ====
abbrev S16384x4096 : Shape := ⟨2, ![16384, 4096]⟩
abbrev S16384x2048 : Shape := ⟨2, ![16384, 2048]⟩
abbrev S16384x24576 : Shape := ⟨2, ![16384, 24576]⟩
abbrev S4096x2048 : Shape := ⟨2, ![4096, 2048]⟩
abbrev S2048x2048 : Shape := ⟨2, ![2048, 2048]⟩
abbrev S1024x4096 : Shape := ⟨2, ![1024, 4096]⟩
abbrev S1024x2048 : Shape := ⟨2, ![1024, 2048]⟩
abbrev S4096x512 : Shape := ⟨2, ![4096, 512]⟩
abbrev S2048x512 : Shape := ⟨2, ![2048, 512]⟩
abbrev S1024x512 : Shape := ⟨2, ![1024, 512]⟩

abbrev nBuf : Space → Nat
  | .hbm => 8
  | .vmem => 14
  | .smem => 0
  | _ => 0

abbrev bufTy : (tb : Table) → Fin (tcTables nBuf tb) → BufTy
  | .hbm, ⟨0, _⟩ => ⟨S16384x4096, .bf16⟩
  | .hbm, ⟨1, _⟩ => ⟨S16384x2048, .bf16⟩
  | .hbm, ⟨2, _⟩ => ⟨S16384x24576, .bf16⟩
  | .hbm, ⟨3, _⟩ => ⟨S4096x2048, .f32⟩
  | .hbm, ⟨4, _⟩ => ⟨S2048x2048, .f32⟩
  | .hbm, ⟨5, _⟩ => ⟨S4096x2048, .bf16⟩
  | .hbm, ⟨6, _⟩ => ⟨S2048x2048, .bf16⟩
  | .hbm, ⟨7, _⟩ => ⟨S16384x2048, .bf16⟩
  | .local _ .vmem, ⟨0, _⟩ => ⟨S1024x4096, .bf16⟩
  | .local _ .vmem, ⟨1, _⟩ => ⟨S1024x4096, .bf16⟩
  | .local _ .vmem, ⟨2, _⟩ => ⟨S1024x2048, .bf16⟩
  | .local _ .vmem, ⟨3, _⟩ => ⟨S1024x2048, .bf16⟩
  | .local _ .vmem, ⟨4, _⟩ => ⟨S4096x512, .bf16⟩
  | .local _ .vmem, ⟨5, _⟩ => ⟨S4096x512, .bf16⟩
  | .local _ .vmem, ⟨6, _⟩ => ⟨S2048x512, .bf16⟩
  | .local _ .vmem, ⟨7, _⟩ => ⟨S2048x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c44_i32 : BitVec 32 := 44#32
  let v0 : BitVec 32 := Scalar.addi c44_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference2Ideal.lean ====
abbrev S16384x4096 : Shape := ⟨2, ![16384, 4096]⟩
abbrev S16384x2048 : Shape := ⟨2, ![16384, 2048]⟩
abbrev S16384x24576 : Shape := ⟨2, ![16384, 24576]⟩
abbrev S4096x2048 : Shape := ⟨2, ![4096, 2048]⟩
abbrev S2048x2048 : Shape := ⟨2, ![2048, 2048]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S16384x2048, .bf16⟩
  | .hbm, ⟨2, _⟩ => ⟨S16384x24576, .bf16⟩
  | .hbm, ⟨3, _⟩ => ⟨S4096x2048, .f32⟩
  | .hbm, ⟨4, _⟩ => ⟨S2048x2048, .f32⟩
  | .hbm, ⟨5, _⟩ => ⟨S16384x2048, .bf16⟩
  | .hbm, ⟨6, _⟩ => ⟨S16384x2048, .f32⟩
  | .hbm, ⟨7, _⟩ => ⟨S16384x2048, .bf16⟩
  | .hbm, ⟨8, _⟩ => ⟨S16384x2048, .f32⟩
  | .hbm, ⟨9, _⟩ => ⟨S16384x4096, .f32⟩
  | .hbm, ⟨10, _⟩ => ⟨S16384x2048, .f32⟩
  | .hbm, ⟨11, _⟩ => ⟨S16384x2048, .f32⟩
  | .hbm, ⟨12, _⟩ => ⟨S16384x2048, .f32⟩
  | .hbm, ⟨13, _⟩ => ⟨S16384x2048, .f32⟩
  | .hbm, ⟨14, _⟩ => ⟨S16384x2048, .f32⟩
  | .hbm, ⟨15, _⟩ => ⟨S_, .f32⟩
  | .hbm, ⟨16, _⟩ => ⟨S16384x2048, .f32⟩
  | .hbm, ⟨17, _⟩ => ⟨S16384x2048, .f32⟩
  | .hbm, ⟨18, _⟩ => ⟨S_, .f32⟩
  | .hbm, ⟨19, _⟩ => ⟨S16384x2048, .f32⟩
  | .hbm, ⟨20, _⟩ => ⟨S16384x2048, .f32⟩
  | .hbm, ⟨21, _⟩ => ⟨S16384x2048, .f32⟩
  | .hbm, ⟨22, _⟩ => ⟨S16384x2048, .f32⟩
  | .hbm, ⟨23, _⟩ => ⟨S16384x2048, .f32⟩
  | .hbm, ⟨24, _⟩ => ⟨S_, .f32⟩
  | .hbm, ⟨25, _⟩ => ⟨S16384x2048, .f32⟩
  | .hbm, ⟨26, _⟩ => ⟨S16384x2048, .f32⟩
  | .hbm, ⟨27, _⟩ => ⟨S_, .f32⟩
  | .hbm, ⟨28, _⟩ => ⟨S16384x2048, .f32⟩
  | .hbm, ⟨29, _⟩ => ⟨S16384x2048, .f32⟩
  | .hbm, ⟨30, _⟩ => ⟨S16384x2048, .f32⟩
  | .hbm, ⟨31, _⟩ => ⟨S16384x2048, .f32⟩
  | .hbm, ⟨32, _⟩ => ⟨S16384x2048, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Kernel3.lean ====
abbrev S16384x2048 : Shape := ⟨2, ![16384, 2048]⟩
abbrev S2048x2048 : Shape := ⟨2, ![2048, 2048]⟩
abbrev S2x8192x2048 : Shape := ⟨3, ![2, 8192, 2048]⟩
abbrev S2x6144 : Shape := ⟨2, ![2, 6144]⟩
abbrev S2048 : Shape := ⟨1, ![2048]⟩
abbrev S2x1x6144 : Shape := ⟨3, ![2, 1, 6144]⟩
abbrev S1x2048 : Shape := ⟨2, ![1, 2048]⟩
abbrev S512x2048 : Shape := ⟨2, ![512, 2048]⟩
abbrev S1x1x6144 : Shape := ⟨3, ![1, 1, 6144]⟩
abbrev S1x1x2048 : Shape := ⟨3, ![1, 1, 2048]⟩
abbrev S512 : Shape := ⟨1, ![512]⟩
abbrev S512x1 : Shape := ⟨2, ![512, 1]⟩

abbrev nBuf : Space → Nat
  | .hbm => 10
  | .vmem => 10
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S2x8192x2048, .f32⟩
  | .hbm, ⟨3, _⟩ => ⟨S2x6144, .f32⟩
  | .hbm, ⟨4, _⟩ => ⟨S2048, .f32⟩
  | .hbm, ⟨5, _⟩ => ⟨S2048x2048, .bf16⟩
  | .hbm, ⟨6, _⟩ => ⟨S16384x2048, .f32⟩
  | .hbm, ⟨7, _⟩ => ⟨S2x1x6144, .f32⟩
  | .hbm, ⟨8, _⟩ => ⟨S1x2048, .f32⟩
  | .hbm, ⟨9, _⟩ => ⟨S16384x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x1x6144, .f32⟩
  | .local _ .vmem, ⟨6, _⟩ => ⟨S1x1x6144, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x6144 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S16384x2048 : Shape := ⟨2, ![16384, 2048]⟩
abbrev S2048x2048 : Shape := ⟨2, ![2048, 2048]⟩
abbrev S2x8192x2048 : Shape := ⟨3, ![2, 8192, 2048]⟩
abbrev S2x6144 : Shape := ⟨2, ![2, 6144]⟩
abbrev S2048 : Shape := ⟨1, ![2048]⟩
abbrev S2x2048 : Shape := ⟨2, ![2, 2048]⟩
abbrev S2x1x2048 : Shape := ⟨3, ![2, 1, 2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩

abbrev nBuf : Space → Nat
  | .hbm => 32
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S2x8192x2048, .f32⟩
  | .hbm, ⟨3, _⟩ => ⟨S2x6144, .f32⟩
  | .hbm, ⟨4, _⟩ => ⟨S2048, .f32⟩
  | .hbm, ⟨5, _⟩ => ⟨S2x2048, .f32⟩
  | .hbm, ⟨6, _⟩ => ⟨S2x2048, .f32⟩
  | .hbm, ⟨7, _⟩ => ⟨S2x2048, .f32⟩
  | .hbm, ⟨8, _⟩ => ⟨S16384x2048, .f32⟩
  | .hbm, ⟨9, _⟩ => ⟨S2x8192x2048, .f32⟩
  | .hbm, ⟨10, _⟩ => ⟨S2x8192x2048, .f32⟩
  | .hbm, ⟨11, _⟩ => ⟨S2x1x2048, .f32⟩
  | .hbm, ⟨12, _⟩ => ⟨S2x8192x2048, .f32⟩
  | .hbm, ⟨13, _⟩ => ⟨S_, .f32⟩
  | .hbm, ⟨14, _⟩ => ⟨S2x8192, .f32⟩
  | .hbm, ⟨15, _⟩ => ⟨S2x8192x1, .f32⟩
  | .hbm, ⟨16, _⟩ => ⟨S_, .f32⟩
  | .hbm, ⟨17, _⟩ => ⟨S2x8192x1, .f32⟩
  | .hbm, ⟨18, _⟩ => ⟨S2x8192x1, .f32⟩
  | .hbm, ⟨19, _⟩ => ⟨S_, .f32⟩
  | .hbm, ⟨20, _⟩ => ⟨S2x8192x1, .f32⟩
  | .hbm, ⟨21, _⟩ => ⟨S2x8192x1, .f32⟩
  | .hbm, ⟨22, _⟩ => ⟨S2x8192x1, .f32⟩
  | .hbm, ⟨23, _⟩ => ⟨S2x8192x2048, .f32⟩
  | .hbm, ⟨24, _⟩ => ⟨S2x8192x2048, .f32⟩
  | .hbm, ⟨25, _⟩ => ⟨S1x1x2048, .f32⟩
  | .hbm, ⟨26, _⟩ => ⟨S2x8192x2048, .f32⟩
  | .hbm, ⟨27, _⟩ => ⟨S2x8192x2048, .f32⟩
  | .hbm, ⟨28, _⟩ => ⟨S2x8192x2048, .f32⟩
  | .hbm, ⟨29, _⟩ => ⟨S2x8192x2048, .f32⟩
  | .hbm, ⟨30, _⟩ => ⟨S2x8192x2048, .f32⟩
  | .hbm, ⟨31, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Kernel4.lean ====
abbrev S16384x2048 : Shape := ⟨2, ![16384, 2048]⟩
abbrev S2x1x6144 : Shape := ⟨3, ![2, 1, 6144]⟩
abbrev S1x2048 : Shape := ⟨2, ![1, 2048]⟩
abbrev S24656x2048 : Shape := ⟨2, ![24656, 2048]⟩
abbrev S8x24576 : Shape := ⟨2, ![8, 24576]⟩
abbrev S16384x24576 : Shape := ⟨2, ![16384, 24576]⟩
abbrev S1024x2048 : Shape := ⟨2, ![1024, 2048]⟩
abbrev S1x1x6144 : Shape := ⟨3, ![1, 1, 6144]⟩
abbrev S8x1024 : Shape := ⟨2, ![8, 1024]⟩
abbrev S1024x1024 : Shape := ⟨2, ![1024, 1024]⟩
abbrev S24x24x1024 : Shape := ⟨3, ![24, 24, 1024]⟩
abbrev S8x256x128 : Shape := ⟨3, ![8, 256, 128]⟩
abbrev S16x64x128 : Shape := ⟨3, ![16, 64, 128]⟩
abbrev S64x2048 : Shape := ⟨2, ![64, 2048]⟩
abbrev S64 : Shape := ⟨1, ![64]⟩
abbrev S64x1 : Shape := ⟨2, ![64, 1]⟩
abbrev S1x1x2048 : Shape := ⟨3, ![1, 1, 2048]⟩
abbrev S64x128 : Shape := ⟨2, ![64, 128]⟩
abbrev S1x64x128 : Shape := ⟨3, ![1, 64, 128]⟩
abbrev S1x8x128 : Shape := ⟨3, ![1, 8, 128]⟩
abbrev S8x128 : Shape := ⟨2, ![8, 128]⟩
abbrev S8x2048 : Shape := ⟨2, ![8, 2048]⟩
abbrev S16x2048 : Shape := ⟨2, ![16, 2048]⟩
abbrev S256x2048 : Shape := ⟨2, ![256, 2048]⟩
abbrev S256x1024 : Shape := ⟨2, ![256, 1024]⟩
abbrev S24x1024 : Shape := ⟨2, ![24, 1024]⟩
abbrev S1x24x1024 : Shape := ⟨3, ![1, 24, 1024]⟩
abbrev S1x8x1024 : Shape := ⟨3, ![1, 8, 1024]⟩
abbrev S1x1024 : Shape := ⟨2, ![1, 1024]⟩
abbrev S8 : Shape := ⟨1, ![8]⟩
abbrev S8x1 : Shape := ⟨2, ![8, 1]⟩
abbrev S1x256x128 : Shape := ⟨3, ![1, 256, 128]⟩
abbrev S256x128 : Shape := ⟨2, ![256, 128]⟩
abbrev S16384x4096 : Shape := ⟨2, ![16384, 4096]⟩
abbrev S16384x8192 : Shape := ⟨2, ![16384, 8192]⟩

abbrev nBuf : Space → Nat
  | .hbm => 9
  | .vmem => 16
  | .smem => 0
  | _ => 0

abbrev bufTy : (tb : Table) → Fin (tcTables nBuf tb) → BufTy
  | .hbm, ⟨0, _⟩ => ⟨S16384x2048, .f32⟩
  | .hbm, ⟨1, _⟩ => ⟨S2x1x6144, .f32⟩
  | .hbm, ⟨2, _⟩ => ⟨S1x2048, .f32⟩
  | .hbm, ⟨3, _⟩ => ⟨S24656x2048, .f32⟩
  | .hbm, ⟨4, _⟩ => ⟨S8x24576, .f32⟩
  | .hbm, ⟨5, _⟩ => ⟨S16384x24576, .bf16⟩
  | .hbm, ⟨6, _⟩ => ⟨S16384x4096, .bf16⟩
  | .hbm, ⟨7, _⟩ => ⟨S16384x2048, .bf16⟩
  | .hbm, ⟨8, _⟩ => ⟨S16384x8192, .bf16⟩
  | .local _ .vmem, ⟨0, _⟩ => ⟨S1024x2048, .f32⟩
  | .local _ .vmem, ⟨1, _⟩ => ⟨S1024x2048, .f32⟩
  | .local _ .vmem, ⟨2, _⟩ => ⟨S1x1x6144, .f32⟩
  | .local _ .vmem, ⟨3, _⟩ => ⟨S1x1x6144, .f32⟩
  | .local _ .vmem, ⟨4, _⟩ => ⟨S1x2048, .f32⟩
  | .local _ .vmem, ⟨5, _⟩ => ⟨S1024x2048, .f32⟩
  | .local _ .vmem, ⟨6, _⟩ => ⟨S1024x2048, .f32⟩
  | .local _ .vmem, ⟨7, _⟩ => ⟨S8x1024, .f32⟩
  | .local _ .vmem, ⟨8, _⟩ => ⟨S8x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x2048, .bf16⟩
  | .local _ .vmem, ⟨12, _⟩ => ⟨S1024x2048, .bf16⟩
  | .local _ .vmem, ⟨13, _⟩ => ⟨S24x24x1024, .f32⟩
  | .local _ .vmem, ⟨14, _⟩ => ⟨S8x256x128, .f32⟩
  | .local _ .vmem, ⟨15, _⟩ => ⟨S16x64x128, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 24], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_7 : BitVec 32 := 0#32
  let c16_i32 : BitVec 32 := 16#32
  let v22 : BitVec 32 := Scalar.addi c0_i32_7 c16_i32
  let c1_i32 : BitVec 32 := 1#32
  ⟨c0_i32_7, v22, c1_i32⟩
def k0_mult1 (k0_t1 : Fin k0_t1_loop.trips) : BitVec 32 :=
  let c0_i32_7 : BitVec 32 := 0#32
  let c1_i32 : BitVec 32 := 1#32
  let arg13 : BitVec 32 := Scf.iv c0_i32_7 c1_i32 k0_t1
  let c64_i32 : BitVec 32 := 64#32
  let v23 : BitVec 32 := Scalar.muli arg13 c64_i32
  v23
def k0_off1 (k0_t1 : Fin k0_t1_loop.trips) : Fin 2 → Nat :=
  let c0_i32_7 : BitVec 32 := 0#32
  let c1_i32 : BitVec 32 := 1#32
  let arg13 : BitVec 32 := Scf.iv c0_i32_7 c1_i32 k0_t1
  let c64_i32 : BitVec 32 := 64#32
  let v23 : BitVec 32 := Scalar.muli arg13 c64_i32
  let v24 : BitVec 32 := v23
  let v25 : Index := Scalar.indexCast v24
  let c0 : Index := 0#32
  ![v25.toNat, 0]
def k0_off2 (k0_t1 : Fin k0_t1_loop.trips) (c0_i32_150 : BitVec 32) : Fin 2 → Nat :=
  let c0_i32_7 : BitVec 32 := 0#32
  let c1_i32 : BitVec 32 := 1#32
  let arg13 : BitVec 32 := Scf.iv c0_i32_7 c1_i32 k0_t1
  let c64_i32 : BitVec 32 := 64#32
  let v23 : BitVec 32 := Scalar.muli arg13 c64_i32
  let v24 : BitVec 32 := v23
  let v187 : BitVec 32 := Scalar.addi v24 c0_i32_150
  let v188 : Index := Scalar.indexCast v187
  let c0_151 : Index := 0#32
  ![v188.toNat, 0]
def k0_cond3 (i : grid0.Coords) : BitVec 1 :=
  let arg1 : BitVec 32 := BitVec.ofNat 32 (i 1).val
  let c4_i32 : BitVec 32 := 4#32
  let v13 : BitVec 1 := Scalar.cmpi .slt arg1 c4_i32
  let v16 : BitVec 32 := Scalar.extui v13
  let c0_i32_4 : BitVec 32 := 0#32
  let v17 : BitVec 1 := Scalar.cmpi .ne v16 c0_i32_4
  v17

def k0_cond4 (i : grid0.Coords) : BitVec 1 :=
  let arg0 : BitVec 32 := BitVec.ofNat 32 (i 0).val
  let c8_i32_7 : BitVec 32 := 8#32
  let c0_i32_8 : BitVec 32 := 0#32
  let v22 : BitVec 1 := Scalar.cmpi .eq c8_i32_7 c0_i32_8
  let c1_i32 : BitVec 32 := 1#32
  let v23 : BitVec 32 := Scalar.select v22 c1_i32 c8_i32_7
  let v24 : BitVec 32 := Scalar.remsi arg0 v23
  let c0_i32_10 : BitVec 32 := 0#32
  let v26 : BitVec 1 := Scalar.cmpi .slt v24 c0_i32_10
  let c0_i32_11 : BitVec 32 := 0#32
  let v27 : BitVec 1 := Scalar.cmpi .slt v23 c0_i32_11
  let v28 : BitVec 1 := Scalar.xori v26 v27
  let c0_i32_9 : BitVec 32 := 0#32
  let v25 : BitVec 1 := Scalar.cmpi .ne v24 c0_i32_9
  let v29 : BitVec 1 := Scalar.andi v28 v25
  let v30 : BitVec 32 := Scalar.addi v24 v23
  let v31 : BitVec 32 := Scalar.select v29 v30 v24
  let c0_i32_12 : BitVec 32 := 0#32
  let v32 : BitVec 1 := Scalar.cmpi .eq v31 c0_i32_12
  let v33 : BitVec 32 := Scalar.extui v32
  let c0_i32_13 : BitVec 32 := 0#32
  let v34 : BitVec 1 := Scalar.cmpi .ne v33 c0_i32_13
  v34

def k0_off3 (i : grid0.Coords) : Fin 3 → Nat :=
  let arg1 : BitVec 32 := BitVec.ofNat 32 (i 1).val
  let v17065 : Index := Scalar.indexCast arg1
  let c0_5337 : Index := 0#32
  let c0_5338 : Index := 0#32
  ![v17065.toNat, 0, 0]
def k0_off4 (i : grid0.Coords) : Fin 3 → Nat :=
  let arg1 : BitVec 32 := BitVec.ofNat 32 (i 1).val
  let v39 : Index := Scalar.indexCast arg1
  let c0_16 : Index := 0#32
  let c0_17 : Index := 0#32
  ![v39.toNat, 0, 0]
def k0_off5 (i : grid0.Coords) : Fin 3 → Nat :=
  let arg1 : BitVec 32 := BitVec.ofNat 32 (i 1).val
  let v43 : Index := Scalar.indexCast arg1
  let c8 : Index := 8#32
  let c0_19 : Index := 0#32
  ![v43.toNat, 8, 0]
def k0_off6 (i : grid0.Coords) : Fin 3 → Nat :=
  let arg1 : BitVec 32 := BitVec.ofNat 32 (i 1).val
  let v47 : Index := Scalar.indexCast arg1
  let c16 : Index := 16#32
  let c0_21 : Index := 0#32
  ![v47.toNat, 16, 0]
def k0_off7 (i : grid0.Coords) : Fin 3 → Nat :=
  let arg1 : BitVec 32 := BitVec.ofNat 32 (i 1).val
  let v17060 : Index := Scalar.indexCast arg1
  let c0_5334 : Index := 0#32
  let c0_5335 : Index := 0#32
  ![v17060.toNat, 0, 0]
def k0_cond5 (i : grid0.Coords) : BitVec 1 :=
  let arg1 : BitVec 32 := BitVec.ofNat 32 (i 1).val
  let c0_i32_1 : BitVec 32 := 0#32
  let v3 : BitVec 1 := Scalar.cmpi .sge arg1 c0_i32_1
  let c8_i32 : BitVec 32 := 8#32
  let v4 : BitVec 1 := Scalar.cmpi .slt arg1 c8_i32
  let v5 : BitVec 1 := Scalar.andi v3 v4
  let c12_i32 : BitVec 32 := 12#32
  let v6 : BitVec 1 := Scalar.cmpi .sge arg1 c12_i32
  let c14_i32 : BitVec 32 := 14#32
  let v7 : BitVec 1 := Scalar.cmpi .slt arg1 c14_i32
  let v8 : BitVec 1 := Scalar.andi v6 v7
  let v9 : BitVec 1 := Scalar.ori v5 v8
  let c4_i32 : BitVec 32 := 4#32
  let v13 : BitVec 1 := Scalar.cmpi .slt arg1 c4_i32
  let true_5 : BitVec 1 := 1#1
  let v18 : BitVec 1 := Scalar.xori v13 true_5
  let v19 : BitVec 1 := Scalar.andi v9 v18
  let v20 : BitVec 32 := Scalar.extui v19
  let c0_i32_6 : BitVec 32 := 0#32
  let v21 : BitVec 1 := Scalar.cmpi .ne v20 c0_i32_6
  v21

def k0_cond6 (i : grid0.Coords) : BitVec 1 :=
  let arg0 : BitVec 32 := BitVec.ofNat 32 (i 0).val
  let c8_i32_7 : BitVec 32 := 8#32
  let c0_i32_8 : BitVec 32 := 0#32
  let v22 : BitVec 1 := Scalar.cmpi .eq c8_i32_7 c0_i32_8
  let c1_i32 : BitVec 32 := 1#32
  let v23 : BitVec 32 := Scalar.select v22 c1_i32 c8_i32_7
  let v24 : BitVec 32 := Scalar.remsi arg0 v23
  let c0_i32_10 : BitVec 32 := 0#32
  let v26 : BitVec 1 := Scalar.cmpi .slt v24 c0_i32_10
  let c0_i32_11 : BitVec 32 := 0#32
  let v27 : BitVec 1 := Scalar.cmpi .slt v23 c0_i32_11
  let v28 : BitVec 1 := Scalar.xori v26 v27
  let c0_i32_9 : BitVec 32 := 0#32
  let v25 : BitVec 1 := Scalar.cmpi .ne v24 c0_i32_9
  let v29 : BitVec 1 := Scalar.andi v28 v25
  let v30 : BitVec 32 := Scalar.addi v24 v23
  let v31 : BitVec 32 := Scalar.select v29 v30 v24
  let c0_i32_12 : BitVec 32 := 0#32
  let v32 : BitVec 1 := Scalar.cmpi .eq v31 c0_i32_12
  let v33 : BitVec 32 := Scalar.extui v32
  let c0_i32_13 : BitVec 32 := 0#32
  let v34 : BitVec 1 := Scalar.cmpi .ne v33 c0_i32_13
  v34

def k0_off8 (i : grid0.Coords) : Fin 3 → Nat :=
  let arg1 : BitVec 32 := BitVec.ofNat 32 (i 1).val
  let v6825 : Index := Scalar.indexCast arg1
  let c0_3289 : Index := 0#32
  let c0_3290 : Index := 0#32
  ![v6825.toNat, 0, 0]
def k0_off9 (i : grid0.Coords) : Fin 3 → Nat :=
  let arg1 : BitVec 32 := BitVec.ofNat 32 (i 1).val
  let v39 : Index := Scalar.indexCast arg1
  let c0_16 : Index := 0#32
  let c0_17 : Index := 0#32
  ![v39.toNat, 0, 0]
def k0_off10 (i : grid0.Coords) : Fin 3 → Nat :=
  let arg1 : BitVec 32 := BitVec.ofNat 32 (i 1).val
  let v43 : Index := Scalar.indexCast arg1
  let c8 : Index := 8#32
  let c0_19 : Index := 0#32
  ![v43.toNat, 8, 0]
def k0_off11 (i : grid0.Coords) : Fin 3 → Nat :=
  let arg1 : BitVec 32 := BitVec.ofNat 32 (i 1).val
  let v47 : Index := Scalar.indexCast arg1
  let c16 : Index := 16#32
  let c0_21 : Index := 0#32
  ![v47.toNat, 16, 0]
def k0_off12 (i : grid0.Coords) : Fin 3 → Nat :=
  let arg1 : BitVec 32 := BitVec.ofNat 32 (i 1).val
  let v6820 : Index := Scalar.indexCast arg1
  let c0_3286 : Index := 0#32
  let c0_3287 : Index := 0#32
  ![v6820.toNat, 0, 0]
def k0_cond2 (i : grid0.Coords) : BitVec 1 :=
  let arg1 : BitVec 32 := BitVec.ofNat 32 (i 1).val
  let c0_i32_1 : BitVec 32 := 0#32
  let v3 : BitVec 1 := Scalar.cmpi .sge arg1 c0_i32_1
  let c8_i32 : BitVec 32 := 8#32
  let v4 : BitVec 1 := Scalar.cmpi .slt arg1 c8_i32
  let v5 : BitVec 1 := Scalar.andi v3 v4
  let c12_i32 : BitVec 32 := 12#32
  let v6 : BitVec 1 := Scalar.cmpi .sge arg1 c12_i32
  let c14_i32 : BitVec 32 := 14#32
  let v7 : BitVec 1 := Scalar.cmpi .slt arg1 c14_i32
  let v8 : BitVec 1 := Scalar.andi v6 v7
  let v9 : BitVec 1 := Scalar.ori v5 v8
  let v_true : BitVec 1 := 1#1
  let v10 : BitVec 1 := Scalar.xori v9 v_true
  let v11 : BitVec 32 := Scalar.extui v10
  let c0_i32_2 : BitVec 32 := 0#32
  let v12 : BitVec 1 := Scalar.cmpi .ne v11 c0_i32_2
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c8_i32 : BitVec 32 := 8#32
  let v1 : BitVec 1 := Scalar.cmpi .sge arg1 c8_i32
  let v2 : BitVec 32 := Scalar.extui v1
  let c4_i32 : BitVec 32 := 4#32
  let v3 : BitVec 32 := Scalar.muli v2 c4_i32
  let v4 : BitVec 32 := Scalar.addi v0 v3
  let c16_i32 : BitVec 32 := 16#32
  let v5 : BitVec 1 := Scalar.cmpi .sge arg1 c16_i32
  let v6 : BitVec 32 := Scalar.extui v5
  let c1_i32 : BitVec 32 := 1#32
  let v7 : BitVec 32 := Scalar.muli v6 c1_i32
  let v8 : BitVec 32 := Scalar.addi v4 v7
  let c16_i32_0 : BitVec 32 := 16#32
  let v9 : BitVec 32 := Scalar.muli v8 c16_i32_0
  let c0_i32 : BitVec 32 := 0#32
  let c0_i32_1 : BitVec 32 := 0#32
  ![v9.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S16384x2048 : Shape := ⟨2, ![16384, 2048]⟩
abbrev S2x1x6144 : Shape := ⟨3, ![2, 1, 6144]⟩
abbrev S1x2048 : Shape := ⟨2, ![1, 2048]⟩
abbrev S24656x2048 : Shape := ⟨2, ![24656, 2048]⟩
abbrev S8x24576 : Shape := ⟨2, ![8, 24576]⟩
abbrev S2x1x2048 : Shape := ⟨3, ![2, 1, 2048]⟩
abbrev S2x8192x2048 : Shape := ⟨3, ![2, 8192, 2048]⟩
abbrev S2048 : Shape := ⟨1, ![2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S2048x24656 : Shape := ⟨2, ![2048, 24656]⟩
abbrev S16384x24656 : Shape := ⟨2, ![16384, 24656]⟩
abbrev S16384x4096 : Shape := ⟨2, ![16384, 4096]⟩
abbrev S16384x8192 : Shape := ⟨2, ![16384, 8192]⟩

abbrev nBuf : Space → Nat
  | .hbm => 42
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2x1x6144, .f32⟩
  | .hbm, ⟨2, _⟩ => ⟨S1x2048, .f32⟩
  | .hbm, ⟨3, _⟩ => ⟨S24656x2048, .f32⟩
  | .hbm, ⟨4, _⟩ => ⟨S8x24576, .f32⟩
  | .hbm, ⟨5, _⟩ => ⟨S2x1x2048, .f32⟩
  | .hbm, ⟨6, _⟩ => ⟨S2x1x2048, .f32⟩
  | .hbm, ⟨7, _⟩ => ⟨S2x1x2048, .f32⟩
  | .hbm, ⟨8, _⟩ => ⟨S2x8192x2048, .f32⟩
  | .hbm, ⟨9, _⟩ => ⟨S2048, .f32⟩
  | .hbm, ⟨10, _⟩ => ⟨S2x8192x2048, .f32⟩
  | .hbm, ⟨11, _⟩ => ⟨S_, .f32⟩
  | .hbm, ⟨12, _⟩ => ⟨S2x8192, .f32⟩
  | .hbm, ⟨13, _⟩ => ⟨S2x8192x1, .f32⟩
  | .hbm, ⟨14, _⟩ => ⟨S_, .f32⟩
  | .hbm, ⟨15, _⟩ => ⟨S2x8192x1, .f32⟩
  | .hbm, ⟨16, _⟩ => ⟨S2x8192x1, .f32⟩
  | .hbm, ⟨17, _⟩ => ⟨S_, .f32⟩
  | .hbm, ⟨18, _⟩ => ⟨S2x8192x1, .f32⟩
  | .hbm, ⟨19, _⟩ => ⟨S2x8192x1, .f32⟩
  | .hbm, ⟨20, _⟩ => ⟨S2x8192x1, .f32⟩
  | .hbm, ⟨21, _⟩ => ⟨S2x8192x2048, .f32⟩
  | .hbm, ⟨22, _⟩ => ⟨S2x8192x2048, .f32⟩
  | .hbm, ⟨23, _⟩ => ⟨S1x1x2048, .f32⟩
  | .hbm, ⟨24, _⟩ => ⟨S2x8192x2048, .f32⟩
  | .hbm, ⟨25, _⟩ => ⟨S2x8192x2048, .f32⟩
  | .hbm, ⟨26, _⟩ => ⟨S_, .f32⟩
  | .hbm, ⟨27, _⟩ => ⟨S2x1x2048, .f32⟩
  | .hbm, ⟨28, _⟩ => ⟨S2x1x2048, .f32⟩
  | .hbm, ⟨29, _⟩ => ⟨S2x8192x2048, .f32⟩
  | .hbm, ⟨30, _⟩ => ⟨S2x8192x2048, .f32⟩
  | .hbm, ⟨31, _⟩ => ⟨S2x8192x2048, .f32⟩
  | .hbm, ⟨32, _⟩ => ⟨S2x8192x2048, .f32⟩
  | .hbm, ⟨33, _⟩ => ⟨S16384x2048, .f32⟩
  | .hbm, ⟨34, _⟩ => ⟨S2048x24656, .f32⟩
  | .hbm, ⟨35, _⟩ => ⟨S16384x24656, .f32⟩
  | .hbm, ⟨36, _⟩ => ⟨S16384x4096, .f32⟩
  | .hbm, ⟨37, _⟩ => ⟨S16384x4096, .bf16⟩
  | .hbm, ⟨38, _⟩ => ⟨S16384x2048, .f32⟩
  | .hbm, ⟨39, _⟩ => ⟨S16384x2048, .bf16⟩
  | .hbm, ⟨40, _⟩ => ⟨S16384x8192, .f32⟩
  | .hbm, ⟨41, _⟩ => ⟨S16384x8192, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩

abbrev nD : Nat := 1
abbrev τ : Topo := Topo.v7x

variable {F : FTy → Type} [FloatOps F]
-- ==== Kernel5.lean ====
abbrev S8x2048 : Shape := ⟨2, ![8, 2048]⟩
abbrev S2048x6144 : Shape := ⟨2, ![2048, 6144]⟩
abbrev S6144 : Shape := ⟨1, ![6144]⟩
abbrev S1x6144 : Shape := ⟨2, ![1, 6144]⟩
abbrev S8x6144 : Shape := ⟨2, ![8, 6144]⟩
abbrev S2048x512 : Shape := ⟨2, ![2048, 512]⟩
abbrev S1x512 : Shape := ⟨2, ![1, 512]⟩
abbrev S8x512 : Shape := ⟨2, ![8, 512]⟩

abbrev nBuf : Space → Nat
  | .hbm => 5
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S2048x6144, .f32⟩
  | .hbm, ⟨2, _⟩ => ⟨S6144, .f32⟩
  | .hbm, ⟨3, _⟩ => ⟨S1x6144, .f32⟩
  | .hbm, ⟨4, _⟩ => ⟨S8x6144, .f32⟩
  | .local _ .vmem, ⟨0, _⟩ => ⟨S8x2048, .f32⟩
  | .local _ .vmem, ⟨1, _⟩ => ⟨S2048x512, .f32⟩
  | .local _ .vmem, ⟨2, _⟩ => ⟨S2048x512, .f32⟩
  | .local _ .vmem, ⟨3, _⟩ => ⟨S1x512, .f32⟩
  | .local _ .vmem, ⟨4, _⟩ => ⟨S1x512, .f32⟩
  | .local _ .vmem, ⟨5, _⟩ => ⟨S8x512, .f32⟩
  | .local _ .vmem, ⟨6, _⟩ => ⟨S8x512, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S8x2048 : Shape := ⟨2, ![8, 2048]⟩
abbrev S2048x6144 : Shape := ⟨2, ![2048, 6144]⟩
abbrev S6144 : Shape := ⟨1, ![6144]⟩
abbrev S_ : Shape := ⟨0, ![]⟩
abbrev S8x6144 : Shape := ⟨2, ![8, 6144]⟩
abbrev S1x6144 : Shape := ⟨2, ![1, 6144]⟩

abbrev nBuf : Space → Nat
  | .hbm => 16
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S2048x6144, .f32⟩
  | .hbm, ⟨2, _⟩ => ⟨S6144, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S8x6144, .f32⟩
  | .hbm, ⟨13, _⟩ => ⟨S1x6144, .f32⟩
  | .hbm, ⟨14, _⟩ => ⟨S8x6144, .f32⟩
  | .hbm, ⟨15, _⟩ => ⟨S8x6144, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Kernel6.lean ====
abbrev S16384x2048 : Shape := ⟨2, ![16384, 2048]⟩
abbrev S2x1x6144 : Shape := ⟨3, ![2, 1, 6144]⟩
abbrev S1x2048 : Shape := ⟨2, ![1, 2048]⟩
abbrev S2048x256 : Shape := ⟨2, ![2048, 256]⟩
abbrev S2x128 : Shape := ⟨2, ![2, 128]⟩
abbrev S1x128 : Shape := ⟨2, ![1, 128]⟩
abbrev S16384x128 : Shape := ⟨2, ![16384, 128]⟩
abbrev S2x128x8192 : Shape := ⟨3, ![2, 128, 8192]⟩
abbrev S512x2048 : Shape := ⟨2, ![512, 2048]⟩
abbrev S1x1x6144 : Shape := ⟨3, ![1, 1, 6144]⟩
abbrev S512x128 : Shape := ⟨2, ![512, 128]⟩
abbrev S1x128x512 : Shape := ⟨3, ![1, 128, 512]⟩
abbrev S8x128 : Shape := ⟨2, ![8, 128]⟩
abbrev S512 : Shape := ⟨1, ![512]⟩
abbrev S512x1 : Shape := ⟨2, ![512, 1]⟩
abbrev S1x1x2048 : Shape := ⟨3, ![1, 1, 2048]⟩
abbrev S512x256 : Shape := ⟨2, ![512, 256]⟩
abbrev S512x512 : Shape := ⟨2, ![512, 512]⟩
abbrev S64x128 : Shape := ⟨2, ![64, 128]⟩
abbrev S128 : Shape := ⟨1, ![128]⟩
abbrev S128x512 : Shape := ⟨2, ![128, 512]⟩

abbrev nBuf : Space → Nat
  | .hbm => 14
  | .vmem => 18
  | .smem => 0
  | _ => 0

abbrev bufTy : (tb : Table) → Fin (tcTables nBuf tb) → BufTy
  | .hbm, ⟨0, _⟩ => ⟨S16384x2048, .f32⟩
  | .hbm, ⟨1, _⟩ => ⟨S2x1x6144, .f32⟩
  | .hbm, ⟨2, _⟩ => ⟨S1x2048, .f32⟩
  | .hbm, ⟨3, _⟩ => ⟨S2048x256, .f32⟩
  | .hbm, ⟨4, _⟩ => ⟨S2x128, .f32⟩
  | .hbm, ⟨5, _⟩ => ⟨S1x128, .f32⟩
  | .hbm, ⟨6, _⟩ => ⟨S2048x256, .bf16⟩
  | .hbm, ⟨7, _⟩ => ⟨S2048x256, .f32⟩
  | .hbm, ⟨8, _⟩ => ⟨S2048x256, .f32⟩
  | .hbm, ⟨9, _⟩ => ⟨S2048x256, .bf16⟩
  | .hbm, ⟨10, _⟩ => ⟨S16384x128, .f32⟩
  | .hbm, ⟨11, _⟩ => ⟨S2x128x8192, .f32⟩
  | .hbm, ⟨12, _⟩ => ⟨S16384x128, .f32⟩
  | .hbm, ⟨13, _⟩ => ⟨S2x128x8192, .f32⟩
  | .local _ .vmem, ⟨0, _⟩ => ⟨S512x2048, .f32⟩
  | .local _ .vmem, ⟨1, _⟩ => ⟨S512x2048, .f32⟩
  | .local _ .vmem, ⟨2, _⟩ => ⟨S1x1x6144, .f32⟩
  | .local _ .vmem, ⟨3, _⟩ => ⟨S1x1x6144, .f32⟩
  | .local _ .vmem, ⟨4, _⟩ => ⟨S1x2048, .f32⟩
  | .local _ .vmem, ⟨5, _⟩ => ⟨S2048x256, .bf16⟩
  | .local _ .vmem, ⟨6, _⟩ => ⟨S2048x256, .bf16⟩
  | .local _ .vmem, ⟨7, _⟩ => ⟨S2x128, .f32⟩
  | .local _ .vmem, ⟨8, _⟩ => ⟨S1x128, .f32⟩
  | .local _ .vmem, ⟨9, _⟩ => ⟨S512x128, .f32⟩
  | .local _ .vmem, ⟨10, _⟩ => ⟨S512x128, .f32⟩
  | .local _ .vmem, ⟨11, _⟩ => ⟨S1x128x512, .f32⟩
  | .local _ .vmem, ⟨12, _⟩ => ⟨S1x128x512, .f32⟩
  | .local _ .vmem, ⟨13, _⟩ => ⟨S512x128, .f32⟩
  | .local _ .vmem, ⟨14, _⟩ => ⟨S512x128, .f32⟩
  | .local _ .vmem, ⟨15, _⟩ => ⟨S1x128x512, .f32⟩
  | .local _ .vmem, ⟨16, _⟩ => ⟨S1x128x512, .f32⟩
  | .local _ .vmem, ⟨17, _⟩ => ⟨S8x128, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference6Ideal.lean ====
abbrev S16384x2048 : Shape := ⟨2, ![16384, 2048]⟩
abbrev S2x1x6144 : Shape := ⟨3, ![2, 1, 6144]⟩
abbrev S1x2048 : Shape := ⟨2, ![1, 2048]⟩
abbrev S2048x256 : Shape := ⟨2, ![2048, 256]⟩
abbrev S2x128 : Shape := ⟨2, ![2, 128]⟩
abbrev S1x128 : Shape := ⟨2, ![1, 128]⟩
abbrev S2x1x2048 : Shape := ⟨3, ![2, 1, 2048]⟩
abbrev S2x8192x2048 : Shape := ⟨3, ![2, 8192, 2048]⟩
abbrev S2048 : Shape := ⟨1, ![2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S16384x256 : Shape := ⟨2, ![16384, 256]⟩
abbrev S16384x128 : Shape := ⟨2, ![16384, 128]⟩
abbrev S128 : Shape := ⟨1, ![128]⟩
abbrev S256x64x128 : Shape := ⟨3, ![256, 64, 128]⟩
abbrev S64x64 : Shape := ⟨2, ![64, 64]⟩
abbrev S64x64x1 : Shape := ⟨3, ![64, 64, 1]⟩
abbrev S256x1x64x128 : Shape := ⟨4, ![256, 1, 64, 128]⟩
abbrev S256x64x64x128 : Shape := ⟨4, ![256, 64, 64, 128]⟩
abbrev S256x128 : Shape := ⟨2, ![256, 128]⟩
abbrev S256x1x128 : Shape := ⟨3, ![256, 1, 128]⟩
abbrev S2x8192x128 : Shape := ⟨3, ![2, 8192, 128]⟩
abbrev S2x128x8192 : Shape := ⟨3, ![2, 128, 8192]⟩

abbrev nBuf : Space → Nat
  | .hbm => 123
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2x1x6144, .f32⟩
  | .hbm, ⟨2, _⟩ => ⟨S1x2048, .f32⟩
  | .hbm, ⟨3, _⟩ => ⟨S2048x256, .f32⟩
  | .hbm, ⟨4, _⟩ => ⟨S2x128, .f32⟩
  | .hbm, ⟨5, _⟩ => ⟨S1x128, .f32⟩
  | .hbm, ⟨6, _⟩ => ⟨S2x1x2048, .f32⟩
  | .hbm, ⟨7, _⟩ => ⟨S2x1x2048, .f32⟩
  | .hbm, ⟨8, _⟩ => ⟨S2x1x2048, .f32⟩
  | .hbm, ⟨9, _⟩ => ⟨S2x8192x2048, .f32⟩
  | .hbm, ⟨10, _⟩ => ⟨S2048, .f32⟩
  | .hbm, ⟨11, _⟩ => ⟨S2x8192x2048, .f32⟩
  | .hbm, ⟨12, _⟩ => ⟨S_, .f32⟩
  | .hbm, ⟨13, _⟩ => ⟨S2x8192, .f32⟩
  | .hbm, ⟨14, _⟩ => ⟨S2x8192x1, .f32⟩
  | .hbm, ⟨15, _⟩ => ⟨S_, .f32⟩
  | .hbm, ⟨16, _⟩ => ⟨S2x8192x1, .f32⟩
  | .hbm, ⟨17, _⟩ => ⟨S2x8192x1, .f32⟩
  | .hbm, ⟨18, _⟩ => ⟨S_, .f32⟩
  | .hbm, ⟨19, _⟩ => ⟨S2x8192x1, .f32⟩
  | .hbm, ⟨20, _⟩ => ⟨S2x8192x1, .f32⟩
  | .hbm, ⟨21, _⟩ => ⟨S2x8192x1, .f32⟩
  | .hbm, ⟨22, _⟩ => ⟨S2x8192x2048, .f32⟩
  | .hbm, ⟨23, _⟩ => ⟨S2x8192x2048, .f32⟩
  | .hbm, ⟨24, _⟩ => ⟨S1x1x2048, .f32⟩
  | .hbm, ⟨25, _⟩ => ⟨S2x8192x2048, .f32⟩
  | .hbm, ⟨26, _⟩ => ⟨S2x8192x2048, .f32⟩
  | .hbm, ⟨27, _⟩ => ⟨S_, .f32⟩
  | .hbm, ⟨28, _⟩ => ⟨S2x1x2048, .f32⟩
  | .hbm, ⟨29, _⟩ => ⟨S2x1x2048, .f32⟩
  | .hbm, ⟨30, _⟩ => ⟨S2x8192x2048, .f32⟩
  | .hbm, ⟨31, _⟩ => ⟨S2x8192x2048, .f32⟩
  | .hbm, ⟨32, _⟩ => ⟨S2x8192x2048, .f32⟩
  | .hbm, ⟨33, _⟩ => ⟨S2x8192x2048, .f32⟩
  | .hbm, ⟨34, _⟩ => ⟨S16384x2048, .f32⟩
  | .hbm, ⟨35, _⟩ => ⟨S16384x256, .f32⟩
  | .hbm, ⟨36, _⟩ => ⟨S16384x128, .f32⟩
  | .hbm, ⟨37, _⟩ => ⟨S1x128, .f32⟩
  | .hbm, ⟨38, _⟩ => ⟨S128, .f32⟩
  | .hbm, ⟨39, _⟩ => ⟨S128, .f32⟩
  | .hbm, ⟨40, _⟩ => ⟨S128, .f32⟩
  | .hbm, ⟨41, _⟩ => ⟨S1x128, .f32⟩
  | .hbm, ⟨42, _⟩ => ⟨S128, .f32⟩
  | .hbm, ⟨43, _⟩ => ⟨S1x128, .f32⟩
  | .hbm, ⟨44, _⟩ => ⟨S16384x128, .f32⟩
  | .hbm, ⟨45, _⟩ => ⟨S16384x128, .f32⟩
  | .hbm, ⟨46, _⟩ => ⟨S_, .f32⟩
  | .hbm, ⟨47, _⟩ => ⟨S16384x128, .f32⟩
  | .hbm, ⟨48, _⟩ => ⟨S16384x128, .f32⟩
  | .hbm, ⟨49, _⟩ => ⟨S16384x128, .f32⟩
  | .hbm, ⟨50, _⟩ => ⟨S16384x128, .f32⟩
  | .hbm, ⟨51, _⟩ => ⟨S16384x128, .i1⟩
  | .hbm, ⟨52, _⟩ => ⟨S16384x128, .f32⟩
  | .hbm, ⟨53, _⟩ => ⟨S16384x128, .f32⟩
  | .hbm, ⟨54, _⟩ => ⟨S16384x128, .f32⟩
  | .hbm, ⟨55, _⟩ => ⟨S16384x128, .f32⟩
  | .hbm, ⟨56, _⟩ => ⟨S16384x128, .f32⟩
  | .hbm, ⟨57, _⟩ => ⟨S16384x128, .f32⟩
  | .hbm, ⟨58, _⟩ => ⟨S16384x128, .f32⟩
  | .hbm, ⟨59, _⟩ => ⟨S16384x128, .f32⟩
  | .hbm, ⟨60, _⟩ => ⟨S1x128, .f32⟩
  | .hbm, ⟨61, _⟩ => ⟨S16384x128, .f32⟩
  | .hbm, ⟨62, _⟩ => ⟨S16384x128, .f32⟩
  | .hbm, ⟨63, _⟩ => ⟨S256x64x128, .f32⟩
  | .hbm, ⟨64, _⟩ => ⟨S_, .i1⟩
  | .hbm, ⟨65, _⟩ => ⟨S64x64, .i1⟩
  | .hbm, ⟨66, _⟩ => ⟨S64x64, .i32⟩
  | .hbm, ⟨67, _⟩ => ⟨S_, .i32⟩
  | .hbm, ⟨68, _⟩ => ⟨S64x64, .i32⟩
  | .hbm, ⟨69, _⟩ => ⟨S64x64, .i32⟩
  | .hbm, ⟨70, _⟩ => ⟨S64x64, .i32⟩
  | .hbm, ⟨71, _⟩ => ⟨S64x64, .i1⟩
  | .hbm, ⟨72, _⟩ => ⟨S_, .i1⟩
  | .hbm, ⟨73, _⟩ => ⟨S64x64, .i1⟩
  | .hbm, ⟨74, _⟩ => ⟨S64x64, .i1⟩
  | .hbm, ⟨75, _⟩ => ⟨S64x64x1, .i1⟩
  | .hbm, ⟨76, _⟩ => ⟨S256x1x64x128, .f32⟩
  | .hbm, ⟨77, _⟩ => ⟨S_, .f32⟩
  | .hbm, ⟨78, _⟩ => ⟨S_, .f32⟩
  | .hbm, ⟨79, _⟩ => ⟨S256x64x64x128, .i1⟩
  | .hbm, ⟨80, _⟩ => ⟨S256x64x64x128, .f32⟩
  | .hbm, ⟨81, _⟩ => ⟨S256x64x64x128, .f32⟩
  | .hbm, ⟨82, _⟩ => ⟨S256x64x64x128, .f32⟩
  | .hbm, ⟨83, _⟩ => ⟨S_, .f32⟩
  | .hbm, ⟨84, _⟩ => ⟨S256x64x128, .f32⟩
  | .hbm, ⟨85, _⟩ => ⟨S_, .f32⟩
  | .hbm, ⟨86, _⟩ => ⟨S256x128, .f32⟩
  | .hbm, ⟨87, _⟩ => ⟨S256x1x128, .f32⟩
  | .hbm, ⟨88, _⟩ => ⟨S256x64x128, .f32⟩
  | .hbm, ⟨89, _⟩ => ⟨S128, .i32⟩
  | .hbm, ⟨90, _⟩ => ⟨S_, .i32⟩
  | .hbm, ⟨91, _⟩ => ⟨S128, .i32⟩
  | .hbm, ⟨92, _⟩ => ⟨S128, .i32⟩
  | .hbm, ⟨93, _⟩ => ⟨S_, .i32⟩
  | .hbm, ⟨94, _⟩ => ⟨S128, .i32⟩
  | .hbm, ⟨95, _⟩ => ⟨S128, .i1⟩
  | .hbm, ⟨96, _⟩ => ⟨S16384x128, .f32⟩
  | .hbm, ⟨97, _⟩ => ⟨S_, .i32⟩
  | .hbm, ⟨98, _⟩ => ⟨S128, .i32⟩
  | .hbm, ⟨99, _⟩ => ⟨S128, .i1⟩
  | .hbm, ⟨100, _⟩ => ⟨S16384x128, .f32⟩
  | .hbm, ⟨101, _⟩ => ⟨S16384x128, .f32⟩
  | .hbm, ⟨102, _⟩ => ⟨S_, .f32⟩
  | .hbm, ⟨103, _⟩ => ⟨S16384x128, .f32⟩
  | .hbm, ⟨104, _⟩ => ⟨S16384x128, .f32⟩
  | .hbm, ⟨105, _⟩ => ⟨S_, .f32⟩
  | .hbm, ⟨106, _⟩ => ⟨S16384x128, .f32⟩
  | .hbm, ⟨107, _⟩ => ⟨S16384x128, .f32⟩
  | .hbm, ⟨108, _⟩ => ⟨S_, .i32⟩
  | .hbm, ⟨109, _⟩ => ⟨S128, .i32⟩
  | .hbm, ⟨110, _⟩ => ⟨S128, .i1⟩
  | .hbm, ⟨111, _⟩ => ⟨S16384x128, .f32⟩
  | .hbm, ⟨112, _⟩ => ⟨S_, .f32⟩
  | .hbm, ⟨113, _⟩ => ⟨S_, .f32⟩
  | .hbm, ⟨114, _⟩ => ⟨S16384x128, .i1⟩
  | .hbm, ⟨115, _⟩ => ⟨S16384x128, .f32⟩
  | .hbm, ⟨116, _⟩ => ⟨S16384x128, .f32⟩
  | .hbm, ⟨117, _⟩ => ⟨S16384x128, .i1⟩
  | .hbm, ⟨118, _⟩ => ⟨S16384x128, .f32⟩
  | .hbm, ⟨119, _⟩ => ⟨S16384x128, .i1⟩
  | .hbm, ⟨120, _⟩ => ⟨S16384x128, .f32⟩
  | .hbm, ⟨121, _⟩ => ⟨S2x8192x128, .f32⟩
  | .hbm, ⟨122, _⟩ => ⟨S2x128x8192, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_call0_cst : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_call0_v5 : Ref sig .tc := ⟨.hbm, 52, rfl⟩
abbrev main_call0_v6 : Ref sig .tc := ⟨.hbm, 53, rfl⟩
abbrev main_call0_v7 : Ref sig .tc := ⟨.hbm, 54, rfl⟩
abbrev main_call0_v8 : Ref sig .tc := ⟨.hbm, 55, rfl⟩
abbrev main_call0_v9 : Ref sig .tc := ⟨.hbm, 56, rfl⟩
abbrev main_call0_v10 : Ref sig .tc := ⟨.hbm, 57, rfl⟩
abbrev main_call0_v11 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_c : Ref sig .tc := ⟨.hbm, 64, rfl⟩
abbrev main_v41 : Ref sig .tc := ⟨.hbm, 65, rfl⟩
abbrev main_call1_v0 : Ref sig .tc := ⟨.hbm, 66, rfl⟩
abbrev main_call1_c : Ref sig .tc := ⟨.hbm, 67, rfl⟩
abbrev main_call1_v1 : Ref sig .tc := ⟨.hbm, 68, rfl⟩
abbrev main_call1_v2 : Ref sig .tc := ⟨.hbm, 69, rfl⟩
abbrev main_call1_v3 : Ref sig .tc := ⟨.hbm, 70, rfl⟩
abbrev main_call1_v4 : Ref sig .tc := ⟨.hbm, 71, rfl⟩
abbrev main_call1_c_0 : Ref sig .tc := ⟨.hbm, 72, rfl⟩
abbrev main_call1_v5 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_cst_3 : Ref sig .tc := ⟨.hbm, 77, rfl⟩
abbrev main_call2_v0 : Ref sig .tc := ⟨.hbm, 78, rfl⟩
abbrev main_call2_v1 : Ref sig .tc := ⟨.hbm, 79, rfl⟩
abbrev main_call2_v2 : Ref sig .tc := ⟨.hbm, 80, rfl⟩
abbrev main_call2_v3 : Ref sig .tc := ⟨.hbm, 81, rfl⟩
abbrev main_v45 : Ref sig .tc := ⟨.hbm, 82, rfl⟩
abbrev main_cst_4 : Ref sig .tc := ⟨.hbm, 83, rfl⟩
abbrev main_v46 : Ref sig .tc := ⟨.hbm, 84, rfl⟩
abbrev main_cst_5 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_c_6 : Ref sig .tc := ⟨.hbm, 90, rfl⟩
abbrev main_v51 : Ref sig .tc := ⟨.hbm, 91, rfl⟩
abbrev main_v52 : Ref sig .tc := ⟨.hbm, 92, rfl⟩
abbrev main_c_7 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_c_8 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_cst_9 : Ref sig .tc := ⟨.hbm, 102, rfl⟩
abbrev main_v60 : Ref sig .tc := ⟨.hbm, 103, rfl⟩
abbrev main_v61 : Ref sig .tc := ⟨.hbm, 104, rfl⟩
abbrev main_cst_10 : Ref sig .tc := ⟨.hbm, 105, rfl⟩
abbrev main_v62 : Ref sig .tc := ⟨.hbm, 106, rfl⟩
abbrev main_v63 : Ref sig .tc := ⟨.hbm, 107, rfl⟩
abbrev main_c_11 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_cst_12 : Ref sig .tc := ⟨.hbm, 112, rfl⟩
abbrev main_call3_v0 : Ref sig .tc := ⟨.hbm, 113, rfl⟩
abbrev main_call3_v1 : Ref sig .tc := ⟨.hbm, 114, rfl⟩
abbrev main_call3_v2 : Ref sig .tc := ⟨.hbm, 115, rfl⟩
abbrev main_v67 : Ref sig .tc := ⟨.hbm, 116, rfl⟩
abbrev main_call4_v0 : Ref sig .tc := ⟨.hbm, 117, rfl⟩
abbrev main_v68 : Ref sig .tc := ⟨.hbm, 118, rfl⟩
abbrev main_call5_v0 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩

abbrev nD : Nat := 1
abbrev τ : Topo := Topo.v7x

variable {F : FTy → Type} [FloatOps F]
-- ==== Proof.RefRun.lean ====
/- The reference's loop over the chunks as a recurrence on the values it carries: one pass of the loop takes the carried values to `Step.step` of them, so a sequence
   of states that starts as the loop starts and goes on by `Step.step` gives the reference's result. -/
module

public import proofs.«01_k».proof.Proof.Gen.ReferenceIdeal.Run
public import proofs.«01_k».proof.Proof.Gen.ReferenceIdeal.Step

@[expose] public section

noncomputable section

namespace Cert.MLstm.Ref

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

/-- The carried values and the loop's inputs as they stand in the buffers. -/
def held (V : Valuation τ sig (Elt F)) : State F where
  main_v32_7 := V (Proc.devRef .tc main_v32_7)
  main_v32_8 := V (Proc.devRef .tc main_v32_8)
  main_v32_9 := V (Proc.devRef .tc main_v32_9)
  main_v32_10 := V (Proc.devRef .tc main_v32_10)
  main_v32_0 := V (Proc.devRef .tc main_v32_0)
  main_v32_1 := V (Proc.devRef .tc main_v32_1)
  main_v32_2 := V (Proc.devRef .tc main_v32_2)
  main_v32_3 := V (Proc.devRef .tc main_v32_3)
  main_v32_4 := V (Proc.devRef .tc main_v32_4)

/-- The buffers before pass `j`: the carried values are `s`, the counter is `j`, the causal mask is the mask. -/
structure At (V : Valuation τ sig (Elt F)) (s : State F) (j : ℕ) : Prop where
  held : held V = s
  count : V (Proc.devRef .tc main_v32_6) = constantI S_ 32 (BitVec.ofNat 32 j)
  mask : V (Proc.devRef .tc main_v32_5) = Cert.ReferenceIdeal.Step.K_main_v27 (F := F)

variable {V : Valuation τ sig (Elt F)} {s : State F} {j : ℕ}

set_option maxRecDepth 65536 in
/-- A pass leaves the next memory matrix. -/
theorem memory_step (h : At V s j) : step_main_v32_7 V = Step.b97 j s := by
  obtain ⟨rfl, hc, hk⟩ := h
  simp only [step_main_v32_7, res_main_while0b_v123, res_main_while0b_v120, res_main_while0b_v116, res_main_while0b_v113, res_main_while0b_v109,
    res_main_while0b_v68, res_main_while0b_v67, res_main_while0b_v66, res_main_while0b_v65, hc]
  rfl

set_option maxRecDepth 65536 in
/-- A pass leaves the next normalizer. -/
theorem normalizer_step (h : At V s j) : step_main_v32_8 V = Step.b102 j s := by
  obtain ⟨rfl, hc, hk⟩ := h
  simp only [step_main_v32_8, res_main_while0b_v123, res_main_while0b_v120, res_main_while0b_v116, res_main_while0b_v113, res_main_while0b_v109,
    res_main_while0b_v68, res_main_while0b_v67, res_main_while0b_v65, hc]
  rfl

set_option maxRecDepth 65536 in
/-- A pass leaves the next running maximum. -/
theorem peak_step (h : At V s j) : step_main_v32_9 V = Step.b82 j s := by
  obtain ⟨rfl, hc, hk⟩ := h
  simp only [step_main_v32_9, res_main_while0b_v116, res_main_while0b_v113, res_main_while0b_v109, res_main_while0b_v68, res_main_while0b_v67, hc]
  rfl

set_option maxRecDepth 65536 in
/-- A pass stores its chunk's outputs at its own place. -/
theorem output_step (h : At V s j) : step_main_v32_10 V = Step.b108 j s := by
  obtain ⟨rfl, hc, hk⟩ := h
  simp only [step_main_v32_10, res_main_while0b_v90, res_main_while0b_v88, res_main_while0b_v82, res_main_while0b_v80, res_main_while0b_v77,
    res_main_while0b_v68, res_main_while0b_v67, res_main_while0b_v66, res_main_while0b_v65, res_main_while0b_v64, hc, hk]
  rfl

/-- A pass takes the carried values to the step of them and counts one up. -/
theorem At.next (h : At V s j) : At (STEP V) (step j s) (j + 1) where
  held := by
    unfold Ref.held
    rw [STEP_main_v32_7, STEP_main_v32_8, STEP_main_v32_9, STEP_main_v32_10, STEP_main_v32_0, STEP_main_v32_1, STEP_main_v32_2, STEP_main_v32_3,
      STEP_main_v32_4, memory_step h, normalizer_step h, peak_step h, output_step h]
    obtain ⟨rfl, _, _⟩ := h
    rfl
  count := by
    rw [STEP_main_v32_6]
    unfold step_main_v32_6
    rw [h.count]
    funext i
    show BitVec.ofNat 32 j + 1#32 = BitVec.ofNat 32 (j + 1)
    rw [BitVec.ofNat_add]
  mask := (STEP_main_v32_5 V).trans h.mask

set_option maxRecDepth 8192 in
/-- The result is read from the carried values and the arguments. -/
theorem read_result (h : At V s j) {p : (⟨S16384x24576, .bf16⟩ : BufTy).Contents (Elt F)} (hp : V (Proc.devRef .tc main_arg0) = p)
    {w : (⟨S2048, .f32⟩ : BufTy).Contents (Elt F)} (hw : V (Proc.devRef .tc main_arg2) = w) : out_main_v63 V = Step.R_main_v63 s p w := by
  obtain ⟨rfl, _, _⟩ := h
  subst hp hw
  rfl

variable (m : (ℓ : Loc nD τ sig) → Buf (Elt F) ℓ) (c : Dev nD)

/-- The state the loop starts from. -/
abbrev start : State F :=
  init (m ((c.tc : Thread nD τ).loc main_arg0)) (m ((c.tc : Thread nD τ).loc main_arg1))

set_option maxRecDepth 65536 in
set_option maxHeartbeats 500000 in
/-- What stands in the buffers when the loop is entered. -/
theorem at_entry : At (entryContents preI m c) (start m c) 0 := by
  constructor <;> (simp only [held, entryContents, afterL_cons, afterL_nil]; after_reads_simp) <;> rfl

/-- Before pass `k` stands state `k` of the sequence. -/
theorem at_pass (it : ℕ → State F) (h0 : it 0 = start m c) (hs : ∀ n, it (n + 1) = step n (it n)) (k : ℕ) :
    At (STEP^[k] (entryContents preI m c)) (it k) k := by
  induction k with
  | zero => exact h0 ▸ at_entry m c
  | succ k ih =>
    rw [Function.iterate_succ_apply', hs k]
    exact ih.next

/-- The reference's result is read from state 128 of any sequence that starts as the loop starts and goes on by its step; the arguments stay. -/
theorem result (ρ : Dev nD → PrngReg) (it : Dev nD → ℕ → State F) (h0 : ∀ c, it c 0 = start m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v63)
        = Step.R_main_v63 (it c 128) (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun _ h c => ⟨(h c).1.trans ?_, (h c).2⟩) (Value.run m ρ)
  exact read_result (at_pass m c (it c) (h0 c) (hs c) 128) (iter_main_arg0 m c 128) (iter_main_arg2 m c 128)

end Cert.MLstm.Ref

end
-- ==== Proof.Model.lean ====
/- The chunkwise recurrence of ONE head, on extended reals: the mathematics that the kernel and the reference are both
   compared with. A chunk holds 64 rows of queries, keys, values and gates; the state is a matrix `C`, a vector `N` and
   a running maximum `M`. -/
module

public import Idealize.ShloMosaic.Lib.Pointwise

@[expose] public section

noncomputable section

namespace Cert.MLstm

open Idealize.ShloMosaic

/-- One chunk of one head. -/
structure Chunk where
  q : Fin 64 → Fin 128 → EReal
  k : Fin 64 → Fin 128 → EReal
  v : Fin 64 → Fin 256 → EReal
  i : Fin 64 → EReal
  b : Fin 64 → EReal

/-- The state carried from chunk to chunk. -/
structure St where
  C : Fin 128 → Fin 256 → EReal
  N : Fin 128 → EReal
  M : EReal

/-- The query scale. -/
def sc : EReal := Ideal.ofBits .f32 0x3DB504F3#32

/-- Causal log-weight of row `t` on row `r`. -/
def logd (x : Chunk) (r t : Fin 64) : EReal := if t ≤ r then x.b r - x.b t + x.i t else ⊥

/-- The stabilizer of row `r`. -/
def mt (x : Chunk) (M : EReal) (r : Fin 64) : EReal :=
  max (x.b r + M) (Finset.univ.fold max ⊥ fun t => logd x r t)

/-- The running maximum after the chunk. -/
def mNew (x : Chunk) (M : EReal) : EReal :=
  max (x.b 63 + M) (Finset.univ.fold max ⊥ fun t => x.b 63 - x.b t + x.i t)

/-- Weight of row `t` in row `r`'s output. -/
def wt (x : Chunk) (M : EReal) (r t : Fin 64) : EReal :=
  (∑ d, x.q r d * sc * x.k t d) * Ideal.exp (logd x r t - mt x M r)

/-- Row `r`'s numerator at value column `e`. -/
def num (x : Chunk) (s : St) (r : Fin 64) (e : Fin 256) : EReal :=
  Ideal.exp (x.b r + s.M - mt x s.M r) * (∑ d, x.q r d * sc * s.C d e) + ∑ t, wt x s.M r t * x.v t e

/-- Row `r`'s denominator before it is bounded below. -/
def den (x : Chunk) (s : St) (r : Fin 64) : EReal :=
  Ideal.exp (x.b r + s.M - mt x s.M r) * (∑ d, x.q r d * sc * s.N d) + ∑ t, wt x s.M r t

/-- Row `r`'s hidden value at column `e`. -/
def hidden (x : Chunk) (s : St) (r : Fin 64) (e : Fin 256) : EReal :=
  Ideal.div (num x s r e) (max (FloatOps.absf (F := Ideal) (φ := .f32) (den x s r)) (Ideal.exp (-mt x s.M r)))

/-- What the state keeps over the chunk. -/
def keep (x : Chunk) (M : EReal) : EReal := Ideal.exp (x.b 63 + M - mNew x M)

/-- Row `t`'s weight in the state's update. -/
def wk (x : Chunk) (M : EReal) (t : Fin 64) : EReal := Ideal.exp (x.b 63 - x.b t + x.i t - mNew x M)

/-- The state after the chunk. -/
def next (x : Chunk) (s : St) : St where
  C d e := keep x s.M * s.C d e + ∑ t, wk x s.M t * x.k t d * x.v t e
  N d := keep x s.M * s.N d + ∑ t, wk x s.M t * x.k t d
  M := mNew x s.M

/-- The state before any chunk. -/
def zeroSt : St where
  C _ _ := 0
  N _ := 0
  M := 0

/-- The state before chunk `n`. -/
def stateAt (x : ℕ → Chunk) : ℕ → St
  | 0 => zeroSt
  | n + 1 => next (x n) (stateAt x n)

/-! ## The query scale may be taken out of a sum -/

theorem sc_nonneg : 0 ≤ sc := by
  unfold sc
  simp [Ideal.ofBits, Ideal.ieee, -EReal.coe_mul]

theorem sc_ne_top : sc ≠ ⊤ := by
  unfold sc
  simp [Ideal.ofBits, Ideal.ieee, -EReal.coe_mul]

/-- The scale distributes over a sum of extended reals, being a nonnegative real. -/
theorem sc_mul_sum {ι : Type} (S : Finset ι) (f : ι → EReal) : sc * ∑ a ∈ S, f a = ∑ a ∈ S, sc * f a := by
  classical
  induction S using Finset.induction_on with
  | empty => simp
  | insert a S ha ih =>
    rw [Finset.sum_insert ha, Finset.sum_insert ha, EReal.left_distrib_of_nonneg_of_ne_top sc_nonneg sc_ne_top, ih]

/-- Scaling the queries scales their product with anything. -/
theorem sum_sc {ι : Type} [Fintype ι] (f g : ι → EReal) : ∑ a, f a * sc * g a = sc * ∑ a, f a * g a := by
  rw [sc_mul_sum]
  exact Finset.sum_congr rfl fun a _ => by rw [mul_comm (f a) sc, mul_assoc]

end Cert.MLstm
-- ==== Proof.Arrays.lean ====
/- The chunks of the two batches' heads, read from the layer's arrays: the branches `p` (one row per token), the gate table `t` (sixteen lanes per head) and the norm's
   weights `w`; and the layer's result written over the recurrence of the chunks. -/
module

public import proofs.«01_k».proof.Proof.Model

@[expose] public section

noncomputable section

namespace Cert.MLstm

open Idealize.ShloMosaic

/-- The row of the arrays that holds row `r` of chunk `n` of batch `b`. -/
def rowAt (b : Fin 2) (n : ℕ) (r : Fin 64) : Fin 16384 := ⟨(b.val * 8192 + (n * 64 + r.val)) % 16384, Nat.mod_lt _ (by decide)⟩

theorem rowAt_eq (b : Fin 2) (n : ℕ) (hn : n < 128) (r : Fin 64) {k : ℕ} (hk : k = b.val * 8192 + (n * 64 + r.val)) (h : k < 16384) :
    (⟨k, h⟩ : Fin 16384) = rowAt b n r := by
  subst hk
  exact Fin.ext (Nat.mod_eq_of_lt h).symm

/-- Chunk `n` of head `h` of batch `b`. -/
def chunkAt (p : Fin 16384 → Fin 24576 → EReal) (t : Fin 16384 → Fin 128 → EReal) (b : Fin 2) (h : Fin 8) (n : ℕ) : Chunk where
  q r d := p (rowAt b n r) ⟨12288 + (h.val * 128 + d.val), by omega⟩
  k r d := p (rowAt b n r) ⟨13312 + (h.val * 128 + d.val), by omega⟩
  v r e := p (rowAt b n r) ⟨14336 + (h.val * 256 + e.val), by omega⟩
  i r := t (rowAt b n r) ⟨h.val * 16, by omega⟩
  b r := t (rowAt b n r) ⟨h.val * 16 + 1, by omega⟩

/-- The state of head `h` of batch `b` before chunk `n`. -/
def stAt (p : Fin 16384 → Fin 24576 → EReal) (t : Fin 16384 → Fin 128 → EReal) (b : Fin 2) (h : Fin 8) (n : ℕ) : St :=
  stateAt (chunkAt p t b h) n

/-- The hidden value of head `h` of batch `b` at row `r` of chunk `n` and column `e`. -/
def hidAt (p : Fin 16384 → Fin 24576 → EReal) (t : Fin 16384 → Fin 128 → EReal) (b : Fin 2) (h : Fin 8) (n : ℕ) (r : Fin 64) (e : Fin 256) : EReal :=
  hidden (chunkAt p t b h n) (stAt p t b h n) r e

/-- A row of hidden values divided by its root mean square, at column `e`. -/
def unitRms (H : Fin 256 → EReal) (e : Fin 256) : EReal :=
  H e * Ideal.rsqrt (Ideal.div (∑ x, H x * H x) (Ideal.ofBits .f32 1132462080#32) + Ideal.ofBits .f32 897988541#32)

/-- The row of hidden values that row `r`, column `e` of the result is read from. -/
def hidRow (p : Fin 16384 → Fin 24576 → EReal) (t : Fin 16384 → Fin 128 → EReal) (r : Fin 16384) (e : Fin 2048) : Fin 256 → EReal :=
  hidAt p t ⟨r.val / 8192, by omega⟩ ⟨e.val / 256, by omega⟩ (r.val % 8192 / 64) ⟨r.val % 8192 % 64, by omega⟩

/-- The layer's result: the normed hidden value, weighted, under the output gate and the branch gate. -/
def result (p : Fin 16384 → Fin 24576 → EReal) (t : Fin 16384 → Fin 128 → EReal) (w : Fin 2048 → EReal) (r : Fin 16384) (e : Fin 2048) : EReal :=
  Ideal.logistic (p r ⟨16384 + e.val, by omega⟩) * (unitRms (hidRow p t r e) ⟨e.val % 256, by omega⟩ * w e)
    * (p r ⟨18432 + e.val, by omega⟩ * Ideal.logistic (p r ⟨18432 + e.val, by omega⟩))

end Cert.MLstm

end
-- ==== Proof.RefTrip.lean ====
/- One pass of the reference's loop, read element by element: it is one chunk of the recurrence for every batch and head; so before pass `n` the loop holds the state
   before chunk `n` and the hidden values of the chunks before it. -/
module

public import proofs.«01_k».proof.Proof.Gen.ReferenceIdeal.Step
public import proofs.«01_k».proof.Proof.Arrays
public import Idealize.ShloMosaic.Lib.DynamicIndex
public import Idealize.ShloMosaic.Lib.WordCmp

@[expose] public section

set_option maxRecDepth 16384

noncomputable section

namespace Cert.MLstm.Ref

open Idealize.ShloMosaic Idealize.ShloMosaic.TcCoe Idealize.SL.Sem
open Cert.ReferenceIdeal Cert.ReferenceIdeal.Gen Cert.ReferenceIdeal.Step

variable {n : ℕ} {s : State Ideal}

/-- A pass's number, read back from its word. -/
theorem pass_word (hn : n < 128) : (BitVec.ofNat 32 n).toInt = (n : ℤ) := by
  rw [BitVec.toInt_eq_toNat_of_lt (by rw [BitVec.toNat_ofNat]; omega), BitVec.toNat_ofNat, Nat.mod_eq_of_lt (by omega)]

/-- A slice at pass `n` is the static slice at `n`. -/
theorem slice5 {d : ℕ} (hn : n < 128) (x : (⟨5, ![128, 2, 8, 64, d]⟩ : Shape).Idx → EReal) (start : Fin 5 → ℤ)
    (h : (⟨5, ![128, 2, 8, 64, d]⟩ : Shape).Slices (fun _ => 0) ⟨5, ![1, 2, 8, 64, d]⟩)
    (hs : ∀ a, start a = ((![n, 0, 0, 0, 0] : Fin 5 → ℕ) a : ℤ))
    (h' : (⟨5, ![128, 2, 8, 64, d]⟩ : Shape).Slices ![n, 0, 0, 0, 0] ⟨5, ![1, 2, 8, 64, d]⟩) :
    Host.dynamicSlice ⟨5, ![1, 2, 8, 64, d]⟩ x start h = extractStridedSlice ⟨5, ![1, 2, 8, 64, d]⟩ ![n, 0, 0, 0, 0] x h' :=
  Host.dynamicSlice_eq_extractStridedSlice _ _ _ ![n, 0, 0, 0, 0] h h' hs

theorem fits5 (hn : n < 128) (d : ℕ) : (⟨5, ![128, 2, 8, 64, d]⟩ : Shape).Slices ![n, 0, 0, 0, 0] ⟨5, ![1, 2, 8, 64, d]⟩ :=
  ⟨rfl, fun a => by fin_cases a <;> simp <;> omega⟩

theorem fits4 (hn : n < 128) : (⟨4, ![128, 2, 8, 64]⟩ : Shape).Slices ![n, 0, 0, 0] ⟨4, ![1, 2, 8, 64]⟩ :=
  ⟨rfl, fun a => by fin_cases a <;> simp <;> omega⟩

/-- The pass's scaled queries. -/
theorem b5_at (hn : n < 128) (b : Fin 2) (h : Fin 8) (r : Fin 64) (d : Fin 128) : b5 n s (ix4 b h r d) = s.main_v32_0 (ix5 ⟨n, hn⟩ b h r d) := by
  unfold b5 b4
  rw [Host.dynamicSlice_eq_extractStridedSlice _ _ _ ![n, 0, 0, 0, 0] _ (fits5 hn 128)
    (fun a => by fin_cases a <;> first | exact pass_word hn | rfl)]
  pointwise

/-- The pass's keys. -/
theorem b11_at (hn : n < 128) (b : Fin 2) (h : Fin 8) (r : Fin 64) (d : Fin 128) : b11 n s (ix4 b h r d) = s.main_v32_1 (ix5 ⟨n, hn⟩ b h r d) := by
  unfold b11 b10
  rw [Host.dynamicSlice_eq_extractStridedSlice _ _ _ ![n, 0, 0, 0, 0] _ (fits5 hn 128)
    (fun a => by fin_cases a <;> first | exact pass_word hn | rfl)]
  pointwise

/-- The pass's values. -/
theorem b17_at (hn : n < 128) (b : Fin 2) (h : Fin 8) (r : Fin 64) (e : Fin 256) : b17 n s (ix4 b h r e) = s.main_v32_2 (ix5 ⟨n, hn⟩ b h r e) := by
  unfold b17 b16
  rw [Host.dynamicSlice_eq_extractStridedSlice _ _ _ ![n, 0, 0, 0, 0] _ (fits5 hn 256)
    (fun a => by fin_cases a <;> first | exact pass_word hn | rfl)]
  pointwise

/-- The pass's input gates. -/
theorem b22_at (hn : n < 128) (b : Fin 2) (h : Fin 8) (r : Fin 64) : b22 n s (ix3 b h r) = s.main_v32_3 (ix4 ⟨n, hn⟩ b h r) := by
  unfold b22 b21
  rw [Host.dynamicSlice_eq_extractStridedSlice _ _ _ ![n, 0, 0, 0] _ (fits4 hn) (fun a => by fin_cases a <;> first | exact pass_word hn | rfl)]
  pointwise

/-- The pass's summed log forget gates. -/
theorem b27_at (hn : n < 128) (b : Fin 2) (h : Fin 8) (r : Fin 64) : b27 n s (ix3 b h r) = s.main_v32_4 (ix4 ⟨n, hn⟩ b h r) := by
  unfold b27 b26
  rw [Host.dynamicSlice_eq_extractStridedSlice _ _ _ ![n, 0, 0, 0] _ (fits4 hn) (fun a => by fin_cases a <;> first | exact pass_word hn | rfl)]
  pointwise

/-- What the loop holds before pass `n`: its inputs are the chunks, its state is the state before chunk `n`, and the chunks before `n` have their hidden values stored. -/
structure Before (p : Fin 16384 → Fin 24576 → EReal) (t : Fin 16384 → Fin 128 → EReal) (s : State Ideal) (n : ℕ) : Prop where
  q : ∀ (c : Fin 128) (b : Fin 2) (h : Fin 8) (r : Fin 64) (d : Fin 128), s.main_v32_0 (ix5 c b h r d) = (chunkAt p t b h c).q r d * sc
  k : ∀ (c : Fin 128) (b : Fin 2) (h : Fin 8) (r : Fin 64) (d : Fin 128), s.main_v32_1 (ix5 c b h r d) = (chunkAt p t b h c).k r d
  v : ∀ (c : Fin 128) (b : Fin 2) (h : Fin 8) (r : Fin 64) (e : Fin 256), s.main_v32_2 (ix5 c b h r e) = (chunkAt p t b h c).v r e
  i : ∀ (c : Fin 128) (b : Fin 2) (h : Fin 8) (r : Fin 64), s.main_v32_3 (ix4 c b h r) = (chunkAt p t b h c).i r
  b : ∀ (c : Fin 128) (b : Fin 2) (h : Fin 8) (r : Fin 64), s.main_v32_4 (ix4 c b h r) = (chunkAt p t b h c).b r
  C : ∀ (b : Fin 2) (h : Fin 8) (d : Fin 128) (e : Fin 256), s.main_v32_7 (ix4 b h d e) = (stAt p t b h n).C d e
  N : ∀ (b : Fin 2) (h : Fin 8) (d : Fin 128), s.main_v32_8 (ix3 b h d) = (stAt p t b h n).N d
  M : ∀ (b : Fin 2) (h : Fin 8), s.main_v32_9 (ix2 b h) = (stAt p t b h n).M
  out : ∀ (c : Fin 128), c.val < n → ∀ (b : Fin 2) (h : Fin 8) (r : Fin 64) (e : Fin 256), s.main_v32_10 (ix5 c b h r e) = hidAt p t b h c r e

variable {p : Fin 16384 → Fin 24576 → EReal} {t : Fin 16384 → Fin 128 → EReal}

theorem neg_inf : Ideal.ofBits .f32 4286578688#32 = ⊥ := by
  simp [Ideal.ofBits, Ideal.ieee]

/-- The causal mask at two rows. -/
theorem mask_at : ∀ r t : Fin 64, Scalar.select (α := BitVec 1) (IntOp.cmpi CmpIPredicate.sge (IntOp.addi (BitVec.ofNat 32 r.val) 0#32) (BitVec.ofNat 32 t.val)) 1#1 0#1
    = if t ≤ r then 1#1 else 0#1 := by
  decide +kernel

/-- The masked log-weight of row `t` on row `r`. -/
theorem b40_at (hn : n < 128) (f : Before p t s n) (b : Fin 2) (h : Fin 8) (r t' : Fin 64) : b40 n s (ix4 b h r t') = logd (chunkAt p t b h n) r t' := by
  pointwise [b40, b38, b39, b37, b36, b35, b34, b33, b32, b31, b30, b29, b28, K_main_v27, K_main_call0_v4, K_main_call0_v2, K_main_call0_v0,
    K_main_call0_v1, K_main_call0_c, K_main_call0_v3, K_main_v26, K_main_c, K_main_call0_v5, K_main_call0_c_0]
  rw [mask_at, b27_at hn, b27_at hn, b22_at hn, f.b, f.b, f.i, neg_inf]
  unfold logd
  split <;> rfl

/-- The stabilizer of row `r`. -/
theorem b46_at (hn : n < 128) (f : Before p t s n) (b : Fin 2) (h : Fin 8) (r : Fin 64) :
    b46 n s (ix3 b h r) = mt (chunkAt p t b h n) (stAt p t b h n).M r := by
  pointwise [b46, b45, b44, b43, b42, b41]
  simp only [b40_at hn f, b27_at hn, f.b, f.M, neg_inf]
  rfl

/-- The weight of row `t` in row `r`'s output. -/
theorem b54_at (hn : n < 128) (f : Before p t s n) (b : Fin 2) (h : Fin 8) (r t' : Fin 64) :
    b54 n s (ix4 b h r t') = wt (chunkAt p t b h n) (stAt p t b h n).M r t' := by
  pointwise [b54, b53, b50, b49, b48, b47]
  simp only [b40_at hn f, b46_at hn f, b5_at hn, b11_at hn, f.q, f.k]
  rfl

/-- The hidden value. -/
theorem b72_at (hn : n < 128) (f : Before p t s n) (b : Fin 2) (h : Fin 8) (r : Fin 64) (e : Fin 256) :
    b72 n s (ix4 b h r e) = hidAt p t b h n r e := by
  pointwise [b72, b71, b70, b69, b68, b67, b66, b65, b64, b63, b62, b61, b60, b59, b58, b57, b56, b55, b52, b51, b43, b42, b41]
  simp only [b54_at hn f, b46_at hn f, b5_at hn, b17_at hn, b27_at hn, f.q, f.v, f.b, f.M, f.C, f.N]
  rfl

/-- The running maximum after the pass. -/
theorem b82_at (hn : n < 128) (f : Before p t s n) (b : Fin 2) (h : Fin 8) :
    b82 n s (ix2 b h) = mNew (chunkAt p t b h n) (stAt p t b h n).M := by
  pointwise [b82, b81, b80, b79, b78, b77, b76, b75, b74, b73]
  simp only [b27_at hn, b22_at hn, f.b, f.i, f.M, neg_inf]
  rfl

/-- The memory matrix after the pass. -/
theorem b97_at (hn : n < 128) (f : Before p t s n) (b : Fin 2) (h : Fin 8) (d : Fin 128) (e : Fin 256) :
    b97 n s (ix4 b h d e) = (next (chunkAt p t b h n) (stAt p t b h n)).C d e := by
  pointwise [b97, b96, b95, b94, b93, b92, b91, b90, b89, b88, b87, b86, b85, b84, b83, b79, b78, b77, b76, b75, b74, b73]
  simp only [b82_at hn f, b27_at hn, b22_at hn, b11_at hn, b17_at hn, f.b, f.i, f.k, f.v, f.M, f.C]
  rfl

/-- The normalizer after the pass. -/
theorem b102_at (hn : n < 128) (f : Before p t s n) (b : Fin 2) (h : Fin 8) (d : Fin 128) :
    b102 n s (ix3 b h d) = (next (chunkAt p t b h n) (stAt p t b h n)).N d := by
  pointwise [b102, b101, b100, b99, b98, b89, b88, b87, b86, b85, b84, b83, b79, b78, b77, b76, b75, b74, b73]
  simp only [b82_at hn f, b27_at hn, b22_at hn, b11_at hn, f.b, f.i, f.k, f.M, f.N]
  rfl

/-- The stored outputs after the pass: the pass's chunk is new, the others stay. -/
theorem b108_at (hn : n < 128) (f : Before p t s n) (c : Fin 128) (b : Fin 2) (h : Fin 8) (r : Fin 64) (e : Fin 256) :
    b108 n s (ix5 c b h r e) = if c.val = n then hidAt p t b h n r e else s.main_v32_10 (ix5 c b h r e) := by
  unfold b108
  rw [WordCmp.dynamicUpdateSlice_eq_update _ _ _ _ ![n, 0, 0, 0, 0] (fits5 hn 256) (fun a => by fin_cases a <;> first | exact pass_word hn | rfl)]
  pointwise [b103]
  simp only [b72_at hn f]
  by_cases hc : c.val = n
  · rw [if_pos hc, dif_pos (by omega)]
  · rw [if_neg hc, dif_neg (by omega)]

/-- A pass keeps what the loop holds, one chunk on. -/
theorem Before.next (hn : n < 128) (f : Before p t s n) : Before p t (step n s) (n + 1) where
  q := f.q
  k := f.k
  v := f.v
  i := f.i
  b := f.b
  C b h d e := b97_at hn f b h d e
  N b h d := b102_at hn f b h d
  M b h := b82_at hn f b h
  out c hc b h r e := by
    rw [step_main_v32_10, b108_at hn f]
    split
    · next h' => rw [h']
    · exact f.out c (by omega) b h r e

/-! ## The arrays the loop reads -/

variable (P : (⟨S16384x24576, .bf16⟩ : BufTy).Contents (Elt Ideal)) (T : (⟨S16384x128, .f32⟩ : BufTy).Contents (Elt Ideal))

/-- The branches by row and column. -/
abbrev pAt : Fin 16384 → Fin 24576 → EReal := fun r c => P (ix2 r c)

/-- The gate table by row and lane. -/
abbrev tAt : Fin 16384 → Fin 128 → EReal := fun r c => T (ix2 r c)

/-- What the loop starts from. -/
theorem before_zero : Before (pAt P) (tAt T) (init P T) 0 where
  q c b h r d := by
    show A_main_v17 P T (ix5 c b h r d) = _
    pointwise [A_main_v17, A_main_v16, A_main_v8, A_main_v6, A_main_v1, A_main_v0, K_main_v7, K_main_cst]
    rw [rowAt_eq b c.val c.isLt r rfl]
    rfl
  k c b h r d := by
    show A_main_v19 P T (ix5 c b h r d) = _
    pointwise [A_main_v19, A_main_v18, A_main_v9, A_main_v3, A_main_v2]
    exact congrArg (fun a => P (ix2 a _)) (rowAt_eq b c.val c.isLt r (by omega) (by omega))
  v c b h r d := by
    show A_main_v21 P T (ix5 c b h r d) = _
    pointwise [A_main_v21, A_main_v20, A_main_v10, A_main_v5, A_main_v4]
    exact congrArg (fun a => P (ix2 a _)) (rowAt_eq b c.val c.isLt r (by omega) (by omega))
  i c b h r := by
    show A_main_v23 P T (ix4 c b h r) = _
    pointwise [A_main_v23, A_main_v22, A_main_v13, A_main_v12, A_main_v11]
    rw [rowAt_eq b c.val c.isLt r rfl]
    rfl
  b c b h r := by
    show A_main_v25 P T (ix4 c b h r) = _
    pointwise [A_main_v25, A_main_v24, A_main_v15, A_main_v14, A_main_v11]
    rw [rowAt_eq b c.val c.isLt r rfl]
    rfl
  C b h d e := by
    show K_main_v28 (F := Ideal) (ix4 b h d e) = 0
    pointwise [K_main_v28, K_main_cst_0]
  N b h d := by
    show K_main_v29 (F := Ideal) (ix3 b h d) = 0
    pointwise [K_main_v29, K_main_cst_1]
  M b h := by
    show K_main_v30 (F := Ideal) (ix2 b h) = 0
    pointwise [K_main_v30, K_main_cst_2]
  out c hc := absurd hc (Nat.not_lt_zero _)

/-- The loop's states. -/
def states : ℕ → State Ideal
  | 0 => init P T
  | n + 1 => step n (states n)

theorem before_states : ∀ n ≤ 128, Before (pAt P) (tAt T) (states P T n) n
  | 0, _ => before_zero P T
  | n + 1, hn => (before_states n (by omega)).next (by omega)

/-- The result at a row and a column, of a state that holds every chunk's hidden values. -/
theorem result_of {S : State Ideal} (f : Before (pAt P) (tAt T) S 128) (W : (⟨S2048, .f32⟩ : BufTy).Contents (Elt Ideal)) (r : Fin 16384) (e : Fin 2048) :
    R_main_v63 S P W (ix2 r e) = result (pAt P) (tAt T) (fun c => W (ix1 c)) r e := by
  pointwise [R_main_v63]
  have hout := fun c => f.out c c.isLt
  simp only [hout]
  rfl

/-- The reference's result at a row and a column. -/
theorem result_at (W : (⟨S2048, .f32⟩ : BufTy).Contents (Elt Ideal)) (r : Fin 16384) (e : Fin 2048) :
    R_main_v63 (states P T 128) P W (ix2 r e) = result (pAt P) (tAt T) (fun c => W (ix1 c)) r e :=
  result_of P T (before_states P T 128 le_rfl) W r e

end Cert.MLstm.Ref

end
-- ==== Proof.Head.lean ====
/- What the kernel body computes for ONE head at one grid point, as functions of the blocks it reads: the running state
   it leaves (`stateOut`) and the output block it stores (`outBlk`). The kernel repeats these lines for each of its
   eight heads; here they are named once. -/
module

public import proofs.«01_k».proof.Proof.Gen.KernelIdeal.Value

@[expose] public section

noncomputable section

namespace Cert.MLstm.Head

open Cert.KernelIdeal Cert.KernelIdeal.Gen Idealize.ShloMosaic Idealize.ShloMosaic.TcCoe Idealize.SL.Sem

variable {F : FTy → Type} [FloatOps F]

/-- The gate rows a head reads from the row table: input gate, cumulated log forget gate, its value at the chunk's end,
    the running maximum before the chunk and after it. -/
structure Rows (F : FTy → Type) [FloatOps F] where
  i : Vec F S1x1x1x256 .f32
  b : Vec F S1x1x1x256 .f32
  bl : Vec F S1x1x1x256 .f32
  ms : Vec F S1x1x1x256 .f32
  mn : Vec F S1x1x1x256 .f32

/-- A row of the table as a row vector. -/
def row (x : Vec F S1x1x1x256 .f32) : FVec F S1x256 .f32 := shapeCast S1x256 x shapeCasts_S1x1x1x256_S1x256

/-- The values with the column of ones beside them. -/
def vAug (v : Vec F S256x256 .bf16) : FVec F S256x384 .bf16 :=
  concatenate S256x384 1 [⟨S256x256, v⟩, ⟨S256x128, k0_pay5⟩] concatenates_S256x256_S256x128_S256x384_d1

/-- The keys, transposed and scaled by `exp (log_end - m_new)`. -/
def kScaled (k : Vec F S256x128 .bf16) (g : Rows F) : FVec F S128x256 .bf16 :=
  k0_pay13 k (row g.i) g.b g.bl g.mn

/-- The factor the state keeps over a chunk. -/
def carry (g : Rows F) : FVec F S1x256 .f32 := exp (subf (addf (row g.bl) (row g.ms)) (row g.mn))

/-- One chunk's step of the state: `state * carry + k_scaled · v_aug`, from the chunk's first row `o`. -/
def advance (o : ℕ) (ho1 : S1x256.Slices ![0, o] S1x1) (ho2 : S128x256.Slices ![0, o] S128x64) (ho3 : S256x384.Slices ![o, 0] S64x384)
    (v : Vec F S256x256 .bf16) (ks : FVec F S128x256 .bf16) (cy : FVec F S1x256 .f32) (st : FVec F S128x384 .f32) :
    FVec F S128x384 .f32 :=
  addf (mulf st (broadcastTo S128x384 (extractStridedSlice S1x1 ![0, o] cy ho1) broadcasts_S1x1_S128x384))
    (matmul dot_S128x64_S64x384_S128x384_1_0_0_1_n_n none (extractStridedSlice S128x64 ![0, o] ks ho2)
      (extractStridedSlice S64x384 ![o, 0] (vAug v) ho3) (constant S128x384 .f32 0x00000000#32))

section
variable (k : Vec F S256x128 .bf16) (v : Vec F S256x256 .bf16) (g : Rows F) (st : Vec F S1x128x384 .f32)

/-- The state before the point's first chunk, and after each of its chunks. -/
def st0 : FVec F S128x384 .f32 := shapeCast S128x384 st shapeCasts_S1x128x384_S128x384
@[inherit_doc st0] def st1 : FVec F S128x384 .f32 :=
  advance 0 slices_S1x256_o0_0_S1x1 slices_S128x256_o0_0_S128x64 slices_S256x384_o0_0_S64x384 v (kScaled k g) (carry g) (st0 st)
@[inherit_doc st0] def st2 : FVec F S128x384 .f32 :=
  advance 64 slices_S1x256_o0_64_S1x1 slices_S128x256_o0_64_S128x64 slices_S256x384_o64_0_S64x384 v (kScaled k g) (carry g) (st1 k v g st)
@[inherit_doc st0] def st3 : FVec F S128x384 .f32 :=
  advance 128 slices_S1x256_o0_128_S1x1 slices_S128x256_o0_128_S128x64 slices_S256x384_o128_0_S64x384 v (kScaled k g) (carry g) (st2 k v g st)
@[inherit_doc st0] def st4 : FVec F S128x384 .f32 :=
  advance 192 slices_S1x256_o0_192_S1x1 slices_S128x256_o0_192_S128x64 slices_S256x384_o192_0_S64x384 v (kScaled k g) (carry g) (st3 k v g st)

/-- THE STATE a head leaves after its four chunks. -/
def stateOut : FVec F S1x128x384 .f32 := shapeCast S1x128x384 (st4 k v g st) shapeCasts_S128x384_S1x128x384

end

/-- Causal log-weights of 128 rows, from row `o`; `⊥` outside the row's own chunk and above the diagonal. -/
def logD (o : ℕ) (h1 : S256x1.Slices ![o, 0] S128x1) (h2 : S1x256.Slices ![0, o] S1x128)
    (bc : FVec F S256x1 .f32) (g : Rows F) : FVec F S128x128 .f32 :=
  select k0_pay4
    (addf (subf (broadcastTo S128x128 (extractStridedSlice S128x1 ![o, 0] bc h1) broadcasts_S128x1_S128x128)
        (broadcastTo S128x128 (extractStridedSlice S1x128 ![0, o] (row g.b) h2) broadcasts_S1x128_S128x128))
      (broadcastTo S128x128 (extractStridedSlice S1x128 ![0, o] (row g.i) h2) broadcasts_S1x128_S128x128))
    (broadcast S128x128 (Scalar.ofBits .f32 0xFF800000#32))

/-- The stabilizer of 128 rows: the larger of the carried-in maximum and the row's largest log-weight. -/
def mRow (o : ℕ) (h1 : S256x1.Slices ![o, 0] S128x1) (h2 : S1x256.Slices ![0, o] S1x128)
    (bc mc : FVec F S256x1 .f32) (g : Rows F) : FVec F S128x1 .f32 :=
  maximumf (extractStridedSlice S128x1 ![o, 0] (addf bc mc) h1)
    (shapeCast S128x1 (multiReduction .maximumf [1] S128 (logD o h1 h2 bc g) 0xFF800000#32 reduces_S128x128_S128 (.inl rfl) rfl)
      shapeCasts_S128_S128x1)

/-- The part of the output of 128 rows that comes from their own chunk: `(q kᵀ ∘ s · exp (log_d - m)) · v_aug`. -/
def intra (o : ℕ) (h1 : S256x1.Slices ![o, 0] S128x1) (h2 : S1x256.Slices ![0, o] S1x128) (h3 : S256x128.Slices ![o, 0] S128x128)
    (h4 : S256x384.Slices ![o, 0] S128x384)
    (q k : Vec F S256x128 .bf16) (v : Vec F S256x256 .bf16) (bc mc : FVec F S256x1 .f32) (g : Rows F) : FVec F S128x384 .f32 :=
  matmul dot_S128x128_S128x384_S128x384_1_0_0_1_n_n none
    (truncf .bf16
      (mulf (matmul dot_S128x128_S128x128_S128x128_1_1_0_0_n_n none (extractStridedSlice S128x128 ![o, 0] q h3)
          (extractStridedSlice S128x128 ![o, 0] k h3) (constant S128x128 .f32 0x00000000#32))
        (mulf (broadcast S128x128 (Scalar.ofBits .f32 0x3DB504F3#32))
          (exp (subf (logD o h1 h2 bc g) (broadcastTo S128x128 (mRow o h1 h2 bc mc g) broadcasts_S128x1_S128x128))))) bitsLt_bf16_f32)
    (extractStridedSlice S128x384 ![o, 0] (vAug v) h4) (constant S128x384 .f32 0x00000000#32)

/-- The part of 64 rows' output that comes from the state. -/
def fromState (o : ℕ) (h : S256x128.Slices ![o, 0] S64x128) (q : Vec F S256x128 .bf16) (st : FVec F S128x384 .f32) : FVec F S64x384 .f32 :=
  matmul dot_S64x128_S128x384_S64x384_1_0_0_1_n_n none (extractStridedSlice S64x128 ![o, 0] q h) (truncf .bf16 st bitsLt_bf16_f32)
    (constant S64x384 .f32 0x00000000#32)

section
variable (q k : Vec F S256x128 .bf16) (v : Vec F S256x256 .bf16) (bc mc : FVec F S256x1 .f32) (g : Rows F) (st : Vec F S1x128x384 .f32)

/-- The stabilizer of the block's 256 rows. -/
def mAll : FVec F S256x1 .f32 :=
  concatenate S256x1 0 [⟨S128x1, mRow 0 slices_S256x1_o0_0_S128x1 slices_S1x256_o0_0_S1x128 bc mc g⟩,
    ⟨S128x1, mRow 128 slices_S256x1_o128_0_S128x1 slices_S1x256_o0_128_S1x128 bc mc g⟩] concatenates_S128x1_S128x1_S256x1_d0

/-- The own-chunk part of the block's 256 rows. -/
def intraAll : FVec F S256x384 .f32 :=
  concatenate S256x384 0
    [⟨S128x384, intra 0 slices_S256x1_o0_0_S128x1 slices_S1x256_o0_0_S1x128 slices_S256x128_o0_0_S128x128 slices_S256x384_o0_0_S128x384 q k v bc mc g⟩,
     ⟨S128x384, intra 128 slices_S256x1_o128_0_S128x1 slices_S1x256_o0_128_S1x128 slices_S256x128_o128_0_S128x128 slices_S256x384_o128_0_S128x384 q k v bc mc g⟩]
    concatenates_S128x384_S128x384_S256x384_d0

/-- The state's part of the block's 256 rows. -/
def interAll : FVec F S256x384 .f32 :=
  concatenate S256x384 0
    [⟨S64x384, fromState 0 slices_S256x128_o0_0_S64x128 q (st0 st)⟩, ⟨S64x384, fromState 64 slices_S256x128_o64_0_S64x128 q (st1 k v g st)⟩,
     ⟨S64x384, fromState 128 slices_S256x128_o128_0_S64x128 q (st2 k v g st)⟩, ⟨S64x384, fromState 192 slices_S256x128_o192_0_S64x128 q (st3 k v g st)⟩]
    concatenates_S64x384_S64x384_S64x384_S64x384_S256x384_d0

/-- Numerator (columns 0–255) and denominator (column 256) before the division. -/
def numDen : FVec F S256x384 .f32 :=
  addf (mulf (broadcastTo S256x384 (mulf (broadcast S256x1 (Scalar.ofBits .f32 0x3DB504F3#32))
      (exp (subf (addf bc mc) (mAll bc mc g)))) broadcasts_S256x1_S256x384) (interAll q k v g st))
    (intraAll q k v bc mc g)

/-- The head's hidden rows. -/
def hid : FVec F S256x256 .f32 :=
  divf (extractStridedSlice S256x256 ![0, 0] (numDen q k v bc mc g st) slices_S256x384_o0_0_S256x256)
    (broadcastTo S256x256
      (maximumf (absf (extractStridedSlice S256x1 ![0, 256] (numDen q k v bc mc g st) slices_S256x384_o0_256_S256x1))
        (exp (subf (broadcast S256x1 (Scalar.ofBits .f32 0x00000000#32)) (mAll bc mc g)))) broadcasts_S256x1_S256x256)

/-- The reciprocal root mean square of each row. -/
def rms (h : FVec F S256x256 .f32) : FVec F S256x1 .f32 :=
  rsqrt (addf (divf (shapeCast S256x1 (multiReduction .add [1] S256 (mulf h h) 0x00000000#32 reduces_S256x256_S256 (.inl rfl) rfl) shapeCasts_S256_S256x1)
    (broadcast S256x1 (Scalar.ofBits .f32 0x43800000#32))) (broadcast S256x1 (Scalar.ofBits .f32 0x358637BD#32)))

/-- THE OUTPUT BLOCK of a head from its hidden rows: normalized, weighted, gated. -/
def gated (h : FVec F S256x256 .f32) (w : Vec F S1x256 .f32) (og z : Vec F S256x256 .bf16) : FVec F S256x256 .bf16 :=
  have hn : FVec F S256x256 .f32 := mulf (mulf h (broadcastTo S256x256 (rms h) broadcasts_S256x1_S256x256))
    (broadcastTo S256x256 (shapeCast S1x256 w shapeCasts_S1x256_S1x256) broadcasts_S1x256_S256x256)
  have sg : FVec F S256x256 .f32 := addf (broadcast S256x256 (Scalar.ofBits .f32 0x3F000000#32))
    (mulf (broadcast S256x256 (Scalar.ofBits .f32 0x3F000000#32))
      (tanh (mulf (broadcast S256x256 (Scalar.ofBits .f32 0x3F000000#32)) (extf .f32 og bitsLt_bf16_f32))))
  have hz : FVec F S256x256 .f32 := mulf (broadcast S256x256 (Scalar.ofBits .f32 0x3F000000#32)) (extf .f32 z bitsLt_bf16_f32)
  truncf .bf16 (mulf (mulf sg hn) (addf hz (mulf hz (tanh hz)))) bitsLt_bf16_f32

end

end Cert.MLstm.Head
-- ==== Proof.Pieces.lean ====
/- What the kernel body leaves at a grid point, head by head: every piece it stores is a head's state or a head's output
   block, computed from the head's part of the blocks read. -/
module

public import proofs.«01_k».proof.Proof.Head
public import Idealize.ShloMosaic.Lib.Pointwise
public import Idealize.ShloMosaic.Lib.Pipeline.ValueKit

@[expose] public section

set_option maxRecDepth 16384

noncomputable section

namespace Cert.MLstm.Head

open Cert.KernelIdeal Cert.KernelIdeal.Gen Idealize.ShloMosaic Idealize.ShloMosaic.TcCoe Idealize.SL.Sem Idealize.ShloMosaic.Tactic

variable {F : FTy → Type} [FloatOps F]

/-- Head `h`'s 128 columns of a query or key block. -/
def bQ (x : Vec F S256x1024 .bf16) (h : Fin 8) : Vec F S256x128 .bf16 :=
  fun j => x (ix2 (j 0) (⟨128 * h.val + (j 1).val, by have := (j 1).isLt; have := h.isLt; simp at *; omega⟩ : Fin 1024))

/-- Head `h`'s 256 columns of a value or gate block. -/
def bV (x : Vec F S256x2048 .bf16) (h : Fin 8) : Vec F S256x256 .bf16 :=
  fun j => x (ix2 (j 0) (⟨256 * h.val + (j 1).val, by have := (j 1).isLt; have := h.isLt; simp at *; omega⟩ : Fin 2048))

/-- Head `h`'s 256 norm weights. -/
def bW (x : Vec F S1x2048 .f32) (h : Fin 8) : Vec F S1x256 .f32 :=
  fun j => x (ix2 (j 0) (⟨256 * h.val + (j 1).val, by have := (j 1).isLt; have := h.isLt; simp at *; omega⟩ : Fin 2048))

/-- Lane `r` of head `h` in the row table. -/
def bR (x : Vec F S1x8x16x256 .f32) (h : Fin 8) (r : Fin 16) : Vec F S1x1x1x256 .f32 := fun j => x (ix4 (j 0) h r (j 3))

/-- Head `h`'s rows. -/
def bRows (x : Vec F S1x8x16x256 .f32) (h : Fin 8) : Rows F := ⟨bR x h 0, bR x h 1, bR x h 2, bR x h 3, bR x h 4⟩

/-- Head `h`'s part of the carried state. -/
def bS (x : Vec F S8x128x384 .f32) (h : Fin 8) : Vec F S1x128x384 .f32 := fun j => x (ix3 h (j 1) (j 2))

/-- Lane `r` of head `h` in the column table (turned by the kernel to the head group's first lane). -/
def bC (x : FVec F S256x128 .f32) (h : Fin 8) (r : Fin 16) : FVec F S256x1 .f32 :=
  fun j => x (ix2 (j 0) (⟨16 * h.val + r.val, by have := h.isLt; have := r.isLt; omega⟩ : Fin 128))

theorem ld_bQ (x : Vec F S256x1024 .bf16) (h : Fin 8) (inb) :
    View.ld x (Rect.unit ![0, 128 * h.val] ![256, 128] inb) = bQ x h := by
  funext j
  refine View.ld_unit_apply_of _ _ _ _ _ _ fun a => ?_
  fin_cases a <;> simp

theorem ld_bV (x : Vec F S256x2048 .bf16) (h : Fin 8) (inb) :
    View.ld x (Rect.unit ![0, 256 * h.val] ![256, 256] inb) = bV x h := by
  funext j
  refine View.ld_unit_apply_of _ _ _ _ _ _ fun a => ?_
  fin_cases a <;> simp

theorem ld_bW (x : Vec F S1x2048 .f32) (h : Fin 8) (inb) :
    View.ld x (Rect.unit ![0, 256 * h.val] ![1, 256] inb) = bW x h := by
  funext j
  refine View.ld_unit_apply_of _ _ _ _ _ _ fun a => ?_
  fin_cases a <;> simp

theorem ld_bR (x : Vec F S1x8x16x256 .f32) (h : Fin 8) (r : Fin 16) (inb) :
    View.ld x (Rect.unit ![0, h.val, r.val, 0] ![1, 1, 1, 256] inb) = bR x h r := by
  funext j
  refine View.ld_unit_apply_of _ _ _ _ _ _ fun a => ?_
  have h1 : (j 1).val = 0 := by have := (j 1).isLt; simpa using this
  have h2 : (j 2).val = 0 := by have := (j 2).isLt; simpa using this
  fin_cases a <;> simp [h1, h2]

theorem ld_bS (x : Vec F S8x128x384 .f32) (h : Fin 8) (inb) :
    View.ld x (Rect.unit ![h.val, 0, 0] ![1, 128, 384] inb) = bS x h := by
  funext j
  refine View.ld_unit_apply_of _ _ _ _ _ _ fun a => ?_
  have h1 : (j 0).val = 0 := by have := (j 0).isLt; simpa using this
  fin_cases a <;> simp [h1]

theorem slice_bC (x : FVec F S256x128 .f32) (h : Fin 8) (r : Fin 16) (hs) :
    extractStridedSlice S256x1 ![0, 16 * h.val + r.val] x hs = bC x h r := by
  funext j
  refine congrArg x (funext fun a => Fin.ext ?_)
  have h1 : (j 1).val = 0 := by have := (j 1).isLt; simpa using this
  fin_cases a
  · simp
  · simpa using h1

/-- The column table as the body reads it at point `i`. -/
def colTab (i : grid0.Coords) (x : Vec F S256x128 .f32) : FVec F S256x128 .f32 :=
  k0_pay3 i (View.ld x (Rect.unit ![0, 0] ![256, 128] inb_S256x128_S256x128_0_0))

/-- The state a point leaves, from the blocks it reads and the state `s` it finds. -/
def stateAll (x1 : Vec F S256x1024 .bf16) (x2 : Vec F S256x2048 .bf16) (x6 : Vec F S1x8x16x256 .f32) (s : Vec F S8x128x384 .f32) :
    Vec F S8x128x384 .f32 :=
  fun y => stateOut (bQ x1 (y 0)) (bV x2 (y 0)) (bRows x6 (y 0)) (bS s (y 0)) (ix3 0 (y 1) (y 2))

/-- The head's output block from the blocks read. -/
def outHead (i : grid0.Coords) (x0 x1 : Vec F S256x1024 .bf16) (x2 x3 x4 : Vec F S256x2048 .bf16) (x5 : Vec F S256x128 .f32)
    (x6 : Vec F S1x8x16x256 .f32) (x7 : Vec F S1x2048 .f32) (s : Vec F S8x128x384 .f32) (h : Fin 8) : FVec F S256x256 .bf16 :=
  gated (hid (bQ x0 h) (bQ x1 h) (bV x2 h) (bC (colTab i x5) h 1) (bC (colTab i x5) h 3) (bRows x6 h) (bS s h))
    (bW x7 h) (bV x3 h) (bV x4 h)

/-- The output block a point stores: column `256 h + d` is column `d` of head `h`'s. -/
def outAll (i : grid0.Coords) (x0 x1 : Vec F S256x1024 .bf16) (x2 x3 x4 : Vec F S256x2048 .bf16) (x5 : Vec F S256x128 .f32)
    (x6 : Vec F S1x8x16x256 .f32) (x7 : Vec F S1x2048 .f32) (s : Vec F S8x128x384 .f32) : Vec F S256x2048 .bf16 :=
  fun y => outHead i x0 x1 x2 x3 x4 x5 x6 x7 s
    (⟨(y 1).val / 256, by have := (y 1).isLt; simp at this; omega⟩ : Fin 8)
    (ix2 (y 0) (⟨(y 1).val % 256, Nat.mod_lt _ (by norm_num)⟩ : Fin 256))

theorem state_piece (x1 : Vec F S256x1024 .bf16) (x2 : Vec F S256x2048 .bf16) (x6 : Vec F S1x8x16x256 .f32) (s : Vec F S8x128x384 .f32)
    (h : Fin 8) (i0 i1 i2 i3 i4 i5 i6 i7 i8) (x : (Rect.unit (s := S8x128x384) ![h.val, 0, 0] ![1, 128, 384] i8).shape.Idx) :
    stateOut (View.ld x1 (Rect.unit ![0, 128 * h.val] ![256, 128] i0)) (View.ld x2 (Rect.unit ![0, 256 * h.val] ![256, 256] i1))
      ⟨View.ld x6 (Rect.unit ![0, h.val, 0, 0] ![1, 1, 1, 256] i2), View.ld x6 (Rect.unit ![0, h.val, 1, 0] ![1, 1, 1, 256] i3),
       View.ld x6 (Rect.unit ![0, h.val, 2, 0] ![1, 1, 1, 256] i4), View.ld x6 (Rect.unit ![0, h.val, 3, 0] ![1, 1, 1, 256] i5),
       View.ld x6 (Rect.unit ![0, h.val, 4, 0] ![1, 1, 1, 256] i6)⟩
      (View.ld s (Rect.unit ![h.val, 0, 0] ![1, 128, 384] i7)) x
    = stateAll x1 x2 x6 s ((Rect.unit (s := S8x128x384) ![h.val, 0, 0] ![1, 128, 384] i8).emb x) := by
  have e0 : ((Rect.unit (s := S8x128x384) ![h.val, 0, 0] ![1, 128, 384] i8).emb x) 0 = h := by
    refine Fin.ext ((Rect.idx_unit_val _ _ _ x 0).trans ?_)
    have := (x 0).isLt
    simp at this ⊢
  have e1 : ix3 (0 : Fin 1) (((Rect.unit (s := S8x128x384) ![h.val, 0, 0] ![1, 128, 384] i8).emb x) 1)
      (((Rect.unit (s := S8x128x384) ![h.val, 0, 0] ![1, 128, 384] i8).emb x) 2) = x := by
    funext a
    refine Fin.ext ?_
    fin_cases a
    · have := (x 0).isLt
      simpa using this
    · exact (Rect.idx_unit_val _ _ _ x 1).trans (by simp)
    · exact (Rect.idx_unit_val _ _ _ x 2).trans (by simp)
  have r0 := ld_bR x6 h 0 i2
  have r1 := ld_bR x6 h 1 i3
  have r2 := ld_bR x6 h 2 i4
  have r3 := ld_bR x6 h 3 i5
  have r4 := ld_bR x6 h 4 i6
  have key : stateAll x1 x2 x6 s ((Rect.unit (s := S8x128x384) ![h.val, 0, 0] ![1, 128, 384] i8).emb x)
      = stateOut (bQ x1 h) (bV x2 h) (bRows x6 h) (bS s h) x := by
    unfold stateAll
    rw [e0]
    exact congrArg _ e1
  rw [key]
  unfold bRows
  rw [← r0, ← r1, ← r2, ← r3, ← r4, ← ld_bQ x1 h i0, ← ld_bV x2 h i1, ← ld_bS s h i7]
  rfl

theorem out_piece (i : grid0.Coords) (x0 x1 : Vec F S256x1024 .bf16) (x2 x3 x4 : Vec F S256x2048 .bf16) (x5 : Vec F S256x128 .f32)
    (x6 : Vec F S1x8x16x256 .f32) (x7 : Vec F S1x2048 .f32) (s : Vec F S8x128x384 .f32)
    (h : Fin 8) (i0 i1 i2 i3 i4 i5 i6 i7 i8 i9 iA iB iC iD iE)
    (x : (Rect.unit (s := S256x2048) ![0, 256 * h.val] ![256, 256] i8).shape.Idx) :
    gated (hid (View.ld x0 (Rect.unit ![0, 128 * h.val] ![256, 128] i0)) (View.ld x1 (Rect.unit ![0, 128 * h.val] ![256, 128] i9))
        (View.ld x2 (Rect.unit ![0, 256 * h.val] ![256, 256] i1))
        (extractStridedSlice S256x1 ![0, 16 * h.val + 1] (k0_pay3 i (View.ld x5 (Rect.unit ![0, 0] ![256, 128] inb_S256x128_S256x128_0_0))) iA)
        (extractStridedSlice S256x1 ![0, 16 * h.val + 3] (k0_pay3 i (View.ld x5 (Rect.unit ![0, 0] ![256, 128] inb_S256x128_S256x128_0_0))) iB)
        ⟨View.ld x6 (Rect.unit ![0, h.val, 0, 0] ![1, 1, 1, 256] i2), View.ld x6 (Rect.unit ![0, h.val, 1, 0] ![1, 1, 1, 256] i3),
         View.ld x6 (Rect.unit ![0, h.val, 2, 0] ![1, 1, 1, 256] i4), View.ld x6 (Rect.unit ![0, h.val, 3, 0] ![1, 1, 1, 256] i5),
         View.ld x6 (Rect.unit ![0, h.val, 4, 0] ![1, 1, 1, 256] i6)⟩
        (View.ld s (Rect.unit ![h.val, 0, 0] ![1, 128, 384] i7)))
      (View.ld x7 (Rect.unit ![0, 256 * h.val] ![1, 256] iC))
      (View.ld x3 (Rect.unit ![0, 256 * h.val] ![256, 256] iD)) (View.ld x4 (Rect.unit ![0, 256 * h.val] ![256, 256] iE)) x
    = outAll i x0 x1 x2 x3 x4 x5 x6 x7 s ((Rect.unit (s := S256x2048) ![0, 256 * h.val] ![256, 256] i8).emb x) := by
  have hx : (x 1).val < 256 := by have := (x 1).isLt; simpa using this
  have v1 : (((Rect.unit (s := S256x2048) ![0, 256 * h.val] ![256, 256] i8).emb x) 1).val = 256 * h.val + (x 1).val :=
    (Rect.idx_unit_val _ _ _ x 1).trans (by simp)
  have e0 : ∀ p, (⟨(((Rect.unit (s := S256x2048) ![0, 256 * h.val] ![256, 256] i8).emb x) 1).val / 256, p⟩ : Fin 8) = h :=
    fun p => Fin.ext (by show _ / 256 = _; rw [v1]; omega)
  have e1 : ∀ p, ix2 (((Rect.unit (s := S256x2048) ![0, 256 * h.val] ![256, 256] i8).emb x) 0)
      (⟨(((Rect.unit (s := S256x2048) ![0, 256 * h.val] ![256, 256] i8).emb x) 1).val % 256, p⟩ : Fin 256) = x := by
    intro p
    funext a
    refine Fin.ext ?_
    fin_cases a
    · exact (Rect.idx_unit_val _ _ _ x 0).trans (by simp)
    · show _ % 256 = (x 1).val
      rw [v1]; omega
  have r0 := ld_bR x6 h 0 i2
  have r1 := ld_bR x6 h 1 i3
  have r2 := ld_bR x6 h 2 i4
  have r3 := ld_bR x6 h 3 i5
  have r4 := ld_bR x6 h 4 i6
  have c1 := slice_bC (k0_pay3 i (View.ld x5 (Rect.unit ![0, 0] ![256, 128] inb_S256x128_S256x128_0_0))) h 1 iA
  have c3 := slice_bC (k0_pay3 i (View.ld x5 (Rect.unit ![0, 0] ![256, 128] inb_S256x128_S256x128_0_0))) h 3 iB
  have key : outAll i x0 x1 x2 x3 x4 x5 x6 x7 s ((Rect.unit (s := S256x2048) ![0, 256 * h.val] ![256, 256] i8).emb x)
      = outHead i x0 x1 x2 x3 x4 x5 x6 x7 s h x := by
    unfold outAll
    rw [e0]
    exact congrArg _ (e1 _)
  rw [key]
  unfold outHead bRows colTab
  rw [← c1, ← c3, ← r0, ← r1, ← r2, ← r3, ← r4, ← ld_bQ x0 h i0, ← ld_bQ x1 h i9, ← ld_bV x2 h i1, ← ld_bV x3 h iD, ← ld_bV x4 h iE,
    ← ld_bW x7 h iC, ← ld_bS s h i7]
  rfl

end Cert.MLstm.Head
-- ==== Proof.Blocks.lean ====
/- The carried state and the output block after a grid point, whole: the pieces the body stores, taken together, are
   `stateAll` and `outAll`. -/
module

public import proofs.«01_k».proof.Proof.Pieces
public import Idealize.ShloMosaic.Lib.Pipeline.ReadBack

@[expose] public section

set_option maxRecDepth 16384

noncomputable section

namespace Cert.MLstm.Head

open Cert.KernelIdeal Cert.KernelIdeal.Gen Idealize.ShloMosaic Idealize.ShloMosaic.TcCoe Idealize.SL.Sem Idealize.ShloMosaic.Tactic

variable {F : FTy → Type} [FloatOps F]

section
variable (c : Dev nD) (i : grid0.Coords) (arg3 : Memref sig .tc .vmem S256x1024 .bf16) (harg3 : arg3.IsWhole) (arg4 : Memref sig .tc .vmem S256x1024 .bf16) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S256x2048 .bf16) (harg7 : arg7.IsWhole) (arg8 : Memref sig .tc .vmem S256x128 .f32) (harg8 : arg8.IsWhole) (arg9 : Memref sig .tc .vmem S1x8x16x256 .f32) (harg9 : arg9.IsWhole) (arg10 : Memref sig .tc .vmem S1x2048 .f32) (harg10 : arg10.IsWhole) (arg11 : Memref sig .tc .vmem S256x2048 .bf16) (harg11 : arg11.IsWhole) (arg12 : Memref sig .tc .vmem S8x128x384 .f32) (harg12 : arg12.IsWhole)
  (x0 x1 : Vec F S256x1024 .bf16) (x2 x3 x4 : Vec F S256x2048 .bf16) (x5 : Vec F S256x128 .f32) (x6 : Vec F S1x8x16x256 .f32) (x7 : Vec F S1x2048 .f32)

/-- At a point that carries a state on, the state left is `stateAll` of the state found. -/
theorem stateB (hc0 : ¬cond0_0 i) (xs0 : Vec F S8x128x384 .f32) :
    sout0_B_0 c i arg3 harg3 arg4 harg4 arg5 harg5 arg6 harg6 arg7 harg7 arg8 harg8 arg9 harg9 arg10 harg10 arg11 harg11 arg12 harg12 hc0 x0 x1 x2 x3 x4 x5 x6 x7 xs0 = stateAll x1 x2 x6 xs0 := by
  funext y
  unfold sout0_B_0
  rw [View.read_writes_eq_canon _ _ _ (scover0_B_0 c i arg3 harg3 arg4 harg4 arg5 harg5 arg6 harg6 arg7 harg7 arg8 harg8 arg9 harg9 arg10 harg10 arg11 harg11 arg12 harg12 hc0 x0 x1 x2 x3 x4 x5 x6 x7 xs0)]
  refine View.canon_apply_of_pieces _ _ ?_ y (scover0_B_0 c i arg3 harg3 arg4 harg4 arg5 harg5 arg6 harg6 arg7 harg7 arg8 harg8 arg9 harg9 arg10 harg10 arg11 harg11 arg12 harg12 hc0 x0 x1 x2 x3 x4 x5 x6 x7 xs0 y)
  unfold kernelRun0_B
  dsimp only
  sl_unfold_words
  simp only [View.readAt_eq_ld, harg3.read_unread, harg4.read_unread, harg5.read_unread, harg6.read_unread, harg7.read_unread, harg8.read_unread, harg9.read_unread, harg10.read_unread, harg12.read_unread]
  intro p hp
  simp only [List.mem_cons, List.not_mem_nil, or_false] at hp
  rcases hp with rfl | rfl | rfl | rfl | rfl | rfl | rfl | rfl
  · exact state_piece x1 x2 x6 xs0 7 _ _ _ _ _ _ _ _ (by decide)
  · exact state_piece x1 x2 x6 xs0 6 _ _ _ _ _ _ _ _ (by decide)
  · exact state_piece x1 x2 x6 xs0 5 _ _ _ _ _ _ _ _ (by decide)
  · exact state_piece x1 x2 x6 xs0 4 _ _ _ _ _ _ _ _ (by decide)
  · exact state_piece x1 x2 x6 xs0 3 _ _ _ _ _ _ _ _ (by decide)
  · exact state_piece x1 x2 x6 xs0 2 _ _ _ _ _ _ _ _ (by decide)
  · exact state_piece x1 x2 x6 xs0 1 _ _ _ _ _ _ _ _ (by decide)
  · exact state_piece x1 x2 x6 xs0 0 _ _ _ _ _ _ _ _ (by decide)

set_option maxHeartbeats 4000000 in
/-- At such a point the output block stored is `outAll` of the state found. -/
theorem outB (hc0 : ¬cond0_0 i) (xs0 : Vec F S8x128x384 .f32) :
    out0_B_8 c i arg3 harg3 arg4 harg4 arg5 harg5 arg6 harg6 arg7 harg7 arg8 harg8 arg9 harg9 arg10 harg10 arg11 harg11 arg12 harg12 hc0 x0 x1 x2 x3 x4 x5 x6 x7 xs0 = outAll i x0 x1 x2 x3 x4 x5 x6 x7 xs0 := by
  funext y
  unfold out0_B_8
  rw [View.read_writes_eq_canon _ _ _ (cover0_B_8 c i arg3 harg3 arg4 harg4 arg5 harg5 arg6 harg6 arg7 harg7 arg8 harg8 arg9 harg9 arg10 harg10 arg11 harg11 arg12 harg12 hc0 x0 x1 x2 x3 x4 x5 x6 x7 xs0)]
  refine View.canon_apply_of_pieces _ _ ?_ y (cover0_B_8 c i arg3 harg3 arg4 harg4 arg5 harg5 arg6 harg6 arg7 harg7 arg8 harg8 arg9 harg9 arg10 harg10 arg11 harg11 arg12 harg12 hc0 x0 x1 x2 x3 x4 x5 x6 x7 xs0 y)
  unfold kernelRun0_B
  dsimp only
  sl_unfold_words
  simp only [View.readAt_eq_ld, harg3.read_unread, harg4.read_unread, harg5.read_unread, harg6.read_unread, harg7.read_unread, harg8.read_unread, harg9.read_unread, harg10.read_unread, harg12.read_unread]
  intro p hp
  simp only [List.mem_cons, List.not_mem_nil, or_false] at hp
  rcases hp with rfl | rfl | rfl | rfl | rfl | rfl | rfl | rfl
  · exact out_piece i x0 x1 x2 x3 x4 x5 x6 x7 xs0 7 (by decide) (by decide) (by decide) (by decide) (by decide) (by decide) (by decide) (by decide) (by decide) (by decide) (by decide) (by decide) (by decide) (by decide) (by decide)
  · exact out_piece i x0 x1 x2 x3 x4 x5 x6 x7 xs0 6 (by decide) (by decide) (by decide) (by decide) (by decide) (by decide) (by decide) (by decide) (by decide) (by decide) (by decide) (by decide) (by decide) (by decide) (by decide)
  · exact out_piece i x0 x1 x2 x3 x4 x5 x6 x7 xs0 5 (by decide) (by decide) (by decide) (by decide) (by decide) (by decide) (by decide) (by decide) (by decide) (by decide) (by decide) (by decide) (by decide) (by decide) (by decide)
  · exact out_piece i x0 x1 x2 x3 x4 x5 x6 x7 xs0 4 (by decide) (by decide) (by decide) (by decide) (by decide) (by decide) (by decide) (by decide) (by decide) (by decide) (by decide) (by decide) (by decide) (by decide) (by decide)
  · exact out_piece i x0 x1 x2 x3 x4 x5 x6 x7 xs0 3 (by decide) (by decide) (by decide) (by decide) (by decide) (by decide) (by decide) (by decide) (by decide) (by decide) (by decide) (by decide) (by decide) (by decide) (by decide)
  · exact out_piece i x0 x1 x2 x3 x4 x5 x6 x7 xs0 2 (by decide) (by decide) (by decide) (by decide) (by decide) (by decide) (by decide) (by decide) (by decide) (by decide) (by decide) (by decide) (by decide) (by decide) (by decide)
  · exact out_piece i x0 x1 x2 x3 x4 x5 x6 x7 xs0 1 (by decide) (by decide) (by decide) (by decide) (by decide) (by decide) (by decide) (by decide) (by decide) (by decide) (by decide) (by decide) (by decide) (by decide) (by decide)
  · exact out_piece i x0 x1 x2 x3 x4 x5 x6 x7 xs0 0 (by decide) (by decide) (by decide) (by decide) (by decide) (by decide) (by decide) (by decide) (by decide) (by decide) (by decide) (by decide) (by decide) (by decide) (by decide)

set_option maxHeartbeats 4000000 in
/-- At a point that starts a batch, the state left is `stateAll` of the zero state. -/
theorem stateA (hc0 : cond0_0 i) :
    sout0_A_0 c i arg3 harg3 arg4 harg4 arg5 harg5 arg6 harg6 arg7 harg7 arg8 harg8 arg9 harg9 arg10 harg10 arg11 harg11 arg12 harg12 hc0 x0 x1 x2 x3 x4 x5 x6 x7 = stateAll x1 x2 x6 k0_pay2 := by
  funext y
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 hc0 x0 x1 x2 x3 x4 x5 x6 x7)]
  unfold kernelRun0_A
  dsimp only
  sl_unfold_words
  simp (disch := decide) only [↓View.readCov_skip, ↓View.readCov_fill, View.readAt_eq_ld, harg3.read_unread, harg4.read_unread, harg5.read_unread, harg6.read_unread, harg7.read_unread, harg8.read_unread, harg9.read_unread, harg10.read_unread]
  refine View.canon_append_of_piecesOf (stateAll x1 x2 x6 k0_pay2) [_] [_, _, _, _, _, _, _, _] ⟨?_, ?_, ?_, ?_, ?_, ?_, ?_, ?_, trivial⟩ y
    (View.cover_of_tiled _ ![1, 128, 384] (by sl_kernel_rfl) y)
  · exact state_piece x1 x2 x6 k0_pay2 7 _ _ _ _ _ _ _ _ (by decide)
  · exact state_piece x1 x2 x6 k0_pay2 6 _ _ _ _ _ _ _ _ (by decide)
  · exact state_piece x1 x2 x6 k0_pay2 5 _ _ _ _ _ _ _ _ (by decide)
  · exact state_piece x1 x2 x6 k0_pay2 4 _ _ _ _ _ _ _ _ (by decide)
  · exact state_piece x1 x2 x6 k0_pay2 3 _ _ _ _ _ _ _ _ (by decide)
  · exact state_piece x1 x2 x6 k0_pay2 2 _ _ _ _ _ _ _ _ (by decide)
  · exact state_piece x1 x2 x6 k0_pay2 1 _ _ _ _ _ _ _ _ (by decide)
  · exact state_piece x1 x2 x6 k0_pay2 0 _ _ _ _ _ _ _ _ (by decide)

set_option maxHeartbeats 4000000 in
/-- At such a point the output block stored is `outAll` of the zero state. -/
theorem outA (hc0 : cond0_0 i) :
    out0_A_8 c i arg3 harg3 arg4 harg4 arg5 harg5 arg6 harg6 arg7 harg7 arg8 harg8 arg9 harg9 arg10 harg10 arg11 harg11 arg12 harg12 hc0 x0 x1 x2 x3 x4 x5 x6 x7 = outAll i x0 x1 x2 x3 x4 x5 x6 x7 k0_pay2 := by
  funext y
  unfold out0_A_8
  rw [View.read_writes_eq_canon _ _ _ (cover0_A_8 c i arg3 harg3 arg4 harg4 arg5 harg5 arg6 harg6 arg7 harg7 arg8 harg8 arg9 harg9 arg10 harg10 arg11 harg11 arg12 harg12 hc0 x0 x1 x2 x3 x4 x5 x6 x7)]
  refine View.canon_apply_of_pieces _ _ ?_ y (cover0_A_8 c i arg3 harg3 arg4 harg4 arg5 harg5 arg6 harg6 arg7 harg7 arg8 harg8 arg9 harg9 arg10 harg10 arg11 harg11 arg12 harg12 hc0 x0 x1 x2 x3 x4 x5 x6 x7 y)
  unfold kernelRun0_A
  dsimp only
  sl_unfold_words
  simp (disch := decide) only [↓View.readCov_skip, ↓View.readCov_fill, View.readAt_eq_ld, harg3.read_unread, harg4.read_unread, harg5.read_unread, harg6.read_unread, harg7.read_unread, harg8.read_unread, harg9.read_unread, harg10.read_unread]
  intro p hp
  simp only [List.mem_cons, List.not_mem_nil, or_false] at hp
  rcases hp with rfl | rfl | rfl | rfl | rfl | rfl | rfl | rfl
  · exact out_piece i x0 x1 x2 x3 x4 x5 x6 x7 k0_pay2 7 (by decide) (by decide) (by decide) (by decide) (by decide) (by decide) (by decide) (by decide) (by decide) (by decide) (by decide) (by decide) (by decide) (by decide) (by decide)
  · exact out_piece i x0 x1 x2 x3 x4 x5 x6 x7 k0_pay2 6 (by decide) (by decide) (by decide) (by decide) (by decide) (by decide) (by decide) (by decide) (by decide) (by decide) (by decide) (by decide) (by decide) (by decide) (by decide)
  · exact out_piece i x0 x1 x2 x3 x4 x5 x6 x7 k0_pay2 5 (by decide) (by decide) (by decide) (by decide) (by decide) (by decide) (by decide) (by decide) (by decide) (by decide) (by decide) (by decide) (by decide) (by decide) (by decide)
  · exact out_piece i x0 x1 x2 x3 x4 x5 x6 x7 k0_pay2 4 (by decide) (by decide) (by decide) (by decide) (by decide) (by decide) (by decide) (by decide) (by decide) (by decide) (by decide) (by decide) (by decide) (by decide) (by decide)
  · exact out_piece i x0 x1 x2 x3 x4 x5 x6 x7 k0_pay2 3 (by decide) (by decide) (by decide) (by decide) (by decide) (by decide) (by decide) (by decide) (by decide) (by decide) (by decide) (by decide) (by decide) (by decide) (by decide)
  · exact out_piece i x0 x1 x2 x3 x4 x5 x6 x7 k0_pay2 2 (by decide) (by decide) (by decide) (by decide) (by decide) (by decide) (by decide) (by decide) (by decide) (by decide) (by decide) (by decide) (by decide) (by decide) (by decide)
  · exact out_piece i x0 x1 x2 x3 x4 x5 x6 x7 k0_pay2 1 (by decide) (by decide) (by decide) (by decide) (by decide) (by decide) (by decide) (by decide) (by decide) (by decide) (by decide) (by decide) (by decide) (by decide) (by decide)
  · exact out_piece i x0 x1 x2 x3 x4 x5 x6 x7 k0_pay2 0 (by decide) (by decide) (by decide) (by decide) (by decide) (by decide) (by decide) (by decide) (by decide) (by decide) (by decide) (by decide) (by decide) (by decide) (by decide)

end

end Cert.MLstm.Head
-- ==== Proof.Mask.lean ====
/- The kernel's 128×128 mask, decided at every pair of rows. -/
module

public import Idealize.ShloMosaic.Lib.Pointwise

@[expose] public section

namespace Cert.MLstm.Head

open Idealize.ShloMosaic

/-- The kernel's mask at two rows of a group: same chunk and not above the diagonal. -/
theorem mask_eq : ∀ a b : Fin 128, IntOp.andi
        (IntOp.cmpi CmpIPredicate.eq (IntOp.shrsi ArithUnit.vector (BitVec.ofNat 32 a.val) 6#32)
          (IntOp.shrsi ArithUnit.vector (BitVec.ofNat 32 b.val) 6#32))
        (IntOp.cmpi CmpIPredicate.sge (BitVec.ofNat 32 a.val) (BitVec.ofNat 32 b.val))
      = if a.val / 64 = b.val / 64 ∧ b.val ≤ a.val then 1#1 else 0#1 := by
  decide +kernel

end Cert.MLstm.Head
-- ==== Proof.HeadValue.lean ====
/- One head's block in the kernel, read element by element at the exact extended reals, against the recurrence of
   Model.lean: if the block's four chunks and their gate rows are those of the recurrence, the head's state after the
   block is the recurrence's state after four chunks, and its hidden rows are the recurrence's. -/
module

public import proofs.«01_k».proof.Proof.Pieces
public import proofs.«01_k».proof.Proof.Model
public import proofs.«01_k».proof.Proof.Mask

@[expose] public section

set_option maxRecDepth 16384

noncomputable section

namespace Cert.MLstm.Head

open Cert.KernelIdeal Cert.KernelIdeal.Gen Idealize.ShloMosaic Idealize.ShloMosaic.TcCoe Idealize.SL.Sem

/-- Row `r` of the block's chunk `c`. -/
def rowOf (c : Fin 4) (r : Fin 64) : Fin 256 := ⟨64 * c.val + r.val, by omega⟩

/-- A value column among the 384 columns of the state. -/
def lo (e : Fin 256) : Fin 384 := ⟨e.val, by omega⟩

/-- The block's blocks hold the chunks `x` and the states' maxima `s`. -/
structure Fits (q k : Vec Ideal S256x128 .bf16) (v : Vec Ideal S256x256 .bf16) (bc mc : FVec Ideal S256x1 .f32) (g : Rows Ideal)
    (x : Fin 4 → Chunk) (s : Fin 5 → St) : Prop where
  q : ∀ c r d, q (ix2 (rowOf c r) d) = (x c).q r d
  k : ∀ c r d, k (ix2 (rowOf c r) d) = (x c).k r d
  v : ∀ c r e, v (ix2 (rowOf c r) e) = (x c).v r e
  bc : ∀ c r, bc (ix2 (rowOf c r) 0) = (x c).b r
  mc : ∀ c r, mc (ix2 (rowOf c r) 0) = (s c.castSucc).M
  i : ∀ c r, g.i (ix4 0 0 0 (rowOf c r)) = (x c).i r
  b : ∀ c r, g.b (ix4 0 0 0 (rowOf c r)) = (x c).b r
  bl : ∀ c r, g.bl (ix4 0 0 0 (rowOf c r)) = (x c).b 63
  ms : ∀ c r, g.ms (ix4 0 0 0 (rowOf c r)) = (s c.castSucc).M
  mn : ∀ c r, g.mn (ix4 0 0 0 (rowOf c r)) = mNew (x c) (s c.castSucc).M
  step : ∀ c : Fin 4, s c.succ = next (x c) (s c.castSucc)

/-- The kernel's 128×384 state holds the recurrence's: matrix in the first 256 columns, vector in column 256. -/
structure Holds (S : FVec Ideal S128x384 .f32) (s : St) : Prop where
  C : ∀ d e, S (ix2 d (lo e)) = s.C d e
  N : ∀ d, S (ix2 d 256) = s.N d

theorem vAug_lo (v : Vec Ideal S256x256 .bf16) (r : Fin 256) (e : Fin 256) : vAug v (ix2 r (lo e)) = v (ix2 r e) := by
  pointwise [vAug, lo]

theorem vAug_one (v : Vec Ideal S256x256 .bf16) (r : Fin 256) : vAug v (ix2 r 256) = 1 := by
  pointwise [vAug, k0_pay5]

section
variable {q k : Vec Ideal S256x128 .bf16} {v : Vec Ideal S256x256 .bf16} {bc mc : FVec Ideal S256x1 .f32} {g : Rows Ideal}
  {x : Fin 4 → Chunk} {s : Fin 5 → St}

/-- The scaled keys at a row of chunk `c`. -/
theorem kScaled_at (f : Fits q k v bc mc g x s) (c : Fin 4) (r : Fin 64) (d : Fin 128) :
    kScaled k g (ix2 d (rowOf c r)) = wk (x c) (s c.castSucc).M r * (x c).k r d := by
  pointwise [kScaled, k0_pay13, k0_pay10, k0_pay11, k0_pay12, row]
  rw [f.k, f.bl, f.b, f.i, f.mn, mul_comm, wk]

/-- The kept factor at a row of chunk `c`. -/
theorem carry_at (f : Fits q k v bc mc g x s) (c : Fin 4) (r : Fin 64) :
    carry g (ix2 0 (rowOf c r)) = keep (x c) (s c.castSucc).M := by
  pointwise [carry, row]
  rw [f.bl, f.ms, f.mn, keep]

/-- One chunk's step of the kernel's state is the recurrence's. -/
theorem advance_holds (f : Fits q k v bc mc g x s) (c : Fin 4) (h1 h2 h3) (S : FVec Ideal S128x384 .f32)
    (hS : Holds S (s c.castSucc)) : Holds (advance (64 * c.val) h1 h2 h3 v (kScaled k g) (carry g) S) (s c.succ) := by
  have hc : ∀ p, carry g (ix2 0 ⟨64 * c.val, p⟩) = keep (x c) (s c.castSucc).M := fun p => carry_at f c 0
  have hk : ∀ d (r : Fin 64) p, kScaled k g (ix2 d ⟨64 * c.val + r.val, p⟩) = wk (x c) (s c.castSucc).M r * (x c).k r d :=
    fun d r p => kScaled_at f c r d
  rw [f.step]
  constructor
  · intro d e
    have hv : ∀ (r : Fin 64) p, vAug v (ix2 ⟨64 * c.val + r.val, p⟩ (lo e)) = (x c).v r e :=
      fun r p => (vAug_lo v (rowOf c r) e).trans (f.v c r e)
    pointwise [advance]
    simp only [hc, hk, hv, hS.C, next]
    rw [mul_comm]
  · intro d
    have hv : ∀ (r : Fin 64) p, vAug v (ix2 ⟨64 * c.val + r.val, p⟩ 256) = 1 := fun r p => vAug_one v (rowOf c r)
    pointwise [advance]
    simp only [hc, hk, hv, hS.N, next, mul_one]
    rw [mul_comm]

/-- Row `r` of chunk `c` in its group of 128 rows (a group holds two chunks). -/
def inGroup (c : Fin 4) (r : Fin 64) : Fin 128 := ⟨64 * (c.val % 2) + r.val, by omega⟩

/-- The bit pattern of −∞. -/
theorem neg_inf : Ideal.ofBits .f32 0xFF800000#32 = ⊥ := by
  simp [Ideal.ofBits, Ideal.ieee]

theorem group_row (c : Fin 4) (r : Fin 64) (o : ℕ) (ho : o = 128 * (c.val / 2)) (p) :
    (⟨o + (inGroup c r).val, p⟩ : Fin 256) = rowOf c r := by
  apply Fin.ext
  simp only [inGroup, rowOf, ho]
  omega

/-- Inside a chunk, the kernel's log-weights are the recurrence's. -/
theorem logD_same (f : Fits q k v bc mc g x s) (c : Fin 4) (o : ℕ) (ho : o = 128 * (c.val / 2)) (h1 h2) (r t : Fin 64) :
    logD o h1 h2 bc g (ix2 (inGroup c r) (inGroup c t)) = logd (x c) r t := by
  pointwise [logD, row, k0_pay4]
  rw [mask_eq, group_row c r o ho, group_row c t o ho, f.bc, f.b, f.i, neg_inf, logd]
  have e1 : (inGroup c r).val / 64 = (inGroup c t).val / 64 := by simp only [inGroup]; omega
  have e2 : (inGroup c t).val ≤ (inGroup c r).val ↔ t ≤ r := by
    rw [Fin.le_def]; simp only [inGroup]; omega
  by_cases h : t ≤ r
  · rw [if_pos ⟨e1, e2.mpr h⟩, if_pos h]; rfl
  · rw [if_neg (fun hh => h (e2.mp hh.2)), if_neg h]; rfl

/-- Across chunks the kernel's log-weights are −∞. -/
theorem logD_other (c : Fin 4) (o : ℕ) (h1 h2) (bc : FVec Ideal S256x1 .f32) (g : Rows Ideal) (r : Fin 64) (b : Fin 128)
    (hb : b ∉ Set.range (inGroup c)) :
    logD o h1 h2 bc g (ix2 (inGroup c r) b) = ⊥ := by
  have e1 : ¬ (inGroup c r).val / 64 = b.val / 64 := by
    intro h
    simp only [inGroup] at h
    exact hb ⟨⟨b.val % 64, Nat.mod_lt _ (by norm_num)⟩, Fin.ext (by simp only [inGroup]; omega)⟩
  pointwise [logD, row, k0_pay4]
  rw [mask_eq, if_neg (fun hh => e1 hh.1), neg_inf]
  rfl

theorem inGroup_injective (c : Fin 4) : Function.Injective (inGroup c) := fun a b h => by
  have := congrArg Fin.val h
  simp only [inGroup] at this
  exact Fin.ext (by omega)

/-- A maximum over 128 entries of which only a chunk's are not −∞ is the maximum over the chunk. -/
theorem fold_group (c : Fin 4) (f : Fin 128 → EReal) (h : ∀ b, b ∉ Set.range (inGroup c) → f b = ⊥) :
    Finset.univ.fold max ⊥ f = Finset.univ.fold max ⊥ (fun t => f (inGroup c t)) := by
  show Finset.univ.sup f = Finset.univ.sup (fun t => f (inGroup c t))
  apply le_antisymm
  · refine Finset.sup_le fun b _ => ?_
    by_cases hb : b ∈ Set.range (inGroup c)
    · obtain ⟨t, rfl⟩ := hb
      exact Finset.le_sup (f := fun t => f (inGroup c t)) (Finset.mem_univ t)
    · rw [h b hb]; exact bot_le
  · exact Finset.sup_le fun t _ => Finset.le_sup (f := f) (Finset.mem_univ (inGroup c t))

/-- The kernel's stabilizer at a row is the recurrence's. -/
theorem mRow_at (f : Fits q k v bc mc g x s) (c : Fin 4) (o : ℕ) (ho : o = 128 * (c.val / 2)) (h1 h2) (r : Fin 64) (z : Fin 1) :
    mRow o h1 h2 bc mc g (ix2 (inGroup c r) z) = mt (x c) (s c.castSucc).M r := by
  pointwise [mRow]
  rw [neg_inf, fold_group c _ fun b hb => logD_other c o h1 h2 bc g r b hb]
  simp only [logD_same f c o ho]
  rw [group_row c r o ho, f.bc, f.mc, mt]

theorem exp_bot : Ideal.exp ⊥ = 0 := rfl

/-- The own-chunk part of a row, at any column of the augmented values. -/
theorem intra_at (f : Fits q k v bc mc g x s) (c : Fin 4) (o : ℕ) (ho : o = 128 * (c.val / 2)) (h1 h2 h3 h4) (r : Fin 64) (e : Fin 384) :
    intra o h1 h2 h3 h4 q k v bc mc g (ix2 (inGroup c r) e) = ∑ t, wt (x c) (s c.castSucc).M r t * vAug v (ix2 (rowOf c t) e) := by
  pointwise [intra]
  refine (Fintype.sum_of_injective (inGroup c) (inGroup_injective c) _ _ (fun b hb => ?_) (fun t => ?_)).symm
  · rw [logD_other c o h1 h2 bc g r b hb, EReal.bot_sub, exp_bot, mul_zero, mul_zero, zero_mul]
  · have hq : ∀ p d, q (ix2 ⟨o + (inGroup c r).val, p⟩ d) = (x c).q r d := fun p d => by rw [group_row c r o ho, f.q]
    have hk : ∀ p d, k (ix2 ⟨o + (inGroup c t).val, p⟩ d) = (x c).k t d := fun p d => by rw [group_row c t o ho, f.k]
    have hv : ∀ p, vAug v (ix2 ⟨o + (inGroup c t).val, p⟩ e) = vAug v (ix2 (rowOf c t) e) := fun p => by rw [group_row c t o ho]
    rw [logD_same f c o ho, mRow_at f c o ho, wt, sum_sc]
    simp only [hq, hk, hv]
    show _ = _ * (sc * _) * _
    rw [mul_comm sc, mul_assoc _ sc]

/-- The state's part of a row. -/
theorem fromState_at (f : Fits q k v bc mc g x s) (c : Fin 4) (o : ℕ) (ho : o = 64 * c.val) (h) (S : FVec Ideal S128x384 .f32) (r : Fin 64)
    (e : Fin 384) : fromState o h q S (ix2 r e) = ∑ d, (x c).q r d * S (ix2 d e) := by
  pointwise [fromState]
  subst ho
  have hq : ∀ p d, q (ix2 ⟨64 * c.val + r.val, p⟩ d) = (x c).q r d := fun p d => f.q c r d
  simp only [hq]

variable {st : Vec Ideal S1x128x384 .f32}

/-- The state the kernel holds before the block's chunk `c`. -/
def stBefore (k : Vec Ideal S256x128 .bf16) (v : Vec Ideal S256x256 .bf16) (g : Rows Ideal) (st : Vec Ideal S1x128x384 .f32) :
    Fin 4 → FVec Ideal S128x384 .f32 := ![st0 st, st1 k v g st, st2 k v g st, st3 k v g st]

theorem before_holds (f : Fits q k v bc mc g x s) (h0 : Holds (st0 st) (s 0)) : ∀ c : Fin 4, Holds (stBefore k v g st c) (s c.castSucc) := by
  have a1 : Holds (st1 k v g st) (s 1) := advance_holds f 0 _ _ _ _ h0
  have a2 : Holds (st2 k v g st) (s 2) := advance_holds f 1 _ _ _ _ a1
  have a3 : Holds (st3 k v g st) (s 3) := advance_holds f 2 _ _ _ _ a2
  intro c
  fin_cases c
  exacts [h0, a1, a2, a3]

/-- The state the head leaves holds the recurrence's state after the block. -/
theorem after_holds (f : Fits q k v bc mc g x s) (h0 : Holds (st0 st) (s 0)) : Holds (st4 k v g st) (s 4) :=
  advance_holds f 3 _ _ _ _ (before_holds f h0 3)

/-- A row of the block as the first 128 rows or the last hold it. -/
theorem row_lt (c : Fin 4) (r : Fin 64) (h : (rowOf c r).val < 128) : c.val / 2 = 0 ∧ ∀ p, (⟨(rowOf c r).val, p⟩ : Fin 128) = inGroup c r := by
  have h' : 64 * c.val + r.val < 128 := h
  refine ⟨by omega, fun p => Fin.ext ?_⟩
  show 64 * c.val + r.val = 64 * (c.val % 2) + r.val
  omega

@[inherit_doc row_lt]
theorem row_ge (c : Fin 4) (r : Fin 64) (h : ¬(rowOf c r).val < 128) :
    c.val / 2 = 1 ∧ ∀ p, (⟨(rowOf c r).val - 128, p⟩ : Fin 128) = inGroup c r := by
  have h' : ¬64 * c.val + r.val < 128 := h
  refine ⟨by omega, fun p => Fin.ext ?_⟩
  show 64 * c.val + r.val - 128 = 64 * (c.val % 2) + r.val
  omega

/-- The block's stabilizer is the recurrence's. -/
theorem mAll_at (f : Fits q k v bc mc g x s) (c : Fin 4) (r : Fin 64) :
    mAll bc mc g (ix2 (rowOf c r) 0) = mt (x c) (s c.castSucc).M r := by
  pointwise [mAll]
  by_cases h : (rowOf c r).val < 128
  · rw [dif_pos h, (row_lt c r h).2, mRow_at f c 0 (by rw [(row_lt c r h).1])]
  · rw [dif_neg h, (row_ge c r h).2, mRow_at f c 128 (by rw [(row_ge c r h).1])]

/-- The block's own-chunk part. -/
theorem intraAll_at (f : Fits q k v bc mc g x s) (c : Fin 4) (r : Fin 64) (e : Fin 384) :
    intraAll q k v bc mc g (ix2 (rowOf c r) e) = ∑ t, wt (x c) (s c.castSucc).M r t * vAug v (ix2 (rowOf c t) e) := by
  pointwise [intraAll]
  by_cases h : (rowOf c r).val < 128
  · rw [dif_pos h, (row_lt c r h).2, intra_at f c 0 (by rw [(row_lt c r h).1])]
  · rw [dif_neg h, (row_ge c r h).2, intra_at f c 128 (by rw [(row_ge c r h).1])]

/-- The block's part from the state. -/
theorem interAll_at (f : Fits q k v bc mc g x s) (c : Fin 4) (r : Fin 64) (e : Fin 384) :
    interAll q k v g st (ix2 (rowOf c r) e) = ∑ d, (x c).q r d * stBefore k v g st c (ix2 d e) := by
  pointwise [interAll]
  have hr := r.isLt
  obtain rfl | rfl | rfl | rfl : c = 0 ∨ c = 1 ∨ c = 2 ∨ c = 3 := by omega
  · have e0 : ∀ p, (⟨(rowOf 0 r).val, p⟩ : Fin 64) = r := fun p => Fin.ext (by show 64 * 0 + r.val = r.val; omega)
    rw [dif_pos (show (rowOf 0 r).val < 64 by show 64 * 0 + r.val < 64; omega)]
    exact (congrArg (fun a => fromState _ _ _ _ (ix2 a e)) (e0 _)).trans (fromState_at f 0 _ rfl _ _ r e)
  · have e0 : ∀ p, (⟨(rowOf 1 r).val - 64, p⟩ : Fin 64) = r := fun p => Fin.ext (by show 64 * 1 + r.val - 64 = r.val; omega)
    rw [dif_neg (show ¬(rowOf 1 r).val < 64 by show ¬64 * 1 + r.val < 64; omega), dif_pos (show (rowOf 1 r).val - 64 < 64 by show 64 * 1 + r.val - 64 < 64; omega)]
    exact (congrArg (fun a => fromState _ _ _ _ (ix2 a e)) (e0 _)).trans (fromState_at f 1 _ rfl _ _ r e)
  · have e0 : ∀ p, (⟨(rowOf 2 r).val - 64 - 64, p⟩ : Fin 64) = r := fun p => Fin.ext (by show 64 * 2 + r.val - 64 - 64 = r.val; omega)
    rw [dif_neg (show ¬(rowOf 2 r).val < 64 by show ¬64 * 2 + r.val < 64; omega), dif_neg (show ¬(rowOf 2 r).val - 64 < 64 by show ¬64 * 2 + r.val - 64 < 64; omega),
      dif_pos (show (rowOf 2 r).val - 64 - 64 < 64 by show 64 * 2 + r.val - 64 - 64 < 64; omega)]
    exact (congrArg (fun a => fromState _ _ _ _ (ix2 a e)) (e0 _)).trans (fromState_at f 2 _ rfl _ _ r e)
  · have e0 : ∀ p, (⟨(rowOf 3 r).val - 64 - 64 - 64, p⟩ : Fin 64) = r :=
      fun p => Fin.ext (by show 64 * 3 + r.val - 64 - 64 - 64 = r.val; omega)
    rw [dif_neg (show ¬(rowOf 3 r).val < 64 by show ¬64 * 3 + r.val < 64; omega), dif_neg (show ¬(rowOf 3 r).val - 64 < 64 by show ¬64 * 3 + r.val - 64 < 64; omega),
      dif_neg (show ¬(rowOf 3 r).val - 64 - 64 < 64 by show ¬64 * 3 + r.val - 64 - 64 < 64; omega)]
    exact (congrArg (fun a => fromState _ _ _ _ (ix2 a e)) (e0 _)).trans (fromState_at f 3 _ rfl _ _ r e)

/-- Numerators: the first 256 columns. -/
theorem num_at (f : Fits q k v bc mc g x s) (h0 : Holds (st0 st) (s 0)) (c : Fin 4) (r : Fin 64) (e : Fin 256) :
    numDen q k v bc mc g st (ix2 (rowOf c r) (lo e)) = num (x c) (s c.castSucc) r e := by
  pointwise [numDen]
  rw [mAll_at f, f.bc, f.mc, interAll_at f, intraAll_at f, num, sum_sc]
  simp only [vAug_lo, f.v, (before_holds f h0 c).C]
  show (sc * _) * _ + _ = _
  rw [mul_comm sc, mul_assoc]

/-- The denominator: column 256. -/
theorem den_at (f : Fits q k v bc mc g x s) (h0 : Holds (st0 st) (s 0)) (c : Fin 4) (r : Fin 64) :
    numDen q k v bc mc g st (ix2 (rowOf c r) 256) = den (x c) (s c.castSucc) r := by
  pointwise [numDen]
  rw [mAll_at f, f.bc, f.mc, interAll_at f, intraAll_at f, den, sum_sc]
  simp only [vAug_one, mul_one, (before_holds f h0 c).N]
  show (sc * _) * _ + _ = _
  rw [mul_comm sc, mul_assoc]

/-- THE HIDDEN ROWS of a block are the recurrence's. -/
theorem hid_at (f : Fits q k v bc mc g x s) (h0 : Holds (st0 st) (s 0)) (c : Fin 4) (r : Fin 64) (e : Fin 256) :
    hid q k v bc mc g st (ix2 (rowOf c r) e) = hidden (x c) (s c.castSucc) r e := by
  have hn : ∀ p, numDen q k v bc mc g st (ix2 (rowOf c r) ⟨e.val, p⟩) = num (x c) (s c.castSucc) r e := fun p => num_at f h0 c r e
  pointwise [hid]
  rw [hn, mAll_at f, den_at f h0, hidden, zero_sub]

end

end Cert.MLstm.Head
-- ==== Proof.Gate.lean ====
/- The gates: a logistic written over the hyperbolic tangent of half its argument is the logistic. -/
module

public import Idealize.ShloMosaic.Lib.Pointwise

@[expose] public section

noncomputable section

namespace Cert.MLstm

open Idealize.ShloMosaic

/-- One half, as the kernel writes it. -/
theorem half_eq : Ideal.ofBits .f32 1056964608#32 = (((1 : ℝ) / 2 : ℝ) : EReal) := by
  simp [Ideal.ofBits, Ideal.ieee, -EReal.coe_mul]
  norm_num

/-- The real identity behind the two gates. -/
theorem real_logistic (x : ℝ) : 1 / 2 + 1 / 2 * Real.tanh (1 / 2 * x) = (1 + Real.exp (-x))⁻¹ := by
  have h : Real.exp (-x) = Real.exp (-(1 / 2 * x)) * Real.exp (-(1 / 2 * x)) := by
    rw [← Real.exp_add]
    ring_nf
  have ha := Real.exp_pos (1 / 2 * x)
  have hab : Real.exp (1 / 2 * x) * Real.exp (-(1 / 2 * x)) = 1 := by
    rw [← Real.exp_add]
    simp
  rw [Real.tanh_eq_sinh_div_cosh, Real.sinh_eq, Real.cosh_eq, h]
  generalize Real.exp (1 / 2 * x) = a at *
  generalize Real.exp (-(1 / 2 * x)) = b at *
  have hb : 0 < b := by
    rcases lt_trichotomy b 0 with h0 | h0 | h0
    · nlinarith
    · simp [h0] at hab
    · exact h0
  have h1 : a + b ≠ 0 := by positivity
  have h2 : 1 + b * b ≠ 0 := by positivity
  field_simp
  linear_combination (2 * b) * hab

/-- The output gate: a half and half the tangent of the half are the logistic, at every extended real. -/
theorem logistic_of_tanh (x : EReal) :
    Ideal.ofBits .f32 1056964608#32 + Ideal.ofBits .f32 1056964608#32 * Ideal.tanh (Ideal.ofBits .f32 1056964608#32 * x) = Ideal.logistic x := by
  rw [half_eq]
  induction x with
  | bot =>
    rw [EReal.coe_mul_bot_of_pos (by norm_num), Ideal.tanh_bot, Ideal.logistic_bot, mul_neg_one, ← EReal.coe_neg, ← EReal.coe_add]
    norm_num
  | top =>
    rw [EReal.coe_mul_top_of_pos (by norm_num), Ideal.tanh_top, Ideal.logistic_top]
    norm_cast
    norm_num
  | coe x =>
    rw [← EReal.coe_mul, Ideal.tanh_coe, ← EReal.coe_mul, ← EReal.coe_add, Ideal.logistic_coe, real_logistic]

/-- The branch gate: half `z` and half `z` times the tangent of the half are `z` times its logistic, unless `z` is `-∞`. -/
theorem silu_of_tanh (z : EReal) (hz : z ≠ ⊥) :
    Ideal.ofBits .f32 1056964608#32 * z + Ideal.ofBits .f32 1056964608#32 * z * Ideal.tanh (Ideal.ofBits .f32 1056964608#32 * z) = z * Ideal.logistic z := by
  rw [← logistic_of_tanh, half_eq]
  induction z with
  | bot => exact absurd rfl hz
  | top =>
    rw [EReal.coe_mul_top_of_pos (by norm_num), Ideal.tanh_top, mul_one, mul_one]
    norm_cast
    norm_num
  | coe x =>
    rw [← EReal.coe_mul, Ideal.tanh_coe]
    norm_cast
    ring

end Cert.MLstm

end
-- ==== Proof.KernelArray.lean ====
/- The kernel's blocks and state at every grid point, read from the arrays: point `t` holds chunks `4 (t % 32) … + 3` of batch `t / 32`; by induction over the points the
   state scratch holds every head's state before its first chunk; so the array the kernel leaves is the layer's result. -/
module

public import proofs.«01_k».proof.Proof.Gen.KernelIdeal.Value
public import proofs.«01_k».proof.Proof.Arrays
public import proofs.«01_k».proof.Proof.Blocks
public import proofs.«01_k».proof.Proof.HeadValue
public import proofs.«01_k».proof.Proof.Gate
public import Idealize.ShloMosaic.Lib.Claim

@[expose] public section

set_option maxRecDepth 16384

noncomputable section

namespace Cert.MLstm

open Idealize.ShloMosaic

/-- The gate table's derived lanes follow from its first two: lane 2 is lane 1 at the chunk's last row, lane 3 is zero in the first chunk and the previous chunk's lane 4
    after it, lane 4 is the maximum after the chunk. -/
structure Follows (t : Fin 16384 → Fin 128 → EReal) : Prop where
  bl : ∀ (b : Fin 2) (h : Fin 8) (n : Fin 128) (r : Fin 64),
    t (rowAt b n r) ⟨h.val * 16 + 2, by omega⟩ = t (rowAt b n 63) ⟨h.val * 16 + 1, by omega⟩
  first : ∀ (b : Fin 2) (h : Fin 8) (r : Fin 64), t (rowAt b 0 r) ⟨h.val * 16 + 3, by omega⟩ = 0
  next : ∀ (b : Fin 2) (h : Fin 8) (n : ℕ), n + 1 < 128 → ∀ r : Fin 64,
    t (rowAt b (n + 1) r) ⟨h.val * 16 + 3, by omega⟩ = t (rowAt b n r) ⟨h.val * 16 + 4, by omega⟩
  max : ∀ (b : Fin 2) (h : Fin 8) (n : Fin 128) (r : Fin 64), t (rowAt b n r) ⟨h.val * 16 + 4, by omega⟩
    = Max.max (t (rowAt b n r) ⟨h.val * 16 + 2, by omega⟩ + t (rowAt b n r) ⟨h.val * 16 + 3, by omega⟩)
      (Finset.univ.fold Max.max ⊥ fun j => t (rowAt b n j) ⟨h.val * 16 + 2, by omega⟩ - t (rowAt b n j) ⟨h.val * 16 + 1, by omega⟩
        + t (rowAt b n j) ⟨h.val * 16, by omega⟩)

section

variable {p : Fin 16384 → Fin 24576 → EReal} {t : Fin 16384 → Fin 128 → EReal} (ft : Follows t)
include ft

/-- Where lane 3 is the running maximum before the chunk, lane 4 is the one after it. -/
theorem Follows.lane4 (b : Fin 2) (h : Fin 8) (n : ℕ) (hn : n < 128) (r : Fin 64) (M : EReal) (hM : t (rowAt b n r) ⟨h.val * 16 + 3, by omega⟩ = M) :
    t (rowAt b n r) ⟨h.val * 16 + 4, by omega⟩ = mNew (chunkAt p t b h n) M := by
  rw [ft.max b h ⟨n, hn⟩ r]
  have hb := ft.bl b h ⟨n, hn⟩
  simp only at hb ⊢
  simp only [hb, hM]
  rfl

/-- Lane 3 is the running maximum before the chunk. -/
theorem Follows.lane3 (b : Fin 2) (h : Fin 8) (n : ℕ) (hn : n < 128) (r : Fin 64) :
    t (rowAt b n r) ⟨h.val * 16 + 3, by omega⟩ = (stAt p t b h n).M := by
  induction n with
  | zero => exact ft.first b h r
  | succ n ih =>
    rw [ft.next b h n hn r, ft.lane4 (p := p) b h n (by omega) r _ (ih (by omega))]
    rfl

end

end Cert.MLstm

namespace Cert.MLstm.Kern

open Cert.KernelIdeal Cert.KernelIdeal.Gen Idealize.ShloMosaic Idealize.ShloMosaic.TcCoe Idealize.SL.Sem Cert.MLstm.Head

/-- The blocks' places, decided at every point. -/
theorem idx (t : Fin cfg0.N) : win0_0.index t = ![t.val, 12] ∧ win0_1.index t = ![t.val, 13] ∧ win0_2.index t = ![t.val, 7] ∧ win0_3.index t = ![t.val, 8]
    ∧ win0_4.index t = ![t.val, 9] ∧ win0_5.index t = ![t.val, 0] ∧ win0_6.index t = ![t.val / 32, 0, 0, t.val % 32] ∧ win0_7.index t = ![0, 0] := by
  revert t
  decide +kernel

variable (m : (ℓ : Loc nD τ sig) → Buf (Elt Ideal) ℓ) (c : Dev nD)

/-- The branches by row and column. -/
abbrev pAt : Fin 16384 → Fin 24576 → EReal := fun r l => m ((c : Thread nD τ).loc main_arg0) (ix2 r l)

/-- The gate table by row and lane. -/
abbrev tAt : Fin 16384 → Fin 128 → EReal := fun r l => m ((c : Thread nD τ).loc main_arg1) (ix2 r l)

/-- The norm's weights. -/
abbrev wAt : Fin 2048 → EReal := fun e => m ((c : Thread nD τ).loc main_arg2) (ix1 e)

theorem lt64 (t : Fin cfg0.N) : t.val < 64 := lt_of_lt_of_eq t.isLt N_0

/-- Point `t`'s batch. -/
def bat (t : Fin cfg0.N) : Fin 2 := ⟨t.val / 32, by have := lt64 t; omega⟩

/-- Row `64 k + r` of point `t`'s blocks is row `r` of chunk `4 (t % 32) + k`. -/
theorem row_eq (t : Fin cfg0.N) (k : Fin 4) (r : Fin 64) (h : t.val * 256 + (rowOf k r).val < 16384) :
    (⟨t.val * 256 + (rowOf k r).val, h⟩ : Fin 16384) = rowAt (bat t) (4 * (t.val % 32) + k.val) r := by
  have := lt64 t
  refine rowAt_eq _ _ (by omega) r ?_ h
  show t.val * 256 + (64 * k.val + r.val) = t.val / 32 * 8192 + ((4 * (t.val % 32) + k.val) * 64 + r.val)
  omega

theorem row_lt' (t : Fin cfg0.N) (a : Fin 256) : t.val * 256 + a.val < 16384 := by have := lt64 t; omega

theorem q_at (t : Fin cfg0.N) (a : Fin 256) (b : Fin 1024) :
    iblk m c 0 t (ix2 a b) = pAt m c ⟨t.val * 256 + a.val, row_lt' t a⟩ ⟨12288 + b.val, by omega⟩ := by
  blk_ext [iblk, V, idx t]

theorem k_at (t : Fin cfg0.N) (a : Fin 256) (b : Fin 1024) :
    iblk m c 1 t (ix2 a b) = pAt m c ⟨t.val * 256 + a.val, row_lt' t a⟩ ⟨13312 + b.val, by omega⟩ := by
  blk_ext [iblk, V, idx t]

theorem v_at (t : Fin cfg0.N) (a : Fin 256) (b : Fin 2048) :
    iblk m c 2 t (ix2 a b) = pAt m c ⟨t.val * 256 + a.val, row_lt' t a⟩ ⟨14336 + b.val, by omega⟩ := by
  blk_ext [iblk, V, idx t]

theorem o_at (t : Fin cfg0.N) (a : Fin 256) (b : Fin 2048) :
    iblk m c 3 t (ix2 a b) = pAt m c ⟨t.val * 256 + a.val, row_lt' t a⟩ ⟨16384 + b.val, by omega⟩ := by
  blk_ext [iblk, V, idx t]

theorem z_at (t : Fin cfg0.N) (a : Fin 256) (b : Fin 2048) :
    iblk m c 4 t (ix2 a b) = pAt m c ⟨t.val * 256 + a.val, row_lt' t a⟩ ⟨18432 + b.val, by omega⟩ := by
  blk_ext [iblk, V, idx t]

theorem col_at (t : Fin cfg0.N) (a : Fin 256) (b : Fin 128) : iblk m c 5 t (ix2 a b) = tAt m c ⟨t.val * 256 + a.val, row_lt' t a⟩ b := by
  blk_ext [iblk, V, idx t]

theorem rows_at (t : Fin cfg0.N) (h : Fin 8) (l : Fin 16) (a : Fin 256) :
    iblk m c 6 t (ix4 0 h l a) = tAt m c ⟨t.val * 256 + a.val, row_lt' t a⟩ ⟨h.val * 16 + l.val, by omega⟩ := by
  have := lt64 t
  blk_simp [iblk, idx t]
  entry_read
  pointwise
  blk_ext [idx t]

theorem w_at (t : Fin cfg0.N) (b : Fin 2048) : iblk m c 7 t (ix2 0 b) = wAt m c b := by
  blk_ext! [iblk, V, idx t]

/-- The column table is read unturned. -/
theorem colTab_at (i : grid0.Coords) (x : Vec Ideal S256x128 .f32) (a : Fin 256) (b : Fin 128) : colTab i x (ix2 a b) = x (ix2 a b) := by
  pointwise [colTab, k0_pay3]
  refine congrArg (fun l => x (ix2 a l)) (Fin.ext ?_)
  show (b.val + 128 - (Scalar.remsi (Scalar.muli (Scalar.subi 8#32 (Scalar.muli 0#32 8#32)) 16#32) 128#32).toNat % 128) % 128 = b.val
  have h0 : (Scalar.remsi (Scalar.muli (Scalar.subi 8#32 (Scalar.muli 0#32 8#32)) 16#32) 128#32).toNat = 0 := by decide
  rw [h0]
  omega

variable (ft : Follows (tAt m c))

include ft in
/-- Point `t`'s blocks of head `h` hold four chunks of its batch and their states' maxima. -/
theorem fits (t : Fin cfg0.N) (h : Fin 8) :
    Fits (bQ (iblk m c 0 t) h) (bQ (iblk m c 1 t) h) (bV (iblk m c 2 t) h) (bC (colTab (grid0.coords t) (iblk m c 5 t)) h 1)
      (bC (colTab (grid0.coords t) (iblk m c 5 t)) h 3) (bRows (iblk m c 6 t) h)
      (fun k => chunkAt (pAt m c) (tAt m c) (bat t) h (4 * (t.val % 32) + k.val)) (fun k => stAt (pAt m c) (tAt m c) (bat t) h (4 * (t.val % 32) + k.val)) where
  q k r d := by
    show iblk m c 0 t (ix2 (rowOf k r) ⟨128 * h.val + d.val, _⟩) = _
    rw [q_at, row_eq]
    exact congrArg (pAt m c _) (Fin.ext (by show 12288 + (128 * h.val + d.val) = 12288 + (h.val * 128 + d.val); omega))
  k k r d := by
    show iblk m c 1 t (ix2 (rowOf k r) ⟨128 * h.val + d.val, _⟩) = _
    rw [k_at, row_eq]
    exact congrArg (pAt m c _) (Fin.ext (by show 13312 + (128 * h.val + d.val) = 13312 + (h.val * 128 + d.val); omega))
  v k r d := by
    show iblk m c 2 t (ix2 (rowOf k r) ⟨256 * h.val + d.val, _⟩) = _
    rw [v_at, row_eq]
    exact congrArg (pAt m c _) (Fin.ext (by show 14336 + (256 * h.val + d.val) = 14336 + (h.val * 256 + d.val); omega))
  bc k r := by
    show colTab _ (iblk m c 5 t) (ix2 (rowOf k r) ⟨16 * h.val + 1, _⟩) = _
    rw [colTab_at, col_at, row_eq]
    exact congrArg (tAt m c _) (Fin.ext (by show 16 * h.val + 1 = h.val * 16 + 1; omega))
  mc k r := by
    show colTab _ (iblk m c 5 t) (ix2 (rowOf k r) ⟨16 * h.val + 3, _⟩) = _
    rw [colTab_at, col_at, row_eq]
    refine Eq.trans (congrArg (tAt m c _) (Fin.ext ?_)) (ft.lane3 (p := pAt m c) (bat t) h _ (by omega) r)
    show 16 * h.val + 3 = h.val * 16 + 3
    omega
  i k r := by
    show iblk m c 6 t (ix4 0 h 0 (rowOf k r)) = _
    rw [rows_at, row_eq]
    rfl
  b k r := by
    show iblk m c 6 t (ix4 0 h 1 (rowOf k r)) = _
    rw [rows_at, row_eq]
    rfl
  bl k r := by
    show iblk m c 6 t (ix4 0 h 2 (rowOf k r)) = _
    rw [rows_at, row_eq]
    exact ft.bl (bat t) h ⟨4 * (t.val % 32) + k.val, by omega⟩ r
  ms k r := by
    show iblk m c 6 t (ix4 0 h 3 (rowOf k r)) = _
    rw [rows_at, row_eq]
    exact ft.lane3 (bat t) h _ (by omega) r
  mn k r := by
    show iblk m c 6 t (ix4 0 h 4 (rowOf k r)) = _
    rw [rows_at, row_eq]
    exact ft.lane4 (bat t) h _ (by omega) r _ (ft.lane3 (bat t) h _ (by omega) r)
  step k := rfl

/-- The state scratch holds every head's state of batch `b` before chunk `n`. -/
def HoldsAll (S : Vec Ideal S8x128x384 .f32) (b : Fin 2) (n : ℕ) : Prop :=
  ∀ h : Fin 8, Holds (st0 (bS S h)) (stAt (pAt m c) (tAt m c) b h n)

/-- Zeros hold the states before any chunk. -/
theorem holds_zero (b : Fin 2) : HoldsAll m c (k0_pay2 (F := Ideal)) b 0 := by
  intro h
  constructor
  · intro d e
    show _ = (0 : EReal)
    pointwise [st0, bS, k0_pay2]
  · intro d
    show _ = (0 : EReal)
    pointwise [st0, bS, k0_pay2]

include ft

/-- A point leaves every head's state four chunks on. -/
theorem holds_after (t : Fin cfg0.N) (S : Vec Ideal S8x128x384 .f32) (hS : HoldsAll m c S (bat t) (4 * (t.val % 32))) :
    HoldsAll m c (stateAll (iblk m c 1 t) (iblk m c 2 t) (iblk m c 6 t) S) (bat t) (4 * (t.val % 32) + 4) := by
  intro h
  have e : st0 (bS (stateAll (iblk m c 1 t) (iblk m c 2 t) (iblk m c 6 t) S) h)
      = st4 (bQ (iblk m c 1 t) h) (bV (iblk m c 2 t) h) (bRows (iblk m c 6 t) h) (bS S h) := by
    funext y
    obtain ⟨d, l, rfl⟩ : ∃ d l, y = ix2 d l := ⟨y 0, y 1, by funext a; fin_cases a <;> rfl⟩
    pointwise [st0, bS, stateAll, stateOut]
  rw [e]
  exact after_holds (fits m c ft t h) (hS h)

/-- A point stores its rows of the layer's result. -/
theorem out_at (hz : ∀ (r : Fin 16384) (e : Fin 2048), pAt m c r ⟨18432 + e.val, by omega⟩ ≠ ⊥)
    (t : Fin cfg0.N) (S : Vec Ideal S8x128x384 .f32) (hS : HoldsAll m c S (bat t) (4 * (t.val % 32))) (a : Fin 256) (e : Fin 2048) :
    outAll (grid0.coords t) (iblk m c 0 t) (iblk m c 1 t) (iblk m c 2 t) (iblk m c 3 t) (iblk m c 4 t) (iblk m c 5 t) (iblk m c 6 t) (iblk m c 7 t) S (ix2 a e)
      = result (pAt m c) (tAt m c) (wAt m c) ⟨t.val * 256 + a.val, row_lt' t a⟩ e := by
  have h64 := lt64 t
  obtain ⟨k, r, rfl⟩ : ∃ k r, a = rowOf k r := ⟨⟨a.val / 64, by omega⟩, ⟨a.val % 64, by omega⟩, Fin.ext (by show a.val = 64 * (a.val / 64) + a.val % 64; omega)⟩
  obtain ⟨h, d, hd, rfl⟩ : ∃ (h : Fin 8) (d : Fin 256) (hd : 256 * h.val + d.val < 2048), e = ⟨256 * h.val + d.val, hd⟩ :=
    ⟨⟨e.val / 256, by omega⟩, ⟨e.val % 256, by omega⟩, by show 256 * (e.val / 256) + e.val % 256 < 2048; omega,
      Fin.ext (by show e.val = 256 * (e.val / 256) + e.val % 256; omega)⟩
  have hh : ∀ x : Fin 256, hid (bQ (iblk m c 0 t) h) (bQ (iblk m c 1 t) h) (bV (iblk m c 2 t) h) (bC (colTab (grid0.coords t) (iblk m c 5 t)) h 1)
      (bC (colTab (grid0.coords t) (iblk m c 5 t)) h 3) (bRows (iblk m c 6 t) h) (bS S h) (ix2 (rowOf k r) x)
      = hidAt (pAt m c) (tAt m c) (bat t) h (4 * (t.val % 32) + k.val) r x := fun x => hid_at (fits m c ft t h) (hS h) k r x
  have hrow : hidRow (pAt m c) (tAt m c) ⟨t.val * 256 + (rowOf k r).val, row_lt' t _⟩ ⟨256 * h.val + d.val, hd⟩
      = hidAt (pAt m c) (tAt m c) (bat t) h (4 * (t.val % 32) + k.val) r := by
    have hv : (rowOf k r).val = 64 * k.val + r.val := rfl
    unfold hidRow
    simp only [hv]
    congr 1
    · exact Fin.ext (by show (t.val * 256 + (64 * k.val + r.val)) / 8192 = t.val / 32; omega)
    · exact Fin.ext (by show (256 * h.val + d.val) / 256 = h.val; omega)
    · omega
    · exact Fin.ext (by show (t.val * 256 + (64 * k.val + r.val)) % 8192 % 64 = r.val; omega)
  have hout : outAll (grid0.coords t) (iblk m c 0 t) (iblk m c 1 t) (iblk m c 2 t) (iblk m c 3 t) (iblk m c 4 t) (iblk m c 5 t) (iblk m c 6 t) (iblk m c 7 t) S
      (ix2 (rowOf k r) ⟨256 * h.val + d.val, hd⟩)
      = outHead (grid0.coords t) (iblk m c 0 t) (iblk m c 1 t) (iblk m c 2 t) (iblk m c 3 t) (iblk m c 4 t) (iblk m c 5 t) (iblk m c 6 t) (iblk m c 7 t) S h
        (ix2 (rowOf k r) d) := by
    unfold outAll
    congr 1
    · exact Fin.ext (by show (256 * h.val + d.val) / 256 = h.val; omega)
    · exact congrArg (ix2 (rowOf k r)) (Fin.ext (by show (256 * h.val + d.val) % 256 = d.val; omega))
  have hw : bW (iblk m c 7 t) h (ix2 0 d) = wAt m c ⟨256 * h.val + d.val, hd⟩ := w_at m c t _
  have ho : bV (iblk m c 3 t) h (ix2 (rowOf k r) d) = pAt m c ⟨t.val * 256 + (rowOf k r).val, row_lt' t _⟩ ⟨16384 + (256 * h.val + d.val), by omega⟩ := o_at m c t _ _
  have hzv : bV (iblk m c 4 t) h (ix2 (rowOf k r) d) = pAt m c ⟨t.val * 256 + (rowOf k r).val, row_lt' t _⟩ ⟨18432 + (256 * h.val + d.val), by omega⟩ := z_at m c t _ _
  have hd' : (⟨(256 * h.val + d.val) % 256, by omega⟩ : Fin 256) = d := Fin.ext (by show (256 * h.val + d.val) % 256 = d.val; omega)
  rw [hout]
  unfold outHead result
  rw [hrow, hd']
  pointwise [gated, rms]
  simp only [hh, hw, ho, hzv]
  rw [logistic_of_tanh, silu_of_tanh _ (hz _ ⟨256 * h.val + d.val, hd⟩)]
  rfl

/-- What a point leaves, over what the point before left: its rows of the result, and the states four chunks on. -/
theorem point (hz : ∀ (r : Fin 16384) (e : Fin 2048), pAt m c r ⟨18432 + e.val, by omega⟩ ≠ ⊥) (t : Fin cfg0.N)
    (acc : Vec Ideal S256x2048 .bf16 × Vec Ideal S8x128x384 .f32) (ha : t.val % 32 ≠ 0 → HoldsAll m c acc.2 (bat t) (4 * (t.val % 32))) :
    (∀ a e, (Cert.KernelIdeal.Value.stAt0 m c t.val t.isLt acc).1 (ix2 a e) = result (pAt m c) (tAt m c) (wAt m c) ⟨t.val * 256 + a.val, row_lt' t a⟩ e)
    ∧ HoldsAll m c (Cert.KernelIdeal.Value.stAt0 m c t.val t.isLt acc).2 (bat t) (4 * (t.val % 32) + 4) := by
  by_cases h0 : t.val % 32 = 0
  · have hS : HoldsAll m c (k0_pay2 (F := Ideal)) (bat t) (4 * (t.val % 32)) := by rw [h0]; exact holds_zero m c _
    rw [Cert.KernelIdeal.Value.stAt0_A m c t acc h0]
    dsimp only
    rw [outA, stateA]
    exact ⟨out_at m c ft hz t _ hS, holds_after m c ft t _ hS⟩
  · have hS := ha h0
    rw [Cert.KernelIdeal.Value.stAt0_B m c t acc h0]
    dsimp only
    rw [outB, stateB]
    exact ⟨out_at m c ft hz t _ hS, holds_after m c ft t _ hS⟩

/-- Every point leaves its rows of the result, and the states four chunks on. -/
theorem points (hz : ∀ (r : Fin 16384) (e : Fin 2048), pAt m c r ⟨18432 + e.val, by omega⟩ ≠ ⊥) (n : ℕ) (hn : n < cfg0.N) :
    (∀ a e, (outsAt0 m c n hn).1 (ix2 a e) = result (pAt m c) (tAt m c) (wAt m c) ⟨n * 256 + a.val, row_lt' ⟨n, hn⟩ a⟩ e)
    ∧ HoldsAll m c (outsAt0 m c n hn).2 (bat ⟨n, hn⟩) (4 * (n % 32) + 4) := by
  induction n with
  | zero =>
    rw [Cert.KernelIdeal.Value.outsAt0_zero]
    exact point m c ft hz ⟨0, hn⟩ _ (fun h => absurd rfl h)
  | succ n ih =>
    rw [Cert.KernelIdeal.Value.outsAt0_succ]
    refine point m c ft hz ⟨n + 1, hn⟩ _ (fun h => ?_)
    have h' : (n + 1) % 32 ≠ 0 := h
    have hb : bat ⟨n + 1, hn⟩ = bat ⟨n, Nat.lt_of_succ_lt hn⟩ := Fin.ext (by show (n + 1) / 32 = n / 32; omega)
    have hc : 4 * ((n + 1) % 32) = 4 * (n % 32) + 4 := by omega
    show HoldsAll m c _ (bat ⟨n + 1, hn⟩) (4 * ((n + 1) % 32))
    rw [hb, hc]
    exact (ih (Nat.lt_of_succ_lt hn)).2

/-- The array the kernel leaves is the layer's result. -/
theorem array_at (hz : ∀ (r : Fin 16384) (e : Fin 2048), pAt m c r ⟨18432 + e.val, by omega⟩ ≠ ⊥) (r : Fin 16384) (e : Fin 2048) :
    Cert.KernelIdeal.Value.G8 m c (ix2 r e) = result (pAt m c) (tAt m c) (wAt m c) r e := by
  have hp : r.val / 256 < cfg0.N := by rw [show cfg0.N = 64 from N_0]; omega
  have hpt : Cert.KernelIdeal.Value.pt8Of (ix2 r e) = r.val / 256 := by
    show 1 * (r.val / 256 - 0) + 1 * (e.val / 2048 - 0) = r.val / 256
    omega
  have hloc : Cert.KernelIdeal.Value.loc8Of (ix2 r e) = ix2 (⟨r.val % 256, by omega⟩ : Fin 256) e := by
    funext a
    fin_cases a
    · rfl
    · exact Fin.ext (by show e.val % 2048 = e.val; omega)
  unfold Cert.KernelIdeal.Value.G8
  rw [dif_pos (by rw [hpt]; exact hp), hloc]
  have hs := Cert.KernelIdeal.Value.outsAt0_sweep m c (r.val / 256) hp
  rw [Cert.KernelIdeal.Value.fold0_congr m c _ _ (r.val / 256) (by omega) hpt, ← hs, (points m c ft hz _ hp).1]
  exact congrArg (fun r => result (pAt m c) (tAt m c) (wAt m c) r e) (Fin.ext (by show r.val / 256 * 256 + r.val % 256 = r.val; omega))

end Cert.MLstm.Kern

end
-- ==== Proof.Table.lean ====
/- What the precondition says of the gate table and the output gate's columns. -/
module

public import proofs.«01_k».proof.Defs
public import proofs.«01_k».proof.Proof.KernelArray

@[expose] public section

set_option maxRecDepth 16384

noncomputable section

namespace Cert.MLstm.Table

open Idealize.ShloMosaic Cert.Pre_table_follows

/-- An equality the comparison finds is one. -/
theorem eq_of_cmp (x y : EReal) (h : Ideal.cmp .oeq x y = 1#1) : x = y := by
  by_contra hn
  simp [Ideal.cmp, hn] at h

/-- A strict inequality the comparison finds is one. -/
theorem gt_of_cmp (x y : EReal) (h : Ideal.cmp .ogt x y = 1#1) : x > y := by
  by_contra hn
  simp [Ideal.cmp, hn] at h

/-- A row of the arrays, its number written out. -/
theorem row (b : Fin 2) (n : ℕ) (hn : n < 128) (r : Fin 64) (h : b.val * 8192 + n * 64 + r.val < 16384) :
    (⟨b.val * 8192 + n * 64 + r.val, h⟩ : Fin 16384) = rowAt b n r :=
  rowAt_eq b n hn r (Nat.add_assoc _ _ _) h

variable [Cert.Pre_table_follows.Facts] (P : Vec Ideal S16384x24576 .bf16) (T : Vec Ideal S16384x128 .f32) (W : Vec Ideal S2048 .f32)

/-- Lane 2 is lane 1 at the chunk's last row. -/
theorem bl_of (h1 : (Cert.Pre_table_follows.fn (F := Ideal) P T W).1 = fun _ => 1#1) (b : Fin 2) (h : Fin 8) (n : Fin 128) (r : Fin 64) :
    T (ix2 (rowAt b n r) ⟨h.val * 16 + 2, by omega⟩) = T (ix2 (rowAt b n 63) ⟨h.val * 16 + 1, by omega⟩) := by
  have hx := congrFun h1 (ix4 b n r h)
  unfold Cert.Pre_table_follows.fn fn_part1 at hx
  refine eq_of_cmp _ _ (Eq.trans ?_ hx)
  pointwise
  have last : ∀ h, (⟨b.val * 8192 + n.val * 64 + 63, h⟩ : Fin 16384) = rowAt b n 63 := fun h => row b n n.isLt 63 h
  simp only [row b n n.isLt, last]

/-- Lane 3 of the table, in the layout by batch, chunk, row and head. -/
def lane3 : Vec Ideal S2x128x64x8 .f32 :=
  shapeCast S2x128x64x8 (extractStridedSlice S2x128x64x8x1 ![0, 0, 0, 0, 3] (shapeCast S2x128x64x8x16 T Facts.shapeCasts_S16384x128_S2x128x64x8x16)
    Facts.slices_S2x128x64x8x16_S2x128x64x8x1_0_0_0_0_3) Facts.shapeCasts_S2x128x64x8x1_S2x128x64x8

/-- Lane 3, read from the table. -/
theorem lane3_at (b : Fin 2) (n : Fin 128) (r : Fin 64) (h : Fin 8) : lane3 T (ix4 b n r h) = T (ix2 (rowAt b n r) ⟨h.val * 16 + 3, by omega⟩) := by
  pointwise [lane3]
  rw [row b n n.isLt]

/-- Lane 3 is zero in the first chunk. -/
theorem first_of (h1 : (Cert.Pre_table_follows.fn (F := Ideal) P T W).2.1 = fun _ => 1#1) (b : Fin 2) (h : Fin 8) (r : Fin 64) :
    T (ix2 (rowAt b 0 r) ⟨h.val * 16 + 3, by omega⟩) = 0 := by
  have hx : Ideal.cmp .oeq (extractStridedSlice S2x1x64x8 ![0, 0, 0, 0] (lane3 T) Facts.slices_S2x128x64x8_S2x1x64x8_0_0_0_0 (ix4 b 0 r h))
      (Ideal.ofBits .f32 0#32) = 1#1 := congrFun h1 (ix4 b 0 r h)
  have e : extractStridedSlice S2x1x64x8 ![0, 0, 0, 0] (lane3 T) Facts.slices_S2x128x64x8_S2x1x64x8_0_0_0_0 (ix4 b 0 r h) = lane3 T (ix4 b 0 r h) :=
    congrArg (lane3 T) (by funext a; fin_cases a <;> exact Fin.ext (Nat.zero_add _))
  rw [e, lane3_at] at hx
  exact (eq_of_cmp _ _ hx).trans (Ideal.ofBits_zero .f32)

/-- Lane 3 is the previous chunk's lane 4 in the chunks after it. -/
theorem next_of (h1 : (Cert.Pre_table_follows.fn (F := Ideal) P T W).2.2.1 = fun _ => 1#1) (b : Fin 2) (h : Fin 8) (n : ℕ) (hn : n + 1 < 128) (r : Fin 64) :
    T (ix2 (rowAt b (n + 1) r) ⟨h.val * 16 + 3, by omega⟩) = T (ix2 (rowAt b n r) ⟨h.val * 16 + 4, by omega⟩) := by
  have hx := congrFun h1 (ix4 b (⟨n, by omega⟩ : Fin 127) r h)
  unfold Cert.Pre_table_follows.fn fn_part1 at hx
  refine eq_of_cmp _ _ (Eq.trans ?_ hx)
  pointwise
  have step : ∀ h, (⟨b.val * 8192 + (1 + n) * 64 + r.val, h⟩ : Fin 16384) = rowAt b (n + 1) r := fun h =>
    rowAt_eq b (n + 1) hn r (by omega) h
  simp only [row b n (by omega), step]

/-- Lane 4 is the running maximum after the chunk. -/
theorem max_of (h1 : (Cert.Pre_table_follows.fn (F := Ideal) P T W).2.2.2.1 = fun _ => 1#1) (b : Fin 2) (h : Fin 8) (n : Fin 128) (r : Fin 64) :
    T (ix2 (rowAt b n r) ⟨h.val * 16 + 4, by omega⟩)
    = Max.max (T (ix2 (rowAt b n r) ⟨h.val * 16 + 2, by omega⟩) + T (ix2 (rowAt b n r) ⟨h.val * 16 + 3, by omega⟩))
      (Finset.univ.fold Max.max ⊥ fun j => T (ix2 (rowAt b n j) ⟨h.val * 16 + 2, by omega⟩) - T (ix2 (rowAt b n j) ⟨h.val * 16 + 1, by omega⟩)
        + T (ix2 (rowAt b n j) ⟨h.val * 16, by omega⟩)) := by
  have hx := congrFun h1 (ix4 b n r h)
  unfold Cert.Pre_table_follows.fn fn_part1 at hx
  refine eq_of_cmp _ _ (Eq.trans ?_ hx)
  pointwise
  simp only [row b n n.isLt, Cert.MLstm.Head.neg_inf]

/-- The output gate's columns are above `⊥`. -/
theorem z_of (h1 : (Cert.Pre_table_follows.fn (F := Ideal) P T W).2.2.2.2 = fun _ => 1#1) (r : Fin 16384) (e : Fin 2048) :
    P (ix2 r ⟨18432 + e.val, by omega⟩) ≠ ⊥ := by
  have hx := congrFun h1 (ix2 r e)
  unfold Cert.Pre_table_follows.fn fn_part1 at hx
  have := gt_of_cmp (P (ix2 r ⟨18432 + e.val, by omega⟩)) ⊥ (Eq.trans ?_ hx)
  · exact ne_of_gt this
  · pointwise
    rw [Cert.MLstm.Head.neg_inf]

end Cert.MLstm.Table

namespace Cert.MLstm

open Idealize.ShloMosaic

/-- The precondition says that the gate table's derived lanes follow from its first two. -/
theorem follows_of [Cert.Pre_table_follows.Facts] (m) (hp : Cert.Pre_KernelIdeal_table_follows m) (c : Dev Cert.KernelIdeal.nD) :
    Follows (Kern.tAt m c) where
  bl := Table.bl_of _ _ _ (hp c).1
  first := Table.first_of _ _ _ (hp c).2.1
  next := Table.next_of _ _ _ (hp c).2.2.1
  max := Table.max_of _ _ _ (hp c).2.2.2.1

/-- The precondition says that the output gate's columns are above `⊥`. -/
theorem above_of [Cert.Pre_table_follows.Facts] (m) (hp : Cert.Pre_KernelIdeal_table_follows m) (c : Dev Cert.KernelIdeal.nD)
    (r : Fin 16384) (e : Fin 2048) : Kern.pAt m c r ⟨18432 + e.val, by omega⟩ ≠ ⊥ :=
  Table.z_of _ _ _ (hp c).2.2.2.2 r e

end Cert.MLstm

end
-- ==== Proof.Merge.lean ====
/- The gated merge of the two branches: each product is a sum over the branch's columns, each gate a logistic; the kernel's rows and columns tile the result. -/
module

public import proofs.«01_k».proof.Proof.Gen.Kernel2Ideal.Value
public import proofs.«01_k».proof.Proof.Gen.Reference2Ideal.Run
public import proofs.«01_k».proof.Defs
public import proofs.«01_k».proof.Proof.Gate
public import Idealize.ShloMosaic.Lib.Claim
public import Idealize.ShloMosaic.Lib.Pipeline.ValueKit

@[expose] public section

set_option maxRecDepth 16384

noncomputable section

namespace Cert.Merge

open Idealize.ShloMosaic Idealize.SL.Sem

/-- The merged branches at a row and a column. -/
def merged (ya : Fin 16384 → Fin 4096 → EReal) (hb : Fin 16384 → Fin 2048 → EReal) (p : Fin 16384 → Fin 24576 → EReal)
    (wa : Fin 4096 → Fin 2048 → EReal) (wb : Fin 2048 → Fin 2048 → EReal) (r : Fin 16384) (e : Fin 2048) : EReal :=
  Ideal.logistic (p r ⟨20480 + e.val, by omega⟩) * (∑ k, ya r k * wa k e) + Ideal.logistic (p r ⟨22528 + e.val, by omega⟩) * (∑ k, hb r k * wb k e)

section

open Cert.Kernel2Ideal Cert.Kernel2Ideal.Gen Idealize.ShloMosaic.TcCoe

variable (m : (ℓ : Loc nD τ sig) → Buf (Elt Ideal) ℓ) (c : Dev nD)

/-- The blocks' places, decided at every point. -/
theorem idx (t : Fin cfg0.N) : win0_0.index t = ![t.val / 4, 0] ∧ win0_1.index t = ![t.val / 4, 0] ∧ win0_2.index t = ![0, t.val % 4]
    ∧ win0_3.index t = ![0, t.val % 4] ∧ win0_4.index t = ![t.val / 4, 40 + t.val % 4] ∧ win0_5.index t = ![t.val / 4, 44 + t.val % 4]
    ∧ win0_6.index t = ![t.val / 4, t.val % 4] := by
  revert t
  decide +kernel

theorem lt64 (t : Fin cfg0.N) : t.val < 64 := lt_of_lt_of_eq t.isLt N_0

/-- Row `a` of point `t`'s blocks. -/
def row (t : Fin cfg0.N) (a : Fin 1024) : Fin 16384 := ⟨t.val / 4 * 1024 + a.val, by have := lt64 t; omega⟩

/-- Column `b` of point `t`'s blocks. -/
def col (t : Fin cfg0.N) (b : Fin 512) : Fin 2048 := ⟨t.val % 4 * 512 + b.val, by omega⟩

theorem ya_at (t : Fin cfg0.N) (a : Fin 1024) (k : Fin 4096) : iblk m c 0 t (ix2 a k) = m ((c : Thread nD τ).loc main_arg0) (ix2 (row t a) k) := by
  blk_ext [iblk, V, idx t, row, col] <;> omega

theorem hb_at (t : Fin cfg0.N) (a : Fin 1024) (k : Fin 2048) : iblk m c 1 t (ix2 a k) = m ((c : Thread nD τ).loc main_arg1) (ix2 (row t a) k) := by
  blk_ext [iblk, V, idx t, row, col] <;> omega

theorem ga_at (t : Fin cfg0.N) (a : Fin 1024) (b : Fin 512) :
    iblk m c 4 t (ix2 a b) = m ((c : Thread nD τ).loc main_arg2) (ix2 (row t a) ⟨20480 + (col t b).val, by omega⟩) := by
  blk_ext [iblk, V, idx t, row, col] <;> omega

theorem gb_at (t : Fin cfg0.N) (a : Fin 1024) (b : Fin 512) :
    iblk m c 5 t (ix2 a b) = m ((c : Thread nD τ).loc main_arg2) (ix2 (row t a) ⟨22528 + (col t b).val, by omega⟩) := by
  blk_ext [iblk, V, idx t, row, col] <;> omega

theorem wa_at (t : Fin cfg0.N) (k : Fin 4096) (b : Fin 512) : iblk m c 2 t (ix2 k b) = m ((c : Thread nD τ).loc main_arg3) (ix2 k (col t b)) := by
  blk_simp [iblk, idx t]
  entry_read
  pointwise
  blk_ext [idx t, row, col] <;> omega

theorem wb_at (t : Fin cfg0.N) (k : Fin 2048) (b : Fin 512) : iblk m c 3 t (ix2 k b) = m ((c : Thread nD τ).loc main_arg4) (ix2 k (col t b)) := by
  blk_simp [iblk, idx t]
  entry_read
  pointwise
  blk_ext [idx t, row, col] <;> omega

/-- The kernel's merged branches. -/
abbrev kernelMerged : Fin 16384 → Fin 2048 → EReal :=
  merged (fun r k => m ((c : Thread nD τ).loc main_arg0) (ix2 r k)) (fun r k => m ((c : Thread nD τ).loc main_arg1) (ix2 r k))
    (fun r k => m ((c : Thread nD τ).loc main_arg2) (ix2 r k)) (fun k e => m ((c : Thread nD τ).loc main_arg3) (ix2 k e))
    (fun k e => m ((c : Thread nD τ).loc main_arg4) (ix2 k e))

/-- What a point writes back. -/
theorem out_at (t : Fin cfg0.N) (a : Fin 1024) (b : Fin 512) :
    out0_6 (iblk m c 0 t) (iblk m c 1 t) (iblk m c 2 t) (iblk m c 3 t) (iblk m c 4 t) (iblk m c 5 t) (ix2 a b)
      = kernelMerged m c (row t a) (col t b) := by
  unfold out0_6
  frame_out
  pointwise [k0_pay1]
  simp only [ya_at, hb_at, ga_at, gb_at, wa_at, wb_at, Cert.MLstm.logistic_of_tanh]
  rfl

/-- Where an element of a point's block stands in the array. -/
theorem emb_at (t : Fin cfg0.N) (a : Fin 1024) (b : Fin 512) : (win0_6.blk t).view.emb (ix2 a b) = ix2 (row t a) (col t b) := by
  have h6 := (idx t).2.2.2.2.2.2
  funext d
  apply Fin.ext
  match d with
  | ⟨0, _⟩ =>
    show win0_6.index t 0 * 1024 + 1 * a.val = _
    rw [h6]
    show t.val / 4 * 1024 + 1 * a.val = t.val / 4 * 1024 + a.val
    omega
  | ⟨1, _⟩ =>
    show win0_6.index t 1 * 512 + 1 * b.val = _
    rw [h6]
    show t.val % 4 * 512 + 1 * b.val = t.val % 4 * 512 + b.val
    omega

/-- The array the kernel leaves. -/
theorem array_eq : (dats m 0 c).arrAt 6 cfg0.N = fun j => kernelMerged m c (j 0) (j 1) := by
  refine (dats m 0 c).arrAt_eq_of_covers 6 _ (by decide +kernel) fun t hf y => ?_
  blk_simp
  rw [after0_6]
  obtain ⟨a, b, rfl⟩ : ∃ (a : Fin 1024) (b : Fin 512), y = ix2 a b := ⟨y 0, y 1, by funext x; fin_cases x <;> rfl⟩
  refine (out_at m c t a b).trans ?_
  rw [emb_at]
  rfl

end

section

open Cert.Reference2Ideal Cert.Reference2Ideal.Gen

/-- The reference's result, as its operations spell it. -/
def refTerm (x0 : FVec Ideal S16384x4096 .bf16) (x1 : FVec Ideal S16384x2048 .bf16) (x2 : FVec Ideal S16384x24576 .bf16)
    (x3 : FVec Ideal S4096x2048 .f32) (x4 : FVec Ideal S2048x2048 .f32) : FVec Ideal S16384x2048 .bf16 :=
  truncf .bf16 (addf (mulf (Host.divf (broadcastInDim S16384x2048 ![] bcast_S_S16384x2048 (constant S_ .f32 0x3F800000#32)) (addf (broadcastInDim S16384x2048 ![] bcast_S_S16384x2048 (constant S_ .f32 0x3F800000#32)) (Host.exp (Host.negf (extf .f32 (extractStridedSlice S16384x2048 ![0, 20480] x2 slices_S16384x24576_S16384x2048_0_20480) bitsLt_bf16_f32))))) (Host.dotGeneral dot_S16384x4096_S4096x2048_S16384x2048_1_0_0_1_n_n none (extf .f32 x0 bitsLt_bf16_f32) x3)) (mulf (Host.divf (broadcastInDim S16384x2048 ![] bcast_S_S16384x2048 (constant S_ .f32 0x3F800000#32)) (addf (broadcastInDim S16384x2048 ![] bcast_S_S16384x2048 (constant S_ .f32 0x3F800000#32)) (Host.exp (Host.negf (extf .f32 (extractStridedSlice S16384x2048 ![0, 22528] x2 slices_S16384x24576_S16384x2048_0_22528) bitsLt_bf16_f32))))) (Host.dotGeneral dot_S16384x2048_S2048x2048_S16384x2048_1_0_0_1_n_n none (extf .f32 x1 bitsLt_bf16_f32) x4))) bitsLt_bf16_f32

/-- The reference's result at a row and a column. -/
theorem ref_at (x0 : FVec Ideal S16384x4096 .bf16) (x1 : FVec Ideal S16384x2048 .bf16) (x2 : FVec Ideal S16384x24576 .bf16)
    (x3 : FVec Ideal S4096x2048 .f32) (x4 : FVec Ideal S2048x2048 .f32) (r : Fin 16384) (e : Fin 2048) :
    refTerm x0 x1 x2 x3 x4 (ix2 r e) = merged (fun r k => x0 (ix2 r k)) (fun r k => x1 (ix2 r k)) (fun r k => x2 (ix2 r k))
      (fun k e => x3 (ix2 k e)) (fun k e => x4 (ix2 k e)) r e := by
  pointwise [refTerm]
  rfl

end

/-- From equal arguments the kernel and the reference end with equal arrays. -/
theorem equal : Cert.algebraic_Kernel2Ideal_Reference2Ideal (hKernel2Ideal := Cert.Kernel2Ideal.Gen.facts)
    (hReference2Ideal := Cert.Reference2Ideal.Gen.facts) := by
  intro m g m' g' _ ha
  refine ⟨fun c => (Cert.Kernel2Ideal.Gen.dats m 0 c).arrAt 6 Cert.Kernel2Ideal.cfg0.N, Cert.Kernel2Ideal.Value.run_blocks m g, ?_⟩
  refine (θ_run _ _ _).mono (fun r h c => ⟨(h c).1.trans ?_, (h c).2⟩) (Cert.Reference2Ideal.Value.run m' g')
  rw [(ha c).1, (ha c).2.1, (ha c).2.2.1, (ha c).2.2.2.1, (ha c).2.2.2.2]
  refine Eq.trans ?_ (array_eq m c).symm
  funext i
  obtain ⟨a, e, rfl⟩ : ∃ (a : Fin 16384) (e : Fin 2048), i = ix2 a e := ⟨i 0, i 1, by funext x; fin_cases x <;> rfl⟩
  exact ref_at _ _ _ _ _ a e

end Cert.Merge

end
-- ==== Proof.Out.lean ====
/- The output projection: the merged branches through the output weights, each row normalized by its root mean square, gated and added to the row it came from. -/
module

public import proofs.«01_k».proof.Proof.Gen.Kernel3Ideal.Value
public import proofs.«01_k».proof.Proof.Gen.Reference3Ideal.Run
public import proofs.«01_k».proof.Defs
public import Idealize.ShloMosaic.Lib.Claim
public import Idealize.ShloMosaic.Lib.Pipeline.ValueKit

@[expose] public section

set_option maxRecDepth 16384

noncomputable section

namespace Cert.Out

open Idealize.ShloMosaic Idealize.SL.Sem

/-- A row's projection at a column. -/
def proj (mg : Fin 16384 → Fin 2048 → EReal) (w : Fin 2048 → Fin 2048 → EReal) (r : Fin 16384) (e : Fin 2048) : EReal := ∑ k, mg r k * w k e

/-- One over a row's root mean square. -/
def scale (mg : Fin 16384 → Fin 2048 → EReal) (w : Fin 2048 → Fin 2048 → EReal) (r : Fin 16384) : EReal :=
  Ideal.rsqrt (Ideal.div (∑ e, proj mg w r e * proj mg w r e) (Ideal.ofBits .f32 0x45000000#32) + Ideal.ofBits .f32 0x358637BD#32)

/-- The layer's result at a row and a column. -/
def result (mg : Fin 16384 → Fin 2048 → EReal) (w : Fin 2048 → Fin 2048 → EReal) (x : Fin 2 → Fin 8192 → Fin 2048 → EReal)
    (md : Fin 2 → Fin 6144 → EReal) (nw : Fin 2048 → EReal) (r : Fin 16384) (e : Fin 2048) : EReal :=
  x ⟨r.val / 8192, by omega⟩ ⟨r.val % 8192, by omega⟩ e
    + md ⟨r.val / 8192, by omega⟩ ⟨4096 + e.val, by omega⟩ * (proj mg w r e * scale mg w r * nw e)

section

open Cert.Kernel3Ideal Cert.Kernel3Ideal.Gen Idealize.ShloMosaic.TcCoe

variable (m : (ℓ : Loc nD τ sig) → Buf (Elt Ideal) ℓ) (c : Dev nD)

/-- The blocks' places, decided at every point. -/
theorem idx (t : Fin cfg0.N) : win0_0.index t = ![t.val, 0] ∧ win0_1.index t = ![0, 0] ∧ win0_2.index t = ![t.val, 0]
    ∧ win0_3.index t = ![t.val / 16, 0, 0] ∧ win0_4.index t = ![0, 0] ∧ win0_5.index t = ![t.val, 0] := by
  revert t
  decide +kernel

theorem lt32 (t : Fin cfg0.N) : t.val < 32 := lt_of_lt_of_eq t.isLt N_0

/-- Row `a` of point `t`'s blocks. -/
def row (t : Fin cfg0.N) (a : Fin 512) : Fin 16384 := ⟨t.val * 512 + a.val, by have := lt32 t; omega⟩

theorem mg_at (t : Fin cfg0.N) (a : Fin 512) (k : Fin 2048) : iblk m c 0 t (ix2 a k) = m ((c : Thread nD τ).loc main_arg0) (ix2 (row t a) k) := by
  blk_ext [iblk, V, idx t, row] <;> omega

theorem w_at (t : Fin cfg0.N) (k : Fin 2048) (e : Fin 2048) : iblk m c 1 t (ix2 k e) = m ((c : Thread nD τ).loc main_arg1) (ix2 k e) := by
  blk_simp [iblk, idx t]
  entry_read
  pointwise
  blk_ext [idx t]

theorem x_at (t : Fin cfg0.N) (a : Fin 512) (e : Fin 2048) : iblk m c 2 t (ix2 a e)
    = m ((c : Thread nD τ).loc main_arg2) (ix3 (⟨(row t a).val / 8192, by omega⟩ : Fin 2) (⟨(row t a).val % 8192, by omega⟩ : Fin 8192) e) := by
  have := lt32 t
  blk_simp [iblk, idx t]
  entry_read
  pointwise
  blk_ext [idx t, row] <;> omega

theorem md_at (t : Fin cfg0.N) (a : Fin 512) (e : Fin 2048) : iblk m c 3 t (ix3 (0 : Fin 1) (0 : Fin 1) (⟨4096 + e.val, by omega⟩ : Fin 6144))
    = m ((c : Thread nD τ).loc main_arg3) (ix2 (⟨(row t a).val / 8192, by omega⟩ : Fin 2) (⟨4096 + e.val, by omega⟩ : Fin 6144)) := by
  have := lt32 t
  blk_simp [iblk, idx t]
  entry_read
  pointwise
  blk_ext [idx t, row] <;> omega

theorem nw_at (t : Fin cfg0.N) (e : Fin 2048) : iblk m c 4 t (ix2 (0 : Fin 1) e) = m ((c : Thread nD τ).loc main_arg4) (ix1 e) := by
  blk_simp [iblk, idx t]
  entry_read
  pointwise
  blk_ext [idx t]

/-- The kernel's result. -/
abbrev kernelResult : Fin 16384 → Fin 2048 → EReal :=
  result (fun r k => m ((c : Thread nD τ).loc main_arg0) (ix2 r k)) (fun k e => m ((c : Thread nD τ).loc main_arg1) (ix2 k e))
    (fun b s e => m ((c : Thread nD τ).loc main_arg2) (ix3 b s e)) (fun b e => m ((c : Thread nD τ).loc main_arg3) (ix2 b e))
    (fun e => m ((c : Thread nD τ).loc main_arg4) (ix1 e))

/-- What a point writes back. -/
theorem out_at (t : Fin cfg0.N) (a : Fin 512) (e : Fin 2048) :
    out0_5 (iblk m c 0 t) (iblk m c 1 t) (iblk m c 2 t) (iblk m c 3 t) (iblk m c 4 t) (ix2 a e) = kernelResult m c (row t a) e := by
  unfold out0_5
  frame_out
  pointwise [k0_pay1]
  simp only [mg_at, w_at, x_at, md_at m c t a, nw_at]
  rfl

/-- Where an element of a point's block stands in the array. -/
theorem emb_at (t : Fin cfg0.N) (a : Fin 512) (e : Fin 2048) : (win0_5.blk t).view.emb (ix2 a e) = ix2 (row t a) e := by
  have h5 := (idx t).2.2.2.2.2
  funext d
  apply Fin.ext
  match d with
  | ⟨0, _⟩ =>
    show win0_5.index t 0 * 512 + 1 * a.val = _
    rw [h5]
    show t.val * 512 + 1 * a.val = t.val * 512 + a.val
    omega
  | ⟨1, _⟩ =>
    show win0_5.index t 1 * 2048 + 1 * e.val = _
    rw [h5]
    show 0 * 2048 + 1 * e.val = e.val
    omega

/-- The array the kernel leaves. -/
theorem array_eq : (dats m 0 c).arrAt 5 cfg0.N = fun j => kernelResult m c (j 0) (j 1) := by
  refine (dats m 0 c).arrAt_eq_of_covers 5 _ (by decide +kernel) fun t hf y => ?_
  blk_simp
  rw [after0_5]
  obtain ⟨a, e, rfl⟩ : ∃ (a : Fin 512) (e : Fin 2048), y = ix2 a e := ⟨y 0, y 1, by funext x; fin_cases x <;> rfl⟩
  refine (out_at m c t a e).trans ?_
  rw [emb_at]
  rfl

end

section

open Cert.Reference3Ideal Cert.Reference3Ideal.Gen

variable (x0 : FVec Ideal S16384x2048 .bf16) (x1 : FVec Ideal S2048x2048 .f32) (x2 : FVec Ideal S2x8192x2048 .f32)
  (x3 : FVec Ideal S2x6144 .f32) (x4 : FVec Ideal S2048 .f32)

/-- The reference's result, as its operations spell it. -/
def refTerm : FVec Ideal S16384x2048 .f32 :=
  shapeCast _ (addf x2 (mulf (broadcastInDim S2x8192x2048 ![0, 1, 2] bcast_S2x1x2048_S2x8192x2048_0_1_2 (broadcastInDim S2x1x2048 ![0, 2] bcast_S2x2048_S2x1x2048_0_2 (extractStridedSlice S2x2048 ![0, 4096] x3 slices_S2x6144_S2x2048_0_4096))) (mulf (mulf (Host.dotGeneral dot_S2x8192x2048_S2048x2048_S2x8192x2048_2_0_01_1_n_n none (shapeCast _ (extf .f32 x0 bitsLt_bf16_f32) shapeCasts_S16384x2048_S2x8192x2048) x1) (broadcastInDim S2x8192x2048 ![0, 1, 2] bcast_S2x8192x1_S2x8192x2048_0_1_2 (Host.rsqrt (addf (Host.divf (broadcastInDim S2x8192x1 ![0, 1] bcast_S2x8192_S2x8192x1_0_1 (Host.reduceAdd (mulf (Host.dotGeneral dot_S2x8192x2048_S2048x2048_S2x8192x2048_2_0_01_1_n_n none (shapeCast _ (extf .f32 x0 bitsLt_bf16_f32) shapeCasts_S16384x2048_S2x8192x2048) x1) (Host.dotGeneral dot_S2x8192x2048_S2048x2048_S2x8192x2048_2_0_01_1_n_n none (shapeCast _ (extf .f32 x0 bitsLt_bf16_f32) shapeCasts_S16384x2048_S2x8192x2048) x1)) (constant S_ .f32 0x00000000#32) reducesTo_S2x8192x2048_S2x8192_d2 h_S_)) (broadcastInDim S2x8192x1 ![] bcast_S_S2x8192x1 (constant S_ .f32 0x45000000#32))) (broadcastInDim S2x8192x1 ![] bcast_S_S2x8192x1 (constant S_ .f32 0x358637BD#32)))))) (broadcastInDim S2x8192x2048 ![0, 1, 2] bcast_S1x1x2048_S2x8192x2048_0_1_2 (broadcastInDim S1x1x2048 ![2] bcast_S2048_S1x1x2048_2 x4))))) shapeCasts_S2x8192x2048_S16384x2048

/-- The reference's result at a row and a column. -/
theorem ref_at (r : Fin 16384) (e : Fin 2048) :
    refTerm x0 x1 x2 x3 x4 (ix2 r e) = result (fun r k => x0 (ix2 r k)) (fun k e => x1 (ix2 k e)) (fun b s e => x2 (ix3 b s e))
      (fun b e => x3 (ix2 b e)) (fun e => x4 (ix1 e)) r e := by
  pointwise [refTerm]
  rfl

end

/-- From equal arguments the kernel and the reference end with equal arrays. -/
theorem equal : Cert.algebraic_Kernel3Ideal_Reference3Ideal (hKernel3Ideal := Cert.Kernel3Ideal.Gen.facts)
    (hReference3Ideal := Cert.Reference3Ideal.Gen.facts) := by
  intro m g m' g' _ ha
  refine ⟨fun c => (Cert.Kernel3Ideal.Gen.dats m 0 c).arrAt 5 Cert.Kernel3Ideal.cfg0.N, Cert.Kernel3Ideal.Value.run_blocks m g, ?_⟩
  refine (θ_run _ _ _).mono (fun r h c => ⟨(h c).1.trans ?_, (h c).2⟩) (Cert.Reference3Ideal.Value.run m' g')
  rw [(ha c).1, (ha c).2.1, (ha c).2.2.1, (ha c).2.2.2.1, (ha c).2.2.2.2]
  refine Eq.trans ?_ (array_eq m c).symm
  funext i
  obtain ⟨a, e, rfl⟩ : ∃ (a : Fin 16384) (e : Fin 2048), i = ix2 a e := ⟨i 0, i 1, by funext x; fin_cases x <;> rfl⟩
  exact ref_at _ _ _ _ _ a e

end Cert.Out

end
-- ==== Proof.Safe.lean ====
/-
  Safety of a kernel body by its shape. `Safe R p`: from the resource `R` the program `p` runs and hands `R` back. A
  load through a memref whose buffer `R` holds at some contents (`Reads`), a store through one whose contents `R`
  leaves open (`Writes`), a bind and a branch of safe programs are safe: a body of any length, none of whose stores
  falls in a buffer that `R` pins, is safe by these rules alone, whatever it computes.
-/
module

public import proofs.«01_k».proof.Proof.Gen.Kernel4Ideal
public import Idealize.ShloMosaic.Lib.Tactic
public import Idealize.ShloMosaic.Lib.Pipeline.Kit

@[expose] public section

noncomputable section

namespace Cert.Inproj

open Cert.Kernel4Ideal Cert.Kernel4Ideal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A memref's buffer on core `c`, -/
abbrev Bf (c : Dev nD) {S : Shape} {e : EltTy} (M : Memref sig .tc .vmem S e) : Type := Buf (Elt F) (M.view.loc (c : Thread nD τ))
/-- and that buffer held whole at the contents `f`. -/
abbrev pt (c : Dev nD) {S : Shape} {e : EltTy} (M : Memref sig .tc .vmem S e) (f : Bf (F := F) c M) : sProp 𝕄 :=
  M.view.loc (c : Thread nD τ) ↦{fullShare} f

/-- The weakest precondition of a kernel program on core `c`. -/
abbrev run (c : Dev nD) {α : Type} (p : Prog (TpuEff nD τ sig (Elt F) Λ₀ .tc) α) (Q : α → sProp 𝕄) : sProp 𝕄 :=
  wp frame (wpE (defs₀ (F := F)) Variants.none c none) Set.univ p Q

/-- `R` holds `M`'s buffer at some contents, and is whole again with it; -/
def Reads (c : Dev nD) {S : Shape} {e : EltTy} (R : sProp 𝕄) (M : Memref sig .tc .vmem S e) : Prop :=
  R ⊢ iprop(∃ f : Bf (F := F) c M, pt c M f ∗ (pt c M f -∗ R))
/-- and `R` takes it back at any. -/
def Writes (c : Dev nD) {S : Shape} {e : EltTy} (R : sProp 𝕄) (M : Memref sig .tc .vmem S e) : Prop :=
  R ⊢ iprop(∃ f : Bf (F := F) c M, pt c M f ∗ (∀ g : Bf (F := F) c M, pt c M g -∗ R))

/-- From `R` the program runs to its return and hands `R` back. -/
def Safe (c : Dev nD) (R : sProp 𝕄) {α : Type} (p : Prog (TpuEff nD τ sig (Elt F) Λ₀ .tc) α) : Prop :=
  R ⊢ run c p (fun _ => R)

theorem Writes.reads {c : Dev nD} {R : sProp 𝕄} {S : Shape} {e : EltTy} {M : Memref sig .tc .vmem S e} (h : Writes (F := F) c R M) : Reads (F := F) c R M := by
  unfold Writes at h
  unfold Reads
  refine h.trans ?_
  iintro ⟨%f, H, Hk⟩
  iexists f
  isplitl [H]; · iexact H
  iintro H
  iapply Hk $$ %f
  iexact H

theorem Safe.pure {c : Dev nD} {R : sProp 𝕄} {α : Type} (a : α) : Safe (F := F) c R (Pure.pure a : Prog (TpuEff nD τ sig (Elt F) Λ₀ .tc) α) := by
  unfold Safe run
  exact le_wp_ret _ _ _ a (fun _ => R)

theorem Safe.bind {c : Dev nD} {R : sProp 𝕄} {α β : Type} {p : Prog (TpuEff nD τ sig (Elt F) Λ₀ .tc) α} {k : α → Prog (TpuEff nD τ sig (Elt F) Λ₀ .tc) β}
    (hp : Safe (F := F) c R p) (hk : ∀ a, Safe (F := F) c R (k a)) : Safe (F := F) c R (p >>= k) := by
  unfold Safe run at *
  rw [wp_bind]
  exact hp.trans (wp_mono _ _ _ hk)

theorem Safe.load {c : Dev nD} {R : sProp 𝕄} {S : Shape} {e : EltTy} {M : Memref sig .tc .vmem S e} {r : LoadRect S} {hl : M.view.LoadsAt r}
    (h : Reads (F := F) c R M) : Safe (F := F) c R (Prog.lift (.load M r hl)) := by
  unfold Reads at h
  unfold Safe run
  refine h.trans ?_
  iintro ⟨%f, H, Hk⟩
  have hs : (pt c M f : sProp 𝕄) ⊢ iprop((pt c M f -∗ run c (.ret (M.view.readAt (Elt F) r f)) (fun _ => R))
      -∗ run c (Prog.lift (.load M r hl)) (fun _ => R)) :=
    wp_load Variants.none (c : Thread nD τ) none Set.univ (Finset.subset_univ _)
  iapply hs $$ H
  iintro H
  iapply (le_wp_ret _ _ _ _ (fun _ => R))
  iapply Hk
  iexact H

theorem Safe.store {c : Dev nD} {R : sProp 𝕄} {S : Shape} {e : EltTy} {M : Memref sig .tc .vmem S e} {r : Rect S} {w : r.shape.Idx → Elt F e}
    {hx : (M.access r).Stores Finset.univ} {hm : Finset.univ = Finset.univ ∨ ∀ a, r.stride a = 1}
    (h : Writes (F := F) c R M) : Safe (F := F) c R (Prog.lift (.store M r w Finset.univ hx hm)) := by
  unfold Writes at h
  unfold Safe run
  refine h.trans ?_
  iintro ⟨%f, H, Hk⟩
  have hs : (pt c M f : sProp 𝕄) ⊢ iprop((pt c M (M.view.writes (Elt F) f [⟨r, w⟩]) -∗ run c (Prog.ret PUnit.unit) (fun _ => R))
      -∗ run c (Prog.lift (.store M r w Finset.univ hx hm)) (fun _ => R)) :=
    wp_store_writes₀ Variants.none (c : Thread nD τ) none Set.univ (hx := hx) (hm := hm) (k := .ret) (w := w) (f := f) (Finset.subset_univ _)
  iapply hs $$ H
  iintro H
  iapply (le_wp_ret _ _ _ _ (fun _ => R))
  iapply Hk $$ %(M.view.writes (Elt F) f [⟨r, w⟩])
  iexact H

theorem Safe.dite {c : Dev nD} {R : sProp 𝕄} {α : Type} {q : Prop} [Decidable q] {p : q → Prog (TpuEff nD τ sig (Elt F) Λ₀ .tc) α}
    {p' : ¬ q → Prog (TpuEff nD τ sig (Elt F) Λ₀ .tc) α} (h : ∀ hq, Safe (F := F) c R (p hq)) (h' : ∀ hq, Safe (F := F) c R (p' hq)) :
    Safe (F := F) c R (dite q p p') := by
  by_cases hq : q
  · rw [dif_pos hq]; exact h hq
  · rw [dif_neg hq]; exact h' hq

/-! ## From one resource to another -/

/-- From `R` the program runs to its return and hands back `Q`. -/
def Goes (c : Dev nD) (R Q : sProp 𝕄) {α : Type} (p : Prog (TpuEff nD τ sig (Elt F) Λ₀ .tc) α) : Prop :=
  R ⊢ run c p (fun _ => Q)

theorem Safe.goes {c : Dev nD} {R : sProp 𝕄} {α : Type} {p : Prog (TpuEff nD τ sig (Elt F) Λ₀ .tc) α} (h : Safe (F := F) c R p) :
    Goes (F := F) c R R p := h

theorem Goes.safe {c : Dev nD} {R : sProp 𝕄} {α : Type} {p : Prog (TpuEff nD τ sig (Elt F) Λ₀ .tc) α} (h : Goes (F := F) c R R p) :
    Safe (F := F) c R p := h

theorem Goes.seq {c : Dev nD} {R M Q : sProp 𝕄} {α β : Type} {p : Prog (TpuEff nD τ sig (Elt F) Λ₀ .tc) α} {k : α → Prog (TpuEff nD τ sig (Elt F) Λ₀ .tc) β}
    (hp : Goes (F := F) c R M p) (hk : ∀ a, Goes (F := F) c M Q (k a)) : Goes (F := F) c R Q (p >>= k) := by
  unfold Goes run at *
  rw [wp_bind]
  exact hp.trans (wp_mono _ _ _ hk)

theorem Goes.pre {c : Dev nD} {R R' Q : sProp 𝕄} {α : Type} {p : Prog (TpuEff nD τ sig (Elt F) Λ₀ .tc) α} (h : R ⊢ R')
    (hp : Goes (F := F) c R' Q p) : Goes (F := F) c R Q p := h.trans hp

theorem Goes.pure {c : Dev nD} {R Q : sProp 𝕄} {α : Type} {a : α} (h : R ⊢ Q) : Goes (F := F) c R Q (Pure.pure a : Prog (TpuEff nD τ sig (Elt F) Λ₀ .tc) α) :=
  (Safe.pure (F := F) (c := c) (R := Q) a).goes.pre h

/-- A branch that otherwise falls through to `J`, which its own side reaches too. -/
theorem Goes.fork {c : Dev nD} {R M Q : sProp 𝕄} {α : Type} {q : Prop} [Decidable q] {p : q → Prog (TpuEff nD τ sig (Elt F) Λ₀ .tc) α}
    {J : Prog (TpuEff nD τ sig (Elt F) Λ₀ .tc) α} (hJ : Goes (F := F) c M Q J) (hp : ∀ hq, Goes (F := F) c M Q J → Goes (F := F) c R Q (p hq))
    (hn : ¬ q → R ⊢ M) : Goes (F := F) c R Q (dite q p (fun _ => J)) := by
  by_cases hq : q
  · rw [dif_pos hq]; exact hp hq hJ
  · rw [dif_neg hq]; exact hJ.pre (hn hq)

/-- A counted loop, by an invariant over the trips gone. -/
theorem Goes.loop {c : Dev nD} {l : Scf.Loop 32} {hok : l.OK} (I : ℕ → sProp 𝕄) {body : Fin l.trips → PUnit → Prog (TpuEff nD τ sig (Elt F) Λ₀ .tc) PUnit}
    (hb : ∀ k acc, Goes (F := F) c (I k.val) (I (k.val + 1)) (body k acc)) :
    Goes (F := F) c (I 0) (I l.trips) (Scf.Loop.for l hok ⟨⟩ body) := by
  unfold Goes run
  have h := Scf.wp_for frame (wpE (defs₀ (F := F)) Variants.none c none) Set.univ l.lb l.ub l.st hok ⟨⟩ body (fun k _ => I k)
    (fun k acc => hb k acc) (Q := fun _ => I l.trips)
  have e : I 0 ⊢ iprop(I 0 ∗ (∀ _ : PUnit, I l.trips -∗ I l.trips)) := by
    iintro H
    isplitl [H]; · iexact H
    iintro %a H
    iexact H
  exact e.trans h

/-! ## A buffer at contents of which something is known -/

/-- `M`'s buffer at contents that read as something with `P`. -/
def Held (c : Dev nD) {S : Shape} {e : EltTy} (M : Memref sig .tc .vmem S e) (P : (S.Idx → Elt F e) → Prop) : sProp 𝕄 :=
  iprop(∃ f : Bf (F := F) c M, ⌜P (M.view.read (Elt F) f)⌝ ∗ pt c M f)

/-- `R P` holds `M`'s buffer at `P`, and given it back at `P'` is `R P'`. -/
def Slot (c : Dev nD) {S : Shape} {e : EltTy} (R : ((S.Idx → Elt F e) → Prop) → sProp 𝕄) (M : Memref sig .tc .vmem S e) : Prop :=
  ∀ P, R P ⊢ iprop(Held c M P ∗ (∀ P', Held c M P' -∗ R P'))

theorem Slot.last {c : Dev nD} {S : Shape} {e : EltTy} {M : Memref sig .tc .vmem S e} : Slot (F := F) c (fun P => Held c M P) M := by
  intro P
  iintro H
  isplitl [H]; · iexact H
  iintro %P' H; iexact H

theorem Slot.head {c : Dev nD} {S : Shape} {e : EltTy} {M : Memref sig .tc .vmem S e} {B : sProp 𝕄} :
    Slot (F := F) c (fun P => iprop(Held c M P ∗ B)) M := by
  intro P
  iintro ⟨H, HB⟩
  isplitl [H]; · iexact H
  iintro %P' H
  isplitl [H]; · iexact H
  iexact HB

theorem Slot.tail {c : Dev nD} {S : Shape} {e : EltTy} {M : Memref sig .tc .vmem S e} {A : sProp 𝕄} {R : ((S.Idx → Elt F e) → Prop) → sProp 𝕄}
    (h : Slot (F := F) c R M) : Slot (F := F) c (fun P => iprop(A ∗ R P)) M := by
  intro P
  iintro ⟨HA, HR⟩
  ihave H := (h P) $$ HR
  icases H with ⟨H, Hk⟩
  isplitl [H]; · iexact H
  iintro %P' H
  isplitl [HA]; · iexact HA
  iapply Hk $$ %P'
  iexact H

theorem Slot.reads {c : Dev nD} {S : Shape} {e : EltTy} {M : Memref sig .tc .vmem S e} {R : ((S.Idx → Elt F e) → Prop) → sProp 𝕄}
    (h : Slot (F := F) c R M) (P : (S.Idx → Elt F e) → Prop) : Reads (F := F) c (R P) M := by
  unfold Reads
  refine (h P).trans ?_
  unfold Held
  iintro ⟨⟨%f, %hf, H⟩, Hk⟩
  iexists f
  isplitl [H]; · iexact H
  iintro H
  iapply Hk $$ %P
  iexists f
  isplitr; · ipureintro; exact hf
  iexact H

theorem Slot.writes {c : Dev nD} {S : Shape} {e : EltTy} {M : Memref sig .tc .vmem S e} {R : ((S.Idx → Elt F e) → Prop) → sProp 𝕄}
    (h : Slot (F := F) c R M) {P : (S.Idx → Elt F e) → Prop} (hP : ∀ g, P g) : Writes (F := F) c (R P) M := by
  unfold Writes
  refine (h P).trans ?_
  unfold Held
  iintro ⟨⟨%f, %hf, H⟩, Hk⟩
  iexists f
  isplitl [H]; · iexact H
  iintro %g H
  iapply Hk $$ %P
  iexists g
  isplitr; · ipureintro; exact hP _
  iexact H

theorem Slot.mono {c : Dev nD} {S : Shape} {e : EltTy} {M : Memref sig .tc .vmem S e} {R : ((S.Idx → Elt F e) → Prop) → sProp 𝕄}
    (h : Slot (F := F) c R M) {P P' : (S.Idx → Elt F e) → Prop} (hP : ∀ X, P X → P' X) : R P ⊢ R P' := by
  refine (h P).trans ?_
  unfold Held
  iintro ⟨⟨%f, %hf, H⟩, Hk⟩
  iapply Hk $$ %P'
  iexists f
  isplitr; · ipureintro; exact hP _ hf
  iexact H

/-- A slot at some contents with `P` is the slot at one of them. -/
theorem Goes.open {c : Dev nD} {S : Shape} {e : EltTy} {M : Memref sig .tc .vmem S e} {R : ((S.Idx → Elt F e) → Prop) → sProp 𝕄} {Q : sProp 𝕄} {α : Type}
    {p : Prog (TpuEff nD τ sig (Elt F) Λ₀ .tc) α} (h : Slot (F := F) c R M) {P : (S.Idx → Elt F e) → Prop}
    (hp : ∀ X, P X → Goes (F := F) c (R (· = X)) Q p) : Goes (F := F) c (R P) Q p := by
  unfold Goes at *
  have h' : R P ⊢ iprop(∃ X, ⌜P X⌝ ∗ R (· = X)) := by
    refine (h P).trans ?_
    unfold Held
    iintro ⟨⟨%f, %hf, H⟩, Hk⟩
    iexists (M.view.read (Elt F) f)
    isplitr; · ipureintro; exact hf
    iapply Hk $$ %(· = M.view.read (Elt F) f)
    iexists f
    isplitr; · ipureintro; rfl
    iexact H
  refine h'.trans ?_
  iintro ⟨%X, %hX, H⟩
  iapply (hp X hX)
  iexact H

/-- A load of a buffer whose contents are known: the program goes on at the part of them read. -/
theorem Goes.load_eq {c : Dev nD} {S : Shape} {e : EltTy} {M : Memref sig .tc .vmem S e} {R : ((S.Idx → Elt F e) → Prop) → sProp 𝕄} {Q : sProp 𝕄} {α : Type}
    {r : LoadRect S} {hl : M.view.LoadsAt r} {k : (r.shape.Idx → Elt F e) → Prog (TpuEff nD τ sig (Elt F) Λ₀ .tc) α} {X : S.Idx → Elt F e}
    (h : Slot (F := F) c R M) (hk : Goes (F := F) c (R (· = X)) Q (k fun j => X (r.idx j))) :
    Goes (F := F) c (R (· = X)) Q (Prog.lift (.load M r hl) >>= k) := by
  unfold Goes run at *
  rw [wp_bind]
  refine (h _).trans ?_
  unfold Held
  iintro ⟨⟨%f, %hf, H⟩, Hk⟩
  have hs : (pt c M f : sProp 𝕄) ⊢ iprop((pt c M f -∗ run c (.ret (M.view.readAt (Elt F) r f)) (fun a => run c (k a) fun _ => Q))
      -∗ run c (Prog.lift (.load M r hl)) (fun a => run c (k a) fun _ => Q)) :=
    wp_load Variants.none (c : Thread nD τ) none Set.univ (Finset.subset_univ _)
  iapply hs $$ H
  iintro H
  iapply (le_wp_ret _ _ _ _ (fun a => run c (k a) fun _ => Q))
  have e : M.view.readAt (Elt F) r f = fun j => X (r.idx j) := by rw [← hf]; rfl
  rw [e]
  iapply hk
  iapply Hk $$ %(· = X)
  iexists f
  isplitr; · ipureintro; exact hf
  iexact H

/-- A store into a buffer of which something is known before and after. -/
theorem Goes.store {c : Dev nD} {S : Shape} {e : EltTy} {M : Memref sig .tc .vmem S e} {R : ((S.Idx → Elt F e) → Prop) → sProp 𝕄}
    {r : Rect S} {w : r.shape.Idx → Elt F e} {hx : (M.access r).Stores Finset.univ} {hm : Finset.univ = Finset.univ ∨ ∀ a, r.stride a = 1}
    {P P' : (S.Idx → Elt F e) → Prop} (h : Slot (F := F) c R M)
    (hP : ∀ f : Bf (F := F) c M, P (M.view.read (Elt F) f) → P' (M.view.read (Elt F) (M.view.writes (Elt F) f [⟨r, w⟩]))) :
    Goes (F := F) c (R P) (R P') (Prog.lift (.store M r w Finset.univ hx hm)) := by
  unfold Goes run
  refine (h P).trans ?_
  unfold Held
  iintro ⟨⟨%f, %hf, H⟩, Hk⟩
  have hs : (pt c M f : sProp 𝕄) ⊢ iprop((pt c M (M.view.writes (Elt F) f [⟨r, w⟩]) -∗ run c (Prog.ret PUnit.unit) (fun _ => R P'))
      -∗ run c (Prog.lift (.store M r w Finset.univ hx hm)) (fun _ => R P')) :=
    wp_store_writes₀ Variants.none (c : Thread nD τ) none Set.univ (hx := hx) (hm := hm) (k := .ret) (w := w) (f := f) (Finset.subset_univ _)
  iapply hs $$ H
  iintro H
  iapply (le_wp_ret _ _ _ _ (fun _ => R P'))
  iapply Hk $$ %P'
  iexists _
  isplitr; · ipureintro; exact hP f hf
  iexact H

end Cert.Inproj

end
-- ==== Proof.InprojBody.lean ====
/-
  The input projection's kernel at one grid point. At the first point of a row block it normalises the block's 1024 rows,
  64 to a trip of a loop, into a scratch buffer; at the point of a plain column tile it multiplies that scratch with the
  tile's weights, 256 rows at a time. The points of the convolved column tiles are safe by the shape of their text alone
  (Safe.lean): nothing is said of what they leave in the tile, only that they leave the normalised rows as they are.
-/
module

public import proofs.«01_k».proof.Proof.Safe
public import proofs.«01_k».proof.Proof.Gen.Kernel4Ideal.Skeleton

@[expose] public section

noncomputable section

namespace Cert.Inproj

open Cert.Kernel4Ideal Cert.Kernel4Ideal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (i : grid0.Coords) (arg2 : Memref sig .tc .vmem S1024x2048 .f32) (harg2 : arg2.IsWhole) (arg3 : Memref sig .tc .vmem S1x1x6144 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S8x1024 .f32) (harg6 : arg6.IsWhole) (arg7 : Memref sig .tc .vmem S1024x1024 .bf16) (harg7 : arg7.IsWhole) (arg8 : Memref sig .tc .vmem S1024x2048 .bf16) (harg8 : arg8.IsWhole) (arg9 : Memref sig .tc .vmem S1024x2048 .bf16) (harg9 : arg9.IsWhole) (arg10 : Memref sig .tc .vmem S24x24x1024 .f32) (harg10 : arg10.IsWhole) (arg11 : Memref sig .tc .vmem S8x256x128 .f32) (harg11 : arg11.IsWhole) (arg12 : Memref sig .tc .vmem S16x64x128 .f32) (harg12 : arg12.IsWhole)

/-- What the kernel holds: the five operand blocks, the output tile and the scratch, each at contents of which the
    predicates tell. -/
abbrev St (c : Dev nD) (arg2 : Memref sig .tc .vmem S1024x2048 .f32) (arg3 : Memref sig .tc .vmem S1x1x6144 .f32) (arg4 : Memref sig .tc .vmem S1x2048 .f32)
    (arg5 : Memref sig .tc .vmem S1024x2048 .f32) (arg6 : Memref sig .tc .vmem S8x1024 .f32) (arg7 : Memref sig .tc .vmem S1024x1024 .bf16)
    (arg8 : Memref sig .tc .vmem S1024x2048 .bf16) (arg9 : Memref sig .tc .vmem S1024x2048 .bf16) (arg10 : Memref sig .tc .vmem S24x24x1024 .f32)
    (arg11 : Memref sig .tc .vmem S8x256x128 .f32) (arg12 : Memref sig .tc .vmem S16x64x128 .f32)
    (P2 : (S1024x2048.Idx → Elt F .f32) → Prop) (P3 : (S1x1x6144.Idx → Elt F .f32) → Prop) (P4 : (S1x2048.Idx → Elt F .f32) → Prop)
    (P5 : (S1024x2048.Idx → Elt F .f32) → Prop) (P6 : (S8x1024.Idx → Elt F .f32) → Prop) (P7 : (S1024x1024.Idx → Elt F .bf16) → Prop)
    (P8 : (S1024x2048.Idx → Elt F .bf16) → Prop) (P9 : (S1024x2048.Idx → Elt F .bf16) → Prop) (P10 : (S24x24x1024.Idx → Elt F .f32) → Prop)
    (P11 : (S8x256x128.Idx → Elt F .f32) → Prop) (P12 : (S16x64x128.Idx → Elt F .f32) → Prop) : sProp 𝕄 :=
  iprop(Held c arg2 P2 ∗ Held c arg3 P3 ∗ Held c arg4 P4 ∗ Held c arg5 P5 ∗ Held c arg6 P6 ∗ Held c arg7 P7 ∗ Held c arg8 P8
    ∗ Held c arg9 P9 ∗ Held c arg10 P10 ∗ Held c arg11 P11 ∗ Held c arg12 P12)

/-! ## What the kernel leaves -/

theorem off1_eq : ∀ t : Fin k0_t1_loop.trips, k0_off1 t = ![64 * t.val, 0] := by decide +kernel

theorem trips_eq : k0_t1_loop.trips = 16 := by decide +kernel

theorem off1_inb (t : Fin k0_t1_loop.trips) : ∀ a, k0_off1 t a + S64x2048.size a ≤ S1024x2048.size a := by
  revert t; decide +kernel

/-- The 64 rows of a trip, -/
abbrev rows64 (t : Fin k0_t1_loop.trips) : Rect S1024x2048 := Rect.unit (s := S1024x2048) (k0_off1 t) S64x2048.size (off1_inb t)

theorem off256_inb (k : Fin 4) : ∀ a, (![256 * k.val, 0] : Fin 2 → ℕ) a + S256x2048.size a ≤ S1024x2048.size a := by
  revert k; decide

theorem out256_inb (k : Fin 4) : ∀ a, (![256 * k.val, 0] : Fin 2 → ℕ) a + S256x1024.size a ≤ S1024x1024.size a := by
  revert k; decide

/-- and the 256 rows of a product: of the normalised rows and of the output tile. -/
abbrev rows256 (k : Fin 4) : Rect S1024x2048 := Rect.unit (s := S1024x2048) ![256 * k.val, 0] S256x2048.size (off256_inb k)
abbrev out256 (k : Fin 4) : Rect S1024x1024 := Rect.unit (s := S1024x1024) ![256 * k.val, 0] S256x1024.size (out256_inb k)

/-- The first `n` groups of 64 rows are normalised. -/
def Norm (X2 : S1024x2048.Idx → Elt F .f32) (X3 : S1x1x6144.Idx → Elt F .f32) (X4 : S1x2048.Idx → Elt F .f32) (n : ℕ)
    (g : S1024x2048.Idx → Elt F .bf16) : Prop :=
  ∀ t : Fin k0_t1_loop.trips, t.val < n → ∀ x, g ((rows64 t).emb x) = k0_pay12
    (fun j => X2 ((rows64 t).toLoadRect.idx j))
    (fun j => X4 ((Rect.unit (s := S1x2048) ![0, 0] S1x2048.size inb_S1x2048_S1x2048_0_0).toLoadRect.idx j))
    (fun j => X3 ((Rect.unit (s := S1x1x6144) ![0, 0, 2048] S1x1x2048.size inb_S1x1x6144_S1x1x2048_0_0_2048).toLoadRect.idx j))
    (fun j => X3 ((Rect.unit (s := S1x1x6144) ![0, 0, 0] S1x1x2048.size inb_S1x1x6144_S1x1x2048_0_0_0).toLoadRect.idx j)) x

/-- The first `n` groups of 256 rows of the tile are the products. -/
def Prods (h : S1024x2048.Idx → Elt F .bf16) (X5 : S1024x2048.Idx → Elt F .f32) (n : ℕ) (g : S1024x1024.Idx → Elt F .bf16) : Prop :=
  ∀ k : Fin 4, k.val < n → ∀ x, g ((out256 k).emb x) = k0_pay3 (fun j => h ((rows256 k).toLoadRect.idx j))
    (fun j => X5 ((Rect.unit (s := S1024x2048) ![0, 0] S1024x2048.size inb_S1024x2048_S1024x2048_0_0).toLoadRect.idx j)) x

theorem norm_step {arg8 : Memref sig .tc .vmem S1024x2048 .bf16} {X2 : S1024x2048.Idx → Elt F .f32} {X3 : S1x1x6144.Idx → Elt F .f32} {X4 : S1x2048.Idx → Elt F .f32}
    (t : Fin k0_t1_loop.trips) {c : Dev nD} (f : Bf (F := F) c arg8) (h : Norm X2 X3 X4 t.val (arg8.view.read (Elt F) f)) :
    Norm X2 X3 X4 (t.val + 1) (arg8.view.read (Elt F) (arg8.view.writes (Elt F) f [⟨rows64 t, k0_pay12
      (fun j => X2 ((rows64 t).toLoadRect.idx j))
      (fun j => X4 ((Rect.unit (s := S1x2048) ![0, 0] S1x2048.size inb_S1x2048_S1x2048_0_0).toLoadRect.idx j))
      (fun j => X3 ((Rect.unit (s := S1x1x6144) ![0, 0, 2048] S1x1x2048.size inb_S1x1x6144_S1x1x2048_0_0_2048).toLoadRect.idx j))
      (fun j => X3 ((Rect.unit (s := S1x1x6144) ![0, 0, 0] S1x1x2048.size inb_S1x1x6144_S1x1x2048_0_0_0).toLoadRect.idx j))⟩])) := by
  intro t' ht' x
  rcases Nat.lt_or_ge t'.val t.val with hlt | hge
  · have e : (((rows64 t').emb x) 0).val = 64 * t'.val + (x 0).val := by
      show k0_off1 t' 0 + 1 * (x 0).val = _
      rw [off1_eq]; simp
    have hx : (x 0).val < 64 := (x 0).isLt
    have ho : k0_off1 t 0 = 64 * t.val := by rw [off1_eq]; rfl
    refine (View.read_writes_cons_miss_of_axis _ _ ⟨rows64 t, _⟩ [] _ (0 : Fin 2) (64 * t.val) 64 ho rfl rfl (Or.inl (by rw [e]; omega))).trans ?_
    exact h t' hlt x
  · obtain rfl : t' = t := Fin.ext (by omega)
    exact View.read_writes_cons_emb _ _ _ _ _ x

theorem prods_step {arg7 : Memref sig .tc .vmem S1024x1024 .bf16} {h : S1024x2048.Idx → Elt F .bf16} {X5 : S1024x2048.Idx → Elt F .f32}
    (k : Fin 4) {c : Dev nD} (f : Bf (F := F) c arg7) (hf : Prods h X5 k.val (arg7.view.read (Elt F) f)) :
    Prods h X5 (k.val + 1) (arg7.view.read (Elt F) (arg7.view.writes (Elt F) f [⟨out256 k, k0_pay3 (fun j => h ((rows256 k).toLoadRect.idx j))
      (fun j => X5 ((Rect.unit (s := S1024x2048) ![0, 0] S1024x2048.size inb_S1024x2048_S1024x2048_0_0).toLoadRect.idx j))⟩])) := by
  intro k' hk' x
  rcases Nat.lt_or_ge k'.val k.val with hlt | hge
  · have e : (((out256 k').emb x) 0).val = 256 * k'.val + (x 0).val := by
      show 256 * k'.val + 1 * (x 0).val = _
      omega
    have hx : (x 0).val < 256 := (x 0).isLt
    refine (View.read_writes_cons_miss_of_axis _ _ ⟨out256 k, _⟩ [] _ (0 : Fin 2) (256 * k.val) 256 rfl rfl rfl (Or.inl (by rw [e]; omega))).trans ?_
    exact hf k' hlt x
  · obtain rfl : k' = k := Fin.ext (by omega)
    exact View.read_writes_cons_emb _ _ _ _ _ x

/-! ## The buffers within what the kernel holds -/

section Slots

variable {arg2 arg3 arg4 arg5 arg6 arg7 arg8 arg9 arg10 arg11 arg12}
variable {c : Dev nD} {P2 : (S1024x2048.Idx → Elt F .f32) → Prop} {P3 : (S1x1x6144.Idx → Elt F .f32) → Prop} {P4 : (S1x2048.Idx → Elt F .f32) → Prop}
    {P5 : (S1024x2048.Idx → Elt F .f32) → Prop} {P6 : (S8x1024.Idx → Elt F .f32) → Prop} {P7 : (S1024x1024.Idx → Elt F .bf16) → Prop}
    {P8 : (S1024x2048.Idx → Elt F .bf16) → Prop} {P9 : (S1024x2048.Idx → Elt F .bf16) → Prop} {P10 : (S24x24x1024.Idx → Elt F .f32) → Prop}
    {P11 : (S8x256x128.Idx → Elt F .f32) → Prop} {P12 : (S16x64x128.Idx → Elt F .f32) → Prop}

theorem slot2 : Slot (F := F) c (fun P => St c arg2 arg3 arg4 arg5 arg6 arg7 arg8 arg9 arg10 arg11 arg12 P P3 P4 P5 P6 P7 P8 P9 P10 P11 P12) arg2 := Slot.head
theorem slot3 : Slot (F := F) c (fun P => St c arg2 arg3 arg4 arg5 arg6 arg7 arg8 arg9 arg10 arg11 arg12 P2 P P4 P5 P6 P7 P8 P9 P10 P11 P12) arg3 := Slot.tail (Slot.head)
theorem slot4 : Slot (F := F) c (fun P => St c arg2 arg3 arg4 arg5 arg6 arg7 arg8 arg9 arg10 arg11 arg12 P2 P3 P P5 P6 P7 P8 P9 P10 P11 P12) arg4 := Slot.tail (Slot.tail (Slot.head))
theorem slot5 : Slot (F := F) c (fun P => St c arg2 arg3 arg4 arg5 arg6 arg7 arg8 arg9 arg10 arg11 arg12 P2 P3 P4 P P6 P7 P8 P9 P10 P11 P12) arg5 := Slot.tail (Slot.tail (Slot.tail (Slot.head)))
theorem slot6 : Slot (F := F) c (fun P => St c arg2 arg3 arg4 arg5 arg6 arg7 arg8 arg9 arg10 arg11 arg12 P2 P3 P4 P5 P P7 P8 P9 P10 P11 P12) arg6 := Slot.tail (Slot.tail (Slot.tail (Slot.tail (Slot.head))))
theorem slot7 : Slot (F := F) c (fun P => St c arg2 arg3 arg4 arg5 arg6 arg7 arg8 arg9 arg10 arg11 arg12 P2 P3 P4 P5 P6 P P8 P9 P10 P11 P12) arg7 := Slot.tail (Slot.tail (Slot.tail (Slot.tail (Slot.tail (Slot.head)))))
theorem slot8 : Slot (F := F) c (fun P => St c arg2 arg3 arg4 arg5 arg6 arg7 arg8 arg9 arg10 arg11 arg12 P2 P3 P4 P5 P6 P7 P P9 P10 P11 P12) arg8 := Slot.tail (Slot.tail (Slot.tail (Slot.tail (Slot.tail (Slot.tail (Slot.head))))))
theorem slot9 : Slot (F := F) c (fun P => St c arg2 arg3 arg4 arg5 arg6 arg7 arg8 arg9 arg10 arg11 arg12 P2 P3 P4 P5 P6 P7 P8 P P10 P11 P12) arg9 := Slot.tail (Slot.tail (Slot.tail (Slot.tail (Slot.tail (Slot.tail (Slot.tail (Slot.head)))))))
theorem slot10 : Slot (F := F) c (fun P => St c arg2 arg3 arg4 arg5 arg6 arg7 arg8 arg9 arg10 arg11 arg12 P2 P3 P4 P5 P6 P7 P8 P9 P P11 P12) arg10 := Slot.tail (Slot.tail (Slot.tail (Slot.tail (Slot.tail (Slot.tail (Slot.tail (Slot.tail (Slot.head))))))))
theorem slot11 : Slot (F := F) c (fun P => St c arg2 arg3 arg4 arg5 arg6 arg7 arg8 arg9 arg10 arg11 arg12 P2 P3 P4 P5 P6 P7 P8 P9 P10 P P12) arg11 := Slot.tail (Slot.tail (Slot.tail (Slot.tail (Slot.tail (Slot.tail (Slot.tail (Slot.tail (Slot.tail (Slot.head)))))))))
theorem slot12 : Slot (F := F) c (fun P => St c arg2 arg3 arg4 arg5 arg6 arg7 arg8 arg9 arg10 arg11 arg12 P2 P3 P4 P5 P6 P7 P8 P9 P10 P11 P) arg12 := Slot.tail (Slot.tail (Slot.tail (Slot.tail (Slot.tail (Slot.tail (Slot.tail (Slot.tail (Slot.tail (Slot.tail (Slot.last))))))))))

end Slots

/-- Every buffer is readable, and every scratch but the normalised rows' takes any contents; so does the tile, if nothing
    is to be known of it. -/
theorem access (c : Dev nD) (X2 : S1024x2048.Idx → Elt F .f32) (X3 : S1x1x6144.Idx → Elt F .f32) (X4 : S1x2048.Idx → Elt F .f32)
    (X5 : S1024x2048.Idx → Elt F .f32) (X6 : S8x1024.Idx → Elt F .f32)
    (P7 : (S1024x1024.Idx → Elt F .bf16) → Prop) (P8 : (S1024x2048.Idx → Elt F .bf16) → Prop) (R : sProp 𝕄)
    (hR : R = (St c arg2 arg3 arg4 arg5 arg6 arg7 arg8 arg9 arg10 arg11 arg12 (· = X2) (· = X3) (· = X4) (· = X5) (· = X6) P7 P8 (fun _ => True) (fun _ => True) (fun _ => True) (fun _ => True))) :
    (Reads (F := F) c R arg2 ∧ Reads (F := F) c R arg3 ∧ Reads (F := F) c R arg4 ∧ Reads (F := F) c R arg5 ∧ Reads (F := F) c R arg6
      ∧ Reads (F := F) c R arg7 ∧ Reads (F := F) c R arg8)
    ∧ (Writes (F := F) c R arg9 ∧ Writes (F := F) c R arg10 ∧ Writes (F := F) c R arg11 ∧ Writes (F := F) c R arg12)
    ∧ ((∀ g, P7 g) → Writes (F := F) c R arg7) := by
  subst hR
  exact ⟨⟨Slot.reads slot2 _, Slot.reads slot3 _, Slot.reads slot4 _, Slot.reads slot5 _, Slot.reads slot6 _, Slot.reads slot7 _, Slot.reads slot8 _⟩,
    ⟨Slot.writes slot9 fun _ => trivial, Slot.writes slot10 fun _ => trivial, Slot.writes slot11 fun _ => trivial, Slot.writes slot12 fun _ => trivial⟩,
    fun h => Slot.writes slot7 h⟩

/-! ## A trip of the loop -/

set_option maxHeartbeats 4000000 in
/-- The trip's 64 rows, normalised and stored; the rest of the trip's first stretch is safe. -/
theorem part1_goes (c : Dev nD) (X2 : S1024x2048.Idx → Elt F .f32) (X3 : S1x1x6144.Idx → Elt F .f32) (X4 : S1x2048.Idx → Elt F .f32)
    (X5 : S1024x2048.Idx → Elt F .f32) (X6 : S8x1024.Idx → Elt F .f32)
    (k0_h1 : k0_cond1 i = 1#1) (k0_t1 : Fin k0_t1_loop.trips) :
    Goes (F := F) c (St c arg2 arg3 arg4 arg5 arg6 arg7 arg8 arg9 arg10 arg11 arg12 (· = X2) (· = X3) (· = X4) (· = X5) (· = X6) (fun _ => True) (Norm X2 X3 X4 k0_t1.val) (fun _ => True) (fun _ => True) (fun _ => True) (fun _ => True)) (St c arg2 arg3 arg4 arg5 arg6 arg7 arg8 arg9 arg10 arg11 arg12 (· = X2) (· = X3) (· = X4) (· = X5) (· = X6) (fun _ => True) (Norm X2 X3 X4 (k0_t1.val + 1)) (fun _ => True) (fun _ => True) (fun _ => True) (fun _ => True))
      (k0_part1 i arg2 harg2 arg3 harg3 arg4 harg4 arg5 harg5 arg6 harg6 arg7 harg7 arg8 harg8 arg9 harg9 arg10 harg10 arg11 harg11 arg12 harg12 k0_h1 0#32 1#32 k0_t1) := by
  unfold k0_part1
  refine Goes.load_eq (R := fun P => St c arg2 arg3 arg4 arg5 arg6 arg7 arg8 arg9 arg10 arg11 arg12 P (· = X3) (· = X4) (· = X5) (· = X6) (fun _ => True) (Norm X2 X3 X4 k0_t1.val) (fun _ => True) (fun _ => True) (fun _ => True) (fun _ => True)) slot2 ?_
  refine Goes.load_eq (R := fun P => St c arg2 arg3 arg4 arg5 arg6 arg7 arg8 arg9 arg10 arg11 arg12 (· = X2) (· = X3) P (· = X5) (· = X6) (fun _ => True) (Norm X2 X3 X4 k0_t1.val) (fun _ => True) (fun _ => True) (fun _ => True) (fun _ => True)) slot4 ?_
  refine Goes.load_eq (R := fun P => St c arg2 arg3 arg4 arg5 arg6 arg7 arg8 arg9 arg10 arg11 arg12 (· = X2) P (· = X4) (· = X5) (· = X6) (fun _ => True) (Norm X2 X3 X4 k0_t1.val) (fun _ => True) (fun _ => True) (fun _ => True) (fun _ => True)) slot3 ?_
  refine Goes.load_eq (R := fun P => St c arg2 arg3 arg4 arg5 arg6 arg7 arg8 arg9 arg10 arg11 arg12 (· = X2) P (· = X4) (· = X5) (· = X6) (fun _ => True) (Norm X2 X3 X4 k0_t1.val) (fun _ => True) (fun _ => True) (fun _ => True) (fun _ => True)) slot3 ?_
  refine Goes.seq (Safe.goes (Safe.load (Slot.reads slot8 _))) (fun _ => ?_)
  refine Goes.seq (Goes.store (R := fun P => St c arg2 arg3 arg4 arg5 arg6 arg7 arg8 arg9 arg10 arg11 arg12 (· = X2) (· = X3) (· = X4) (· = X5) (· = X6) (fun _ => True) P (fun _ => True) (fun _ => True) (fun _ => True) (fun _ => True)) (P' := (Norm X2 X3 X4 (k0_t1.val + 1)))
    slot8 (fun f hf => norm_step k0_t1 f hf)) (fun _ => ?_)
  generalize hR : (St c arg2 arg3 arg4 arg5 arg6 arg7 arg8 arg9 arg10 arg11 arg12 (· = X2) (· = X3) (· = X4) (· = X5) (· = X6) (fun _ => True) (Norm X2 X3 X4 (k0_t1.val + 1)) (fun _ => True) (fun _ => True) (fun _ => True) (fun _ => True)) = R
  obtain ⟨⟨h2, h3, h4, h5, h6, h7, h8⟩, ⟨h9, h10, h11, h12⟩, hw⟩ := access arg2 arg3 arg4 arg5 arg6 arg7 arg8 arg9 arg10 arg11 arg12 c X2 X3 X4 X5 X6 (fun _ => True) (Norm X2 X3 X4 (k0_t1.val + 1)) R hR.symm
  refine Safe.goes ?_
  repeat' first
    | with_reducible refine Safe.bind ?_ (fun _ => ?_)
    | with_reducible refine Safe.store ?_
    | with_reducible refine Safe.load ?_
    | with_reducible assumption
    | with_reducible exact Writes.reads (by assumption)
    | with_reducible exact Safe.pure _
    | with_reducible refine Safe.dite (fun _ => ?_) (fun _ => ?_)
    | refine Safe.bind ?_ (fun _ => ?_)
    | refine Safe.dite (fun _ => ?_) (fun _ => ?_)

set_option maxHeartbeats 40000000 in
/-- From operands at the point's blocks, and the normalised rows in place unless this point makes them: the rows are in
    place after, and a plain tile holds their products. -/
theorem body_goes (hx : k0_cond2 i = 1#1 → k0_cond3 i ≠ 1#1 ∧ k0_cond5 i ≠ 1#1) (c : Dev nD) (X2 : S1024x2048.Idx → Elt F .f32) (X3 : S1x1x6144.Idx → Elt F .f32) (X4 : S1x2048.Idx → Elt F .f32)
    (X5 : S1024x2048.Idx → Elt F .f32) (X6 : S8x1024.Idx → Elt F .f32) :
    Goes (F := F) c (St c arg2 arg3 arg4 arg5 arg6 arg7 arg8 arg9 arg10 arg11 arg12 (· = X2) (· = X3) (· = X4) (· = X5) (· = X6) (fun _ => True) (fun g => ¬ k0_cond1 i = 1#1 → Norm X2 X3 X4 k0_t1_loop.trips g) (fun _ => True) (fun _ => True) (fun _ => True) (fun _ => True))
      (St c arg2 arg3 arg4 arg5 arg6 arg7 arg8 arg9 arg10 arg11 arg12 (· = X2) (· = X3) (· = X4) (· = X5) (· = X6) (fun g => k0_cond2 i = 1#1 → ∃ h, Norm X2 X3 X4 k0_t1_loop.trips h ∧ Prods h X5 4 g) (Norm X2 X3 X4 k0_t1_loop.trips) (fun _ => True) (fun _ => True) (fun _ => True) (fun _ => True))
      (cc0__inproj_kernel i arg2 harg2 arg3 harg3 arg4 harg4 arg5 harg5 arg6 harg6 arg7 harg7 arg8 harg8 arg9 harg9 arg10 harg10 arg11 harg11 arg12 harg12) := by
  unfold cc0__inproj_kernel
  refine Goes.fork (M := (St c arg2 arg3 arg4 arg5 arg6 arg7 arg8 arg9 arg10 arg11 arg12 (· = X2) (· = X3) (· = X4) (· = X5) (· = X6) (fun _ => True) (Norm X2 X3 X4 k0_t1_loop.trips) (fun _ => True) (fun _ => True) (fun _ => True) (fun _ => True))) ?_ ?_ ?_
  · by_cases h2 : k0_cond2 i = 1#1
    · refine Goes.fork (M := (St c arg2 arg3 arg4 arg5 arg6 arg7 arg8 arg9 arg10 arg11 arg12 (· = X2) (· = X3) (· = X4) (· = X5) (· = X6) (fun g => ∃ h, Norm X2 X3 X4 k0_t1_loop.trips h ∧ Prods h X5 4 g) (Norm X2 X3 X4 k0_t1_loop.trips) (fun _ => True) (fun _ => True) (fun _ => True) (fun _ => True))) ?_ ?_ (fun h => absurd h2 h)
      · refine Goes.fork (M := (St c arg2 arg3 arg4 arg5 arg6 arg7 arg8 arg9 arg10 arg11 arg12 (· = X2) (· = X3) (· = X4) (· = X5) (· = X6) (fun g => ∃ h, Norm X2 X3 X4 k0_t1_loop.trips h ∧ Prods h X5 4 g) (Norm X2 X3 X4 k0_t1_loop.trips) (fun _ => True) (fun _ => True) (fun _ => True) (fun _ => True))) ?_ (fun h => absurd h (hx h2).1) (fun _ => .rfl)
        refine Goes.fork (M := (St c arg2 arg3 arg4 arg5 arg6 arg7 arg8 arg9 arg10 arg11 arg12 (· = X2) (· = X3) (· = X4) (· = X5) (· = X6) (fun g => ∃ h, Norm X2 X3 X4 k0_t1_loop.trips h ∧ Prods h X5 4 g) (Norm X2 X3 X4 k0_t1_loop.trips) (fun _ => True) (fun _ => True) (fun _ => True) (fun _ => True))) ?_ (fun h => absurd h (hx h2).2) (fun _ => .rfl)
        exact Goes.pure (Slot.mono (R := fun P => St c arg2 arg3 arg4 arg5 arg6 arg7 arg8 arg9 arg10 arg11 arg12 (· = X2) (· = X3) (· = X4) (· = X5) (· = X6) P (Norm X2 X3 X4 k0_t1_loop.trips) (fun _ => True) (fun _ => True) (fun _ => True) (fun _ => True)) slot7 (fun g hg _ => hg))
      · intro _ hJ
        refine Goes.open (R := fun P => St c arg2 arg3 arg4 arg5 arg6 arg7 arg8 arg9 arg10 arg11 arg12 (· = X2) (· = X3) (· = X4) (· = X5) (· = X6) (fun _ => True) P (fun _ => True) (fun _ => True) (fun _ => True) (fun _ => True)) slot8 (fun h hh => ?_)
        refine Goes.pre (Slot.mono (R := fun P => St c arg2 arg3 arg4 arg5 arg6 arg7 arg8 arg9 arg10 arg11 arg12 (· = X2) (· = X3) (· = X4) (· = X5) (· = X6) P (· = h) (fun _ => True) (fun _ => True) (fun _ => True) (fun _ => True)) slot7
          (P' := Prods h X5 0) (fun g _ t ht => absurd ht (Nat.not_lt_zero _))) ?_
        refine Goes.load_eq (R := fun P => St c arg2 arg3 arg4 arg5 arg6 arg7 arg8 arg9 arg10 arg11 arg12 (· = X2) (· = X3) (· = X4) (· = X5) (· = X6) (Prods h X5 0) P (fun _ => True) (fun _ => True) (fun _ => True) (fun _ => True)) slot8 ?_
        refine Goes.load_eq (R := fun P => St c arg2 arg3 arg4 arg5 arg6 arg7 arg8 arg9 arg10 arg11 arg12 (· = X2) (· = X3) (· = X4) P (· = X6) (Prods h X5 0) (· = h) (fun _ => True) (fun _ => True) (fun _ => True) (fun _ => True)) slot5 ?_
        refine Goes.seq (Safe.goes (Safe.load (Slot.reads slot7 _))) (fun _ => ?_)
        refine Goes.seq (Goes.store (R := fun P => St c arg2 arg3 arg4 arg5 arg6 arg7 arg8 arg9 arg10 arg11 arg12 (· = X2) (· = X3) (· = X4) (· = X5) (· = X6) P (· = h) (fun _ => True) (fun _ => True) (fun _ => True) (fun _ => True)) (P' := (Prods h X5 1))
          slot7 (fun f hf => prods_step (k := 0) f hf)) (fun _ => ?_)
        refine Goes.load_eq (R := fun P => St c arg2 arg3 arg4 arg5 arg6 arg7 arg8 arg9 arg10 arg11 arg12 (· = X2) (· = X3) (· = X4) (· = X5) (· = X6) (Prods h X5 1) P (fun _ => True) (fun _ => True) (fun _ => True) (fun _ => True)) slot8 ?_
        refine Goes.load_eq (R := fun P => St c arg2 arg3 arg4 arg5 arg6 arg7 arg8 arg9 arg10 arg11 arg12 (· = X2) (· = X3) (· = X4) P (· = X6) (Prods h X5 1) (· = h) (fun _ => True) (fun _ => True) (fun _ => True) (fun _ => True)) slot5 ?_
        refine Goes.seq (Safe.goes (Safe.load (Slot.reads slot7 _))) (fun _ => ?_)
        refine Goes.seq (Goes.store (R := fun P => St c arg2 arg3 arg4 arg5 arg6 arg7 arg8 arg9 arg10 arg11 arg12 (· = X2) (· = X3) (· = X4) (· = X5) (· = X6) P (· = h) (fun _ => True) (fun _ => True) (fun _ => True) (fun _ => True)) (P' := (Prods h X5 2))
          slot7 (fun f hf => prods_step (k := 1) f hf)) (fun _ => ?_)
        refine Goes.load_eq (R := fun P => St c arg2 arg3 arg4 arg5 arg6 arg7 arg8 arg9 arg10 arg11 arg12 (· = X2) (· = X3) (· = X4) (· = X5) (· = X6) (Prods h X5 2) P (fun _ => True) (fun _ => True) (fun _ => True) (fun _ => True)) slot8 ?_
        refine Goes.load_eq (R := fun P => St c arg2 arg3 arg4 arg5 arg6 arg7 arg8 arg9 arg10 arg11 arg12 (· = X2) (· = X3) (· = X4) P (· = X6) (Prods h X5 2) (· = h) (fun _ => True) (fun _ => True) (fun _ => True) (fun _ => True)) slot5 ?_
        refine Goes.seq (Safe.goes (Safe.load (Slot.reads slot7 _))) (fun _ => ?_)
        refine Goes.seq (Goes.store (R := fun P => St c arg2 arg3 arg4 arg5 arg6 arg7 arg8 arg9 arg10 arg11 arg12 (· = X2) (· = X3) (· = X4) (· = X5) (· = X6) P (· = h) (fun _ => True) (fun _ => True) (fun _ => True) (fun _ => True)) (P' := (Prods h X5 3))
          slot7 (fun f hf => prods_step (k := 2) f hf)) (fun _ => ?_)
        refine Goes.load_eq (R := fun P => St c arg2 arg3 arg4 arg5 arg6 arg7 arg8 arg9 arg10 arg11 arg12 (· = X2) (· = X3) (· = X4) (· = X5) (· = X6) (Prods h X5 3) P (fun _ => True) (fun _ => True) (fun _ => True) (fun _ => True)) slot8 ?_
        refine Goes.load_eq (R := fun P => St c arg2 arg3 arg4 arg5 arg6 arg7 arg8 arg9 arg10 arg11 arg12 (· = X2) (· = X3) (· = X4) P (· = X6) (Prods h X5 3) (· = h) (fun _ => True) (fun _ => True) (fun _ => True) (fun _ => True)) slot5 ?_
        refine Goes.seq (Safe.goes (Safe.load (Slot.reads slot7 _))) (fun _ => ?_)
        refine Goes.seq (Goes.store (R := fun P => St c arg2 arg3 arg4 arg5 arg6 arg7 arg8 arg9 arg10 arg11 arg12 (· = X2) (· = X3) (· = X4) (· = X5) (· = X6) P (· = h) (fun _ => True) (fun _ => True) (fun _ => True) (fun _ => True)) (P' := (Prods h X5 4))
          slot7 (fun f hf => prods_step (k := 3) f hf)) (fun _ => ?_)

        refine Goes.pre ?_ hJ
        exact (Slot.mono (R := fun P => St c arg2 arg3 arg4 arg5 arg6 arg7 arg8 arg9 arg10 arg11 arg12 (· = X2) (· = X3) (· = X4) (· = X5) (· = X6) P (· = h) (fun _ => True) (fun _ => True) (fun _ => True) (fun _ => True)) slot7
          (P' := fun g => ∃ h, Norm X2 X3 X4 k0_t1_loop.trips h ∧ Prods h X5 4 g) (fun g hg => ⟨h, hh, hg⟩)).trans
          (Slot.mono (R := fun P => St c arg2 arg3 arg4 arg5 arg6 arg7 arg8 arg9 arg10 arg11 arg12 (· = X2) (· = X3) (· = X4) (· = X5) (· = X6) (fun g => ∃ h, Norm X2 X3 X4 k0_t1_loop.trips h ∧ Prods h X5 4 g) P (fun _ => True) (fun _ => True) (fun _ => True) (fun _ => True)) slot8
            (fun g hg => hg ▸ hh))
    · refine Goes.pre (Slot.mono (R := fun P => St c arg2 arg3 arg4 arg5 arg6 arg7 arg8 arg9 arg10 arg11 arg12 (· = X2) (· = X3) (· = X4) (· = X5) (· = X6) P (Norm X2 X3 X4 k0_t1_loop.trips) (fun _ => True) (fun _ => True) (fun _ => True) (fun _ => True)) slot7
          (P' := fun g => k0_cond2 i = 1#1 → ∃ h, Norm X2 X3 X4 k0_t1_loop.trips h ∧ Prods h X5 4 g) (fun g _ h => absurd h h2)) ?_
      generalize hR : (St c arg2 arg3 arg4 arg5 arg6 arg7 arg8 arg9 arg10 arg11 arg12 (· = X2) (· = X3) (· = X4) (· = X5) (· = X6) (fun g => k0_cond2 i = 1#1 → ∃ h, Norm X2 X3 X4 k0_t1_loop.trips h ∧ Prods h X5 4 g) (Norm X2 X3 X4 k0_t1_loop.trips) (fun _ => True) (fun _ => True) (fun _ => True) (fun _ => True)) = R
      obtain ⟨⟨h2, h3, h4, h5, h6, h7, h8⟩, ⟨h9, h10, h11, h12⟩, hw⟩ := access arg2 arg3 arg4 arg5 arg6 arg7 arg8 arg9 arg10 arg11 arg12 c X2 X3 X4 X5 X6 (fun g => k0_cond2 i = 1#1 → ∃ h, Norm X2 X3 X4 k0_t1_loop.trips h ∧ Prods h X5 4 g) (Norm X2 X3 X4 k0_t1_loop.trips) R hR.symm
      have hw7 := hw (fun g h => absurd h (by assumption))
      refine Goes.fork (M := R) ?_ (fun h => absurd h (by assumption)) (fun _ => .rfl)
      refine Goes.fork (M := R) ?_ ?_ (fun _ => .rfl)
      · refine Goes.fork (M := R) (Goes.pure .rfl) ?_ (fun _ => .rfl)
        intro _ hJ
        have hJ := Goes.safe hJ
        refine Safe.goes ?_
        repeat' first
          | with_reducible refine Safe.bind ?_ (fun _ => ?_)
          | with_reducible refine Safe.store ?_
          | with_reducible refine Safe.load ?_
          | with_reducible assumption
          | with_reducible exact Writes.reads (by assumption)
          | with_reducible exact Safe.pure _
          | with_reducible refine Safe.dite (fun _ => ?_) (fun _ => ?_)
          | refine Safe.bind ?_ (fun _ => ?_)
          | refine Safe.dite (fun _ => ?_) (fun _ => ?_)
      · intro _ hJ
        have hJ := Goes.safe hJ
        refine Safe.goes ?_
        repeat' first
          | with_reducible refine Safe.bind ?_ (fun _ => ?_)
          | with_reducible refine Safe.store ?_
          | with_reducible refine Safe.load ?_
          | with_reducible assumption
          | with_reducible exact Writes.reads (by assumption)
          | with_reducible exact Safe.pure _
          | with_reducible refine Safe.dite (fun _ => ?_) (fun _ => ?_)
          | refine Safe.bind ?_ (fun _ => ?_)
          | refine Safe.dite (fun _ => ?_) (fun _ => ?_)
  · intro k0_h1 hJ
    refine Goes.seq (M := (St c arg2 arg3 arg4 arg5 arg6 arg7 arg8 arg9 arg10 arg11 arg12 (· = X2) (· = X3) (· = X4) (· = X5) (· = X6) (fun _ => True) (Norm X2 X3 X4 k0_t1_loop.trips) (fun _ => True) (fun _ => True) (fun _ => True) (fun _ => True))) ?_ (fun _ => hJ)
    refine Goes.pre (Slot.mono (R := fun P => St c arg2 arg3 arg4 arg5 arg6 arg7 arg8 arg9 arg10 arg11 arg12 (· = X2) (· = X3) (· = X4) (· = X5) (· = X6) (fun _ => True) P (fun _ => True) (fun _ => True) (fun _ => True) (fun _ => True)) slot8
      (P' := Norm X2 X3 X4 0) (fun g _ t ht => absurd ht (Nat.not_lt_zero _))) ?_
    refine Goes.loop (fun n => (St c arg2 arg3 arg4 arg5 arg6 arg7 arg8 arg9 arg10 arg11 arg12 (· = X2) (· = X3) (· = X4) (· = X5) (· = X6) (fun _ => True) (Norm X2 X3 X4 n) (fun _ => True) (fun _ => True) (fun _ => True) (fun _ => True))) (fun k0_t1 _ => ?_)
    refine Goes.seq (part1_goes i arg2 harg2 arg3 harg3 arg4 harg4 arg5 harg5 arg6 harg6 arg7 harg7 arg8 harg8 arg9 harg9 arg10 harg10 arg11 harg11 arg12 harg12 c X2 X3 X4 X5 X6 k0_h1 k0_t1) (fun _ => ?_)
    generalize hR : (St c arg2 arg3 arg4 arg5 arg6 arg7 arg8 arg9 arg10 arg11 arg12 (· = X2) (· = X3) (· = X4) (· = X5) (· = X6) (fun _ => True) (Norm X2 X3 X4 (k0_t1.val + 1)) (fun _ => True) (fun _ => True) (fun _ => True) (fun _ => True)) = R
    obtain ⟨⟨h2, h3, h4, h5, h6, h7, h8⟩, ⟨h9, h10, h11, h12⟩, hw⟩ := access arg2 arg3 arg4 arg5 arg6 arg7 arg8 arg9 arg10 arg11 arg12 c X2 X3 X4 X5 X6 (fun _ => True) (Norm X2 X3 X4 (k0_t1.val + 1)) R hR.symm
    refine Safe.goes ?_
    repeat' first
      | with_reducible refine Safe.bind ?_ (fun _ => ?_)
      | with_reducible refine Safe.store ?_
      | with_reducible refine Safe.load ?_
      | with_reducible assumption
      | with_reducible exact Writes.reads (by assumption)
      | with_reducible exact Safe.pure _
      | with_reducible refine Safe.dite (fun _ => ?_) (fun _ => ?_)
      | refine Safe.bind ?_ (fun _ => ?_)
      | refine Safe.dite (fun _ => ?_) (fun _ => ?_)
  · intro hq
    exact Slot.mono (R := fun P => St c arg2 arg3 arg4 arg5 arg6 arg7 arg8 arg9 arg10 arg11 arg12 (· = X2) (· = X3) (· = X4) (· = X5) (· = X6) (fun _ => True) P (fun _ => True) (fun _ => True) (fun _ => True) (fun _ => True)) slot8 (fun g hg => hg hq)

end Cert.Inproj

end
-- ==== Proof.InprojRun.lean ====
/-
  The input projection's run: the kernel's proof data over its 384 grid points (what each plain column tile is left at, and
  that the scratch holds the row block's normalised rows after every point), its body obligation from `body_goes`, and the
  run of @main with the three slices it returns.
-/
module

public import proofs.«01_k».proof.Proof.InprojBody
public import proofs.«01_k».proof.Proof.Gen.Kernel4Ideal.Launch
public import Idealize.ShloMosaic.Lib.Pipeline.FrameBody
public import Idealize.ShloMosaic.Lib.Pipeline.FrameSuffix

@[expose] public section

noncomputable section

namespace Cert.Inproj

open Cert.Kernel4Ideal Cert.Kernel4Ideal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid's points -/

/-- A plain column tile is convolved nowhere. -/
theorem plain_only : ∀ t : Fin cfg0.N, k0_cond2 (grid0.coords t) = 1#1 → k0_cond3 (grid0.coords t) ≠ 1#1 ∧ k0_cond5 (grid0.coords t) ≠ 1#1 := by
  decide +kernel

/-- A point that does not normalise is not the first, and its row block, its modulation and the weight are the last point's. -/
theorem rows_stay : ∀ t : Fin cfg0.N, ¬ k0_cond1 (grid0.coords t) = 1#1 → ∃ h : t.val ≠ 0,
    (cfg0.win 0).index ⟨t.val - 1, Nat.lt_of_le_of_lt (Nat.sub_le _ _) t.isLt⟩ = (cfg0.win 0).index t
    ∧ (cfg0.win 1).index ⟨t.val - 1, Nat.lt_of_le_of_lt (Nat.sub_le _ _) t.isLt⟩ = (cfg0.win 1).index t
    ∧ (cfg0.win 2).index ⟨t.val - 1, Nat.lt_of_le_of_lt (Nat.sub_le _ _) t.isLt⟩ = (cfg0.win 2).index t := by
  decide +kernel

/-! ## The proof data -/

/-- Window `w`'s block at point `t`, of its array as launched. -/
def blk (c : Dev nD) (w : Fin cfg0.W) (t : Fin cfg0.N) : ((cfg0.win w).xblock (cfg0.grid.coords t)).Idx → Elt F (cfg0.win w).elt :=
  ((cfg0.win w).blk t).view.read (Elt F) (m ((c : Thread nD τ).loc (Pipeline.arrRef spec0 w)))

/-- The scratch holds the normalised rows of point `t`'s row block, -/
def RowsAt (c : Dev nD) (t : Fin cfg0.N) (g : S1024x2048.Idx → Elt F .bf16) : Prop :=
  Norm (F := F) (blk m c 0 t) (blk m c 1 t) (blk m c 2 t) k0_t1_loop.trips g
/-- and the tile of a plain column holds their products with the tile's weights. -/
def TileAt (c : Dev nD) (t : Fin cfg0.N) (X : S1024x1024.Idx → Elt F .bf16) : Prop :=
  k0_cond2 (grid0.coords t) = 1#1 → ∃ h, RowsAt m c t h ∧ Prods (F := F) h (blk m c 3 t) 4 X

/-- The kernel's scratch, the normalised rows' at `P`. -/
def Scr (c : Dev nD) (P : (S1024x2048.Idx → Elt F .bf16) → Prop) : sProp 𝕄 :=
  iprop(Held c (Memref.whole cc0_scratch0) P ∗ Held c (Memref.whole cc0_scratch1) (fun _ => True) ∗ Held c (Memref.whole cc0_scratch2) (fun _ => True)
    ∗ Held c (Memref.whole cc0_scratch3) (fun _ => True) ∗ Held c (Memref.whole cc0_scratch4) (fun _ => True))

/-- Before point `t` the scratch holds the rows of the point before, if there is one. -/
def Before (c : Dev nD) (t : Fin (cfg0.N + 1)) (g : S1024x2048.Idx → Elt F .bf16) : Prop :=
  ∀ t' : Fin cfg0.N, t'.val + 1 = t.val → RowsAt m c t' g

def rdat (c : Dev nD) : RDat τ (Elt F) Unit ℕ (UR sig nD τ) ℕ cfg0 c where
  A w := m ((c : Thread nD τ).loc (Pipeline.arrRef spec0 w))
  after w t Y X := match w with
    | ⟨0, _⟩ => X = Y
    | ⟨1, _⟩ => X = Y
    | ⟨2, _⟩ => X = Y
    | ⟨3, _⟩ => X = Y
    | ⟨4, _⟩ => X = Y
    | ⟨5, _⟩ => TileAt m c t X
  Φ t := iprop(Scr c (Before m c t) ∗ ∃ r, prngReg c r)
  q w := Pipeline.shareOf spec0 w
  owed _ := 0

theorem finds0 (c : Dev nD) (t : Fin cfg0.N) (Y) (h : (rdat m c).Finds 0 t Y) : Y = blk m c 0 t := by
  obtain ⟨d, hd⟩ := (rdat m c).finds_in_eq_fetched 0 rfl (fun _ _ _ => rfl) (fun _ _ _ h => h) t Y h
  exact hd
theorem finds1 (c : Dev nD) (t : Fin cfg0.N) (Y) (h : (rdat m c).Finds 1 t Y) : Y = blk m c 1 t := by
  obtain ⟨d, hd⟩ := (rdat m c).finds_in_eq_fetched 1 rfl (fun _ _ _ => rfl) (fun _ _ _ h => h) t Y h
  exact hd
theorem finds2 (c : Dev nD) (t : Fin cfg0.N) (Y) (h : (rdat m c).Finds 2 t Y) : Y = blk m c 2 t := by
  obtain ⟨d, hd⟩ := (rdat m c).finds_in_eq_fetched 2 rfl (fun _ _ _ => rfl) (fun _ _ _ h => h) t Y h
  exact hd
theorem finds3 (c : Dev nD) (t : Fin cfg0.N) (Y) (h : (rdat m c).Finds 3 t Y) : Y = blk m c 3 t := by
  obtain ⟨d, hd⟩ := (rdat m c).finds_in_eq_fetched 3 rfl (fun _ _ _ => rfl) (fun _ _ _ h => h) t Y h
  exact hd

/-! ## The body obligation -/

theorem owns_held (c : Dev nD) {S : Shape} {e : EltTy} {M : Memref sig .tc .vmem S e} (hM : M.IsWhole) (X : S.Idx → Elt F e) :
    (owns (c : Thread nD τ) M fullShare X : sProp 𝕄) ⊢ Held c M (· = X) := by
  unfold owns Held
  rw [hM.set_eq_univ]

theorem held_owns (c : Dev nD) {S : Shape} {e : EltTy} {M : Memref sig .tc .vmem S e} (hM : M.IsWhole) (P : (S.Idx → Elt F e) → Prop) :
    (Held c M P : sProp 𝕄) ⊢ iprop(∃ X, ⌜P X⌝ ∗ owns (c : Thread nD τ) M fullShare X) := by
  unfold owns Held
  rw [hM.set_eq_univ]
  iintro ⟨%f, %h, H⟩
  iexists (M.view.read (Elt F) f)
  isplitr; · ipureintro; exact h
  iexists f
  isplitr; · ipureintro; rfl
  iexact H

theorem Held.mono (c : Dev nD) {S : Shape} {e : EltTy} {M : Memref sig .tc .vmem S e} {P P' : (S.Idx → Elt F e) → Prop} (h : ∀ g, P g → P' g) :
    (Held c M P : sProp 𝕄) ⊢ Held c M P' := by
  unfold Held
  iintro ⟨%f, %hf, H⟩
  iexists f
  isplitr; · ipureintro; exact h _ hf
  iexact H

theorem rows_of_before (c : Dev nD) (t : Fin cfg0.N) (g : S1024x2048.Idx → Elt F .bf16) (h : Before m c t.castSucc g)
    (h1 : ¬ k0_cond1 (grid0.coords t) = 1#1) : RowsAt m c t g := by
  obtain ⟨h0, e0, e1, e2⟩ := rows_stay t h1
  have := h ⟨t.val - 1, Nat.lt_of_le_of_lt (Nat.sub_le _ _) t.isLt⟩ (by show t.val - 1 + 1 = t.val; omega)
  unfold RowsAt at this ⊢
  rw [show blk m c 0 ⟨t.val - 1, Nat.lt_of_le_of_lt (Nat.sub_le _ _) t.isLt⟩ = blk m c 0 t from (rdat m c).fetched_congr 0 e0 rfl (blk m c 0 t),
    show blk m c 1 ⟨t.val - 1, Nat.lt_of_le_of_lt (Nat.sub_le _ _) t.isLt⟩ = blk m c 1 t from (rdat m c).fetched_congr 1 e1 rfl (blk m c 1 t),
    show blk m c 2 ⟨t.val - 1, Nat.lt_of_le_of_lt (Nat.sub_le _ _) t.isLt⟩ = blk m c 2 t from (rdat m c).fetched_congr 2 e2 rfl (blk m c 2 t)] at this
  exact this

theorem Goes.framed {c : Dev nD} {R Q : sProp 𝕄} (X : sProp 𝕄) {α : Type} {p : Prog (TpuEff nD τ sig (Elt F) Λ₀ .tc) α} (h : Goes (F := F) c R Q p) :
    Goes (F := F) c iprop(R ∗ X) iprop(Q ∗ X) p := by
  unfold Goes at h ⊢
  exact (show iprop(R ∗ X) ⊢ iprop(run c p (fun _ => Q) ∗ X) by
    iintro ⟨HR, HX⟩
    isplitl [HR]; · iapply h; iexact HR
    iexact HX).trans (wp_frame_r _ _ _)

theorem body_obligation (c : Dev nD) : (rdat (F := F) m c).BodyObligation (defs₀ (F := F)) Variants.none () Set.univ := fun t Y hY => by
  have h0 := finds0 m c t _ (hY 0)
  have h1 := finds1 m c t _ (hY 1)
  have h2 := finds2 m c t _ (hY 2)
  have h3 := finds3 m c t _ (hY 3)
  rw [bigSep_W0, bigSep_W0, show (rdat m c).owesAt () t.succ = (rdat m c).owesAt () t.castSucc from rfl]
  unfold defs₀; rw [Defs.onTc_tc]
  have hb := body_goes (F := F) (grid0.coords t) (win0_0.stage (cfg0.slots t 0)) (hstage0_0 ((cfg0.slots t 0).cast nbuf0_0))
    (win0_1.stage (cfg0.slots t 1)) (hstage0_1 ((cfg0.slots t 1).cast nbuf0_1)) (win0_2.stage (cfg0.slots t 2)) (hstage0_2 ((cfg0.slots t 2).cast nbuf0_2))
    (win0_3.stage (cfg0.slots t 3)) (hstage0_3 ((cfg0.slots t 3).cast nbuf0_3)) (win0_4.stage (cfg0.slots t 4)) (hstage0_4 ((cfg0.slots t 4).cast nbuf0_4))
    (win0_5.stage (cfg0.slots t 5)) (hstage0_5 ((cfg0.slots t 5).cast nbuf0_5)) (Memref.whole cc0_scratch0) (Memref.isWhole_whole _)
    (Memref.whole cc0_scratch1) (Memref.isWhole_whole _) (Memref.whole cc0_scratch2) (Memref.isWhole_whole _)
    (Memref.whole cc0_scratch3) (Memref.isWhole_whole _) (Memref.whole cc0_scratch4) (Memref.isWhole_whole _) (plain_only t) c (Y 0) (Y 1) (Y 2) (Y 3) (Y 4)
  have hf := Goes.framed iprop((∃ r, prngReg c r) ∗ (rdat m c).owesAt () t.castSucc) hb
  unfold Goes at hf
  refine (show _ ⊢ _ from ?_).trans (hf.trans (wp_mono _ _ _ fun _ => ?_))
  · unfold St
    unfold rdat Scr
    dsimp only
    iintro ⟨⟨⟨S0, S1, S2, S3, S4⟩, Hp⟩, Ho, H0, H1, H2, H3, H4, H5⟩
    isplitr [Hp Ho]
    · isplitl [H0]; · iapply (owns_held c (hstage0_0 _) _); iexact H0
      isplitl [H1]; · iapply (owns_held c (hstage0_1 _) _); iexact H1
      isplitl [H2]; · iapply (owns_held c (hstage0_2 _) _); iexact H2
      isplitl [H3]; · iapply (owns_held c (hstage0_3 _) _); iexact H3
      isplitl [H4]; · iapply (owns_held c (hstage0_4 _) _); iexact H4
      isplitl [H5]
      · iapply (Held.mono c (P := (· = Y 5)) fun _ _ => trivial)
        iapply (owns_held c (hstage0_5 _) _); iexact H5
      isplitl [S0]
      · iapply (Held.mono c (P := Before m c t.castSucc) fun g hg hc => by
          have := rows_of_before m c t g hg hc
          unfold RowsAt at this
          rw [h0, h1, h2]; exact this)
        iexact S0
      isplitl [S1]; · iexact S1
      isplitl [S2]; · iexact S2
      isplitl [S3]; · iexact S3
      iexact S4
    · isplitl [Hp]; · iexact Hp
      iexact Ho
  · unfold St
    unfold rdat Scr
    dsimp only
    iintro ⟨⟨H0, H1, H2, H3, H4, H5, S0, S1, S2, S3, S4⟩, Hp, Ho⟩
    isplitl [S0 S1 S2 S3 S4 Hp]
    · isplitr [Hp]
      · isplitl [S0]
        · iapply (Held.mono c (P := Norm (Y 0) (Y 1) (Y 2) k0_t1_loop.trips) fun g hg t' ht' => by
            have ht : t' = t := Fin.ext (by simpa using ht')
            subst ht
            unfold RowsAt
            rw [← h0, ← h1, ← h2]; exact hg)
          iexact S0
        isplitl [S1]; · iexact S1
        isplitl [S2]; · iexact S2
        isplitl [S3]; · iexact S3
        iexact S4
      · iexact Hp
    isplitl [Ho]; · iexact Ho
    isplitl [H0]; · iapply (held_owns c (hstage0_0 _) _); iexact H0
    isplitl [H1]; · iapply (held_owns c (hstage0_1 _) _); iexact H1
    isplitl [H2]; · iapply (held_owns c (hstage0_2 _) _); iexact H2
    isplitl [H3]; · iapply (held_owns c (hstage0_3 _) _); iexact H3
    isplitl [H4]; · iapply (held_owns c (hstage0_4 _) _); iexact H4
    iapply (held_owns c (hstage0_5 _) (TileAt m c t))
    iapply (Held.mono c (P := fun g => k0_cond2 (grid0.coords t) = 1#1 → ∃ h, Norm (Y 0) (Y 1) (Y 2) k0_t1_loop.trips h ∧ Prods h (Y 3) 4 g) fun g hg hc => by
      obtain ⟨h, hn, hp⟩ := hg hc
      refine ⟨h, ?_, ?_⟩
      · unfold RowsAt
        rw [← h0, ← h1, ← h2]; exact hn
      · rw [← h3]; exact hp)
    iexact H5

/-! ## The run -/

/-- What an array's buffer holds when the region ends, -/
abbrev Arrs (c : Dev nD) : Type := (w : Fin cfg0.W) → Buf (Elt F) ((spec0 w).arr.view.loc (c : Thread nD τ))
/-- and what each buffer holds after the slices. -/
abbrev After (c : Dev nD) (A : Arrs (F := F) c) (b : Ref sig .tc) : Buf (Elt F) ((c : Thread nD τ).loc b) :=
  StableHlo.after hostOps1 (Pipeline.withArrays spec0 c (fun b => m (c, b)) A) (Proc.devRef .tc b)

theorem slices_sub : ∀ ops ∈ [(hostOps1 : List (HloOp τ sig (Elt F)))], ∀ op ∈ ops,
    op.bufs ⊆ Pipeline.tailRefs sig Pipeline.Prefetch.none spec0 := by
  intro ops hops op hop
  rw [List.mem_singleton.mp hops] at hop
  exact Pipeline.sub_tailRefs _ _ op (List.forall_iff_forall_mem.mp hostOps1_sub op hop) fun k => k.elim0

theorem slices_fresh : ∀ ops ∈ [(hostOps1 : List (HloOp τ sig (Elt F)))], ∀ op ∈ ops, op.fresh = ∅ := by
  intro ops hops op hop
  rw [List.mem_singleton.mp hops] at hop
  simp only [hostOps1, List.mem_cons, List.mem_nil_iff, or_false] at hop
  rcases hop with rfl | rfl | rfl <;> rfl

theorem slices_keep : ∀ ops ∈ [(hostOps1 : List (HloOp τ sig (Elt F)))], ∀ op ∈ ops,
    ∀ w, Proc.devRef .tc (Pipeline.arrRef spec0 w) ∉ op.writes := by
  intro ops hops op hop w
  rw [List.mem_singleton.mp hops] at hop
  simp only [hostOps1, List.mem_cons, List.mem_nil_iff, or_false] at hop
  rcases hop with rfl | rfl | rfl <;>
    (rw [StableHlo.unary_writes, Finset.mem_singleton]; exact StableHlo.devRef_ne_of_ne (by revert w; decide))

theorem hmain : Pipeline.HMainK (Ix := Unit) (Name := ℕ) (U := UR sig nD τ) (Lvl := ℕ) cfgs 0 (defs₀ (F := F)) Variants.none m (main (F := F))
    (fun c b => m ((c : Thread nD τ).loc b)) (fun _ => Pipeline.chain ([hostOps1].map StableHlo.seq)) :=
  Pipeline.hmain_around cfgs 0 defs₀ Variants.none m main [] [hostOps1] trivial trivial fun c => main_chain c

/-- Some contents the arrays may hold at the end, taken together, -/
theorem arrs_open (c : Dev nD) : ((rdat m c).arraysAt cfg0.N : sProp 𝕄)
    ⊢ iprop(∃ A : Arrs (F := F) c, ⌜∀ w, (rdat m c).ArrAt w cfg0.N (A w)⌝ ∗ (rdat m c).arrays A) := by
  unfold RDat.arraysAt RDat.arrays
  refine (bigSep_exists_pi Finset.univ (fun w B => iprop(⌜(rdat m c).ArrAt w cfg0.N B⌝
    ∗ ((cfg0.win w).arr.view.loc (c : Thread nD τ) ↦[(cfg0.win w).arr.view.set]{(rdat m c).share w} B)))).trans ?_
  iintro ⟨%A, H⟩
  ihave H2 := (bigSep_pure_sep Finset.univ (fun w => (rdat m c).ArrAt w cfg0.N (A w))
    (fun w => (cfg0.win w).arr.view.loc (c : Thread nD τ) ↦[(cfg0.win w).arr.view.set]{(rdat m c).share w} A w)) $$ H
  icases H2 with ⟨%hA, H2⟩
  iexists A
  isplitr; · ipureintro; exact fun w => hA w (Finset.mem_univ w)
  iexact H2

/-- and array by array again. -/
theorem arrs_close (c : Dev nD) (A : Arrs (F := F) c) (hA : ∀ w, (rdat m c).ArrAt w cfg0.N (A w)) :
    ((rdat m c).arrays A : sProp 𝕄) ⊢ (rdat m c).arraysAt cfg0.N := by
  unfold RDat.arraysAt RDat.arrays
  refine bigSep_mono fun w _ => ?_
  show ((cfg0.win w).arr.view.loc (c : Thread nD τ) ↦[(cfg0.win w).arr.view.set]{(rdat m c).share w} A w : sProp 𝕄)
    ⊢ iprop(∃ B, ⌜(rdat m c).ArrAt w cfg0.N B⌝ ∗ (cfg0.win w).arr.view.loc (c : Thread nD τ) ↦[(cfg0.win w).arr.view.set]{(rdat m c).share w} B)
  iintro H
  iexists (A w)
  isplitr; · ipureintro; exact hA w
  iexact H

theorem arrs_eq (c : Dev nD) (A : Arrs (F := F) c) (hA : ∀ w, (rdat m c).ArrAt w cfg0.N (A w)) :
    ((rdat m c).arrays A : sProp 𝕄)
      = Pipeline.arrBufs spec0 c (fun b => Pipeline.withArrays spec0 c (fun b => m (c, b)) A (Proc.devRef .tc b)) :=
  ((rdat m c).arrBufs_eq_arrays launch0.to₀.sharedIn launch0.arr_whole (fun _ _ => rfl) _ A fun w =>
    (Pipeline.withArrays_arr spec0 launch0.win.arr_inj c (fun b => m (c, b)) A w).symm).symm

theorem scr_scoped (c : Dev nD) (P : (S1024x2048.Idx → Elt F .bf16) → Prop) :
    (Scr c P : sProp 𝕄) ⊢ Pipeline.scopedRest spec0 c := by
  rw [scopedRest0_eq]
  unfold Scr Held
  iintro ⟨⟨%f0, -, H0⟩, ⟨%f1, -, H1⟩, ⟨%f2, -, H2⟩, ⟨%f3, -, H3⟩, ⟨%f4, -, H4⟩⟩
  isplitl [H0]; · iexists f0; iexact H0
  isplitl [H1]; · iexists f1; iexact H1
  isplitl [H2]; · iexists f2; iexact H2
  isplitl [H3]; · iexists f3; iexact H3
  iexists f4; iexact H4

theorem scoped_scr (c : Dev nD) (P : (S1024x2048.Idx → Elt F .bf16) → Prop) (hP : ∀ g, P g) :
    (Pipeline.scopedRest spec0 c : sProp 𝕄) ⊢ Scr c P := by
  rw [scopedRest0_eq]
  unfold Scr Held
  iintro ⟨⟨%f0, H0⟩, ⟨%f1, H1⟩, ⟨%f2, H2⟩, ⟨%f3, H3⟩, ⟨%f4, H4⟩⟩
  isplitl [H0]; · iexists f0; isplitr; · ipureintro; exact hP _
                  iexact H0
  isplitl [H1]; · iexists f1; isplitr; · ipureintro; trivial
                  iexact H1
  isplitl [H2]; · iexists f2; isplitr; · ipureintro; trivial
                  iexact H2
  isplitl [H3]; · iexists f3; isplitr; · ipureintro; trivial
                  iexact H3
  iexists f4; isplitr; · ipureintro; trivial
  iexact H4

/-- The buffers that bypass the region, after the slices of some contents the arrays may hold. -/
def Sliced (c : Dev nD) : sProp 𝕄 :=
  iprop(∃ A : Arrs (F := F) c, ⌜∀ w, (rdat m c).ArrAt w cfg0.N (A w)⌝
    ∗ Pipeline.unscopedRestP (Ix := Unit) (Name := ℕ) (U := UR sig nD τ) (Lvl := ℕ) Pipeline.Prefetch.none spec0 c (After m c A))

theorem tail (c : Dev nD) (Q : PUnit → sProp 𝕄) :
    iprop((iprop(boundary (c : Thread nD τ) ∗ (rdat m c).arraysAt cfg0.N ∗ Sliced m c) -∗ Q ⟨⟩)
        ∗ boundary (c : Thread nD τ) ∗ (rdat m c).arraysAt cfg0.N
        ∗ Pipeline.unscopedRestP (Ix := Unit) (Name := ℕ) (U := UR sig nD τ) (Lvl := ℕ) Pipeline.Prefetch.none spec0 c (fun b => m ((c : Thread nD τ).loc b)))
      ⊢ wp frame (wpE (Pipeline.defs (pcfgs (F := F)) defs₀) (Variants.lift Variants.none) (c : Thread nD τ) none) Set.univ
          (Pipeline.chain ([hostOps1].map StableHlo.seq)) Q := by
  iintro ⟨Hk, Hb, Ha, HZ⟩
  ihave Ha' := (arrs_open m c) $$ Ha
  icases Ha' with ⟨%A, %hA, Ha⟩
  iapply (Pipeline.tail_seqs_bufs_b pcfgs defs₀ Variants.none Pipeline.Prefetch.none spec0 c (fun b => m (c, b)) A [hostOps1] slices_sub slices_fresh slices_keep Q)
  isplitl [Hk]
  · iintro ⟨Hb, Ha, HZ⟩
    iapply Hk
    isplitl [Hb]; · iexact Hb
    isplitl [Ha]
    · iapply (arrs_close m c A hA)
      iapply (Entails.of_eq (arrs_eq m c A hA).symm); iexact Ha
    unfold Sliced
    iexists A
    isplitr; · ipureintro; exact hA
    iexact HZ
  isplitl [Hb]; · iexact Hb
  isplitl [Ha]; · iapply (Entails.of_eq (arrs_eq m c A hA)); iexact Ha
  iexact HZ

/-- What a final memory shows of core `c`'s arrays and of the buffers that bypass the region. -/
def Shows (c : Dev nD) (s : MemSt nD τ sig (Elt F)) : Prop :=
  ∃ A : Arrs (F := F) c, (∀ w, (rdat m c).ArrAt w cfg0.N (A w))
    ∧ ∀ b ∈ Pipeline.restRefsP sig Pipeline.Prefetch.none spec0, s.mem ((c : Thread nD τ).loc b) = After m c A b

theorem sliced_shows (c : Dev nD) (s : Phys nD τ sig (Elt F)) (Y : sProp 𝕄) :
    iprop(Y ∗ Sliced m c ∗ SI s) ⊢ |={Set.univ}=> iprop(⌜Shows m c s.mem⌝ ∗ SI s) := by
  unfold Sliced Pipeline.unscopedRestP
  iintro ⟨-, ⟨%A, %hA, HZ⟩, HS⟩
  ihave H := (pointsTo_read_all (Pipeline.restRefsP sig Pipeline.Prefetch.none spec0) (fun b => (c : Thread nD τ).loc b) (After m c A) s) $$ [HZ HS]
  · isplitl [HZ]; · iexact HZ
    iexact HS
  icases H with ⟨%h, HS⟩
  imodintro
  isplitr; · ipureintro; exact ⟨A, hA, h⟩
  iexact HS

set_option backward.isDefEq.respectTransparency.types false in
theorem run_quiescent : θ_run defs (onTc (τ := τ) (main (F := F))) ⟨m, fun _ => 0, ρ⟩ (fun r =>
    (∀ c, (∀ w, (rdat m c).ArrAt w cfg0.N (r.2.mem ((spec0 w).arr.view.loc (c : Thread nD τ)))) ∧ Shows m c r.2) ∧ r.2.sem = fun _ => 0) := by
  have kit := launch0.toP (Val := Elt F)
  exact RDat.θ_run_region_pf_tail_quiescent pcfgs (fun q => (cfgs q).toPCfg_adm) (fun _ c => rdat m c) () (kit.to₀.cellOf_inj _) 0 kit.to₀.win
    (Pipeline.OwnSemFacts.none spec0) kit.to₀.pre emb₁ defs₀ Variants.none m ρ main
    (fun _ => Pipeline.chain ([hostOps1].map StableHlo.seq)) (hbody := body_obligation m) launch0.block_pos launch0.arr_whole launch0.stage_whole
    (howed := fun _ _ => rfl) (G := fun _ => iprop(emp)) (u₀ := _)
    (hu₀ := by
      iintro H
      imodintro
      isplitl [H]
      · iapply (Entails.of_eq (ownU_emb₁ _)); iexact H
      · iapply (Entails.of_eq (bigSep_emp_const _).symm)
        iempintro)
    (V := fun c b => m ((c : Thread nD τ).loc b)) (hmain := hmain m)
    (hsplit := fun c => (rdat m c).arrays_split_shared launch0.to₀.sharedIn launch0.arr_whole (fun _ _ => rfl) _ _ fun _ => rfl)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (fun b => m ((c : Thread nD τ).loc b)))
    (Z' := Sliced m)
    (hX := fun c => by
      iintro ⟨HZ, -, -, Hp, -⟩
      imodintro
      isplitl [Hp]; · iexists _; iexact Hp
      iexact HZ)
    (hin := fun c => by
      iintro ⟨Hp, -, Hs⟩
      unfold rdat
      dsimp only
      isplitl [Hs]
      · iapply (scoped_scr c _ fun g t' h => absurd h (Nat.succ_ne_zero _)); iexact Hs
      · iexact Hp)
    (hout := fun c => by
      rw [Pipeline.ownSems0_none]
      unfold rdat
      dsimp only
      iintro ⟨Hs, Hp⟩
      isplitl [Hp]; · iexact Hp
      isplitr; · iempintro
      iapply (scr_scoped c _); iexact Hs)
    (htail := tail m) (QY := Shows m) (hY := fun c s => sliced_shows m c s _)
    (hQ := fun s h hz => ⟨fun c => ⟨(h c).1, (h c).2.2⟩, hz⟩)

theorem arg_kept (c : Dev nD) (w : Fin cfg0.W) (hw : (cfg0.win w).isOut = false) {B} (h : (rdat m c).ArrAt w cfg0.N B) : B = (rdat m c).A w := by
  rw [(rdat m c).ArrAt_in w hw] at h
  exact h

/-- The argument arrays end as launched, and every counter at zero. -/
theorem frame_goes : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨arg_kept m c 0 rfl ((h.1 c).1 0), arg_kept m c 1 rfl ((h.1 c).1 1),
    arg_kept m c 2 rfl ((h.1 c).1 2), arg_kept m c 3 rfl ((h.1 c).1 3), arg_kept m c 4 rfl ((h.1 c).1 4)⟩, h.2⟩)
    (run_quiescent m ρ)

end Cert.Inproj

end
-- ==== Proof.InprojValue.lean ====
/-
  The input projection's values on its plain column tiles: every entry of such a tile is the product of a normalised row with
  the weights' row of its column, and the three slices @main returns lie on these tiles only.
-/
module

public import proofs.«01_k».proof.Proof.InprojRun
public import proofs.«01_k».proof.Proof.Gen.Reference4Ideal.Run
public import proofs.«01_k».proof.Defs
public import Idealize.ShloMosaic.Lib.Claim
public import Idealize.ShloMosaic.Lib.Pipeline.ArrRel
public import Idealize.ShloMosaic.Lib.Pipeline.ValueKit

@[expose] public section

set_option maxRecDepth 16384

noncomputable section

namespace Cert.Inproj

open Idealize.ShloMosaic Idealize.SL.Sem

/-- A row's element, normalised, scaled and shifted. -/
def normed (x : Fin 16384 → Fin 2048 → EReal) (md : Fin 2 → Fin 6144 → EReal) (nw : Fin 2048 → EReal) (r : Fin 16384) (k : Fin 2048) : EReal :=
  x r k * Ideal.rsqrt (Ideal.div (∑ e, x r e * x r e) (Ideal.ofBits .f32 0x45000000#32) + Ideal.ofBits .f32 0x358637BD#32) * nw k
      * (1 + md ⟨r.val / 8192, by omega⟩ ⟨2048 + k.val, by omega⟩)
    + md ⟨r.val / 8192, by omega⟩ ⟨k.val, by omega⟩

/-- A normalised row's product with a row of the weights. -/
def proj (x : Fin 16384 → Fin 2048 → EReal) (md : Fin 2 → Fin 6144 → EReal) (nw : Fin 2048 → EReal) (w : Fin 24656 → Fin 2048 → EReal)
    (r : Fin 16384) (e : Fin 24656) : EReal := ∑ k, normed x md nw r k * w e k

section

open Cert.Kernel4Ideal Cert.Kernel4Ideal.Gen Idealize.ShloMosaic.TcCoe

variable (m : (ℓ : Loc nD τ sig) → Buf (Elt Ideal) ℓ) (c : Dev nD)

/-- The first row of the weights that column tile `j` multiplies with. -/
def wrow (j : ℕ) : ℕ := 1024 * j + (if 8 ≤ j then 64 else 0) + (if 16 ≤ j then 16 else 0)

/-- The blocks' places, decided at every point. -/
theorem idx (t : Fin cfg0.N) : win0_0.index t = ![t.val / 24, 0] ∧ win0_1.index t = ![t.val / 24 / 8, 0, 0] ∧ win0_2.index t = ![0, 0]
    ∧ win0_3.index t = ![wrow (t.val % 24), 0] ∧ win0_5.index t = ![t.val / 24, t.val % 24] := by
  revert t
  decide +kernel

theorem lt384 (t : Fin cfg0.N) : t.val < 384 := lt_of_lt_of_eq t.isLt N_0

/-- The plain column tiles. -/
theorem plain (t : Fin cfg0.N) (h : 8 ≤ t.val % 24 ∧ t.val % 24 ≠ 12 ∧ t.val % 24 ≠ 13) : k0_cond2 (grid0.coords t) = 1#1 := by
  revert t
  decide +kernel

theorem flushes (t : Fin cfg0.N) : (cfg0.win 5).flush t = true := by
  revert t
  decide +kernel

/-- Row `a` of point `t`'s blocks, -/
def row (t : Fin cfg0.N) (a : Fin 1024) : Fin 16384 := ⟨t.val / 24 * 1024 + a.val, by have := lt384 t; omega⟩
/-- column `e` of its tile, -/
def col (t : Fin cfg0.N) (e : Fin 1024) : Fin 24576 := ⟨t.val % 24 * 1024 + e.val, by omega⟩
/-- and that column's row of the weights. -/
def wcol (t : Fin cfg0.N) (e : Fin 1024) : Fin 24656 := ⟨wrow (t.val % 24) + e.val, by unfold wrow; split_ifs <;> omega⟩

theorem x_at (t : Fin cfg0.N) (a : Fin 1024) (k : Fin 2048) : blk m c 0 t (ix2 a k) = m ((c : Thread nD τ).loc main_arg0) (ix2 (row t a) k) := by
  blk_ext [blk, idx t, row] <;> omega

theorem md_at (t : Fin cfg0.N) (a : Fin 1024) (e : Fin 6144) : blk m c 1 t (ix3 (0 : Fin 1) (0 : Fin 1) e)
    = m ((c : Thread nD τ).loc main_arg1) (ix3 (⟨(row t a).val / 8192, by omega⟩ : Fin 2) (0 : Fin 1) e) := by
  have := lt384 t
  blk_ext [blk, idx t, row] <;> omega

theorem nw_at (t : Fin cfg0.N) (k : Fin 2048) : blk m c 2 t (ix2 (0 : Fin 1) k) = m ((c : Thread nD τ).loc main_arg2) (ix2 (0 : Fin 1) k) := by
  blk_ext [blk, idx t]

/-- Where an element of a point's weights stands in their array. -/
theorem wemb_at (t : Fin cfg0.N) (e : Fin 1024) (k : Fin 2048) : (win0_3.blk t).view.emb (ix2 e k) = ix2 (wcol t e) k := by
  have h3 := (idx t).2.2.2.1
  funext d
  apply Fin.ext
  match d with
  | ⟨0, _⟩ =>
    show win0_3.index t 0 + 1 * e.val = _
    rw [h3]
    show wrow (t.val % 24) + 1 * e.val = wrow (t.val % 24) + e.val
    omega
  | ⟨1, _⟩ =>
    show win0_3.index t 1 + 1 * k.val = _
    rw [h3]
    show 0 + 1 * k.val = k.val
    omega

theorem w_at (t : Fin cfg0.N) (e : Fin 1024) (k : Fin 2048) : blk m c 3 t (ix2 e k) = m ((c : Thread nD τ).loc main_arg3) (ix2 (wcol t e) k) := by
  show m ((c : Thread nD τ).loc main_arg3) ((win0_3.blk t).view.emb (ix2 e k)) = _
  rw [wemb_at]

/-- Where an element of a point's tile stands in the array. -/
theorem emb_at (t : Fin cfg0.N) (a : Fin 1024) (e : Fin 1024) : (win0_5.blk t).view.emb (ix2 a e) = ix2 (row t a) (col t e) := by
  have h5 := (idx t).2.2.2.2
  funext d
  apply Fin.ext
  match d with
  | ⟨0, _⟩ =>
    show win0_5.index t 0 * 1024 + 1 * a.val = _
    rw [h5]
    show t.val / 24 * 1024 + 1 * a.val = t.val / 24 * 1024 + a.val
    omega
  | ⟨1, _⟩ =>
    show win0_5.index t 1 * 1024 + 1 * e.val = _
    rw [h5]
    show t.val % 24 * 1024 + 1 * e.val = t.val % 24 * 1024 + e.val
    omega

theorem index_inj (t t' : Fin cfg0.N) (h : win0_5.index t = win0_5.index t') : t = t' := by
  rw [(idx t).2.2.2.2, (idx t').2.2.2.2] at h
  have h0 : t.val / 24 = t'.val / 24 := congrFun h 0
  have h1 : t.val % 24 = t'.val % 24 := congrFun h 1
  apply Fin.ext
  omega

/-- Contents for every window's staging buffer after each point, the output's at `X`. -/
def leaves (X : Fin cfg0.N → S1024x1024.Idx → Elt Ideal .bf16) : (w : Fin cfg0.W) → Fin cfg0.N → (cfg0.win w).block.Idx → Elt Ideal (cfg0.win w).elt
  | ⟨5, _⟩, t => X t
  | ⟨0, _⟩, _ => fun _ => Classical.arbitrary _
  | ⟨1, _⟩, _ => fun _ => Classical.arbitrary _
  | ⟨2, _⟩, _ => fun _ => Classical.arbitrary _
  | ⟨3, _⟩, _ => fun _ => Classical.arbitrary _
  | ⟨4, _⟩, _ => fun _ => Classical.arbitrary _

/-- The array of a run holds, at each tile, what the tile's point left. -/
theorem tile_of (A : Buf (Elt Ideal) ((spec0 5).arr.view.loc (c : Thread nD τ))) (hA : (rdat m c).ArrAt 5 cfg0.N A)
    (t : Fin cfg0.N) : ∃ X, TileAt m c t X ∧ ∀ a e, A (ix2 (row t a) (col t e)) = X (ix2 a e) := by
  obtain ⟨X, hX, hG⟩ := hA.exists_exact
  obtain ⟨Y, -, hY⟩ := hX t t.isLt (flushes t)
  refine ⟨X t, hY, fun a e => ?_⟩
  have h := hG (leaves X) fun u _ _ => rfl
  have h2 := ((rdat m c).withAfter (leaves X)).arrAt_emb_eq_flushed 5
    (Pipeline.Window.hdisj_of_index_inj _ fun t t' _ _ he => index_inj t t' he) t (flushes t) (ix2 a e)
  rw [← h] at h2
  rw [← emb_at]
  exact h2

/-- A trip's rows, -/
theorem rows_at (t : Fin cfg0.N) (g : S1024x2048.Idx → Elt Ideal .bf16) (hg : RowsAt m c t g) (a : Fin 1024) (k : Fin 2048) :
    g (ix2 a k) = normed (fun r k => m ((c : Thread nD τ).loc main_arg0) (ix2 r k)) (fun b e => m ((c : Thread nD τ).loc main_arg1) (ix3 b (0 : Fin 1) e))
      (fun k => m ((c : Thread nD τ).loc main_arg2) (ix2 (0 : Fin 1) k)) (row t a) k := by
  have hu : a.val / 64 < k0_t1_loop.trips := by rw [trips_eq]; omega
  have h := hg ⟨a.val / 64, hu⟩ hu (ix2 (⟨a.val % 64, by omega⟩ : Fin 64) k)
  have ho := off1_eq ⟨a.val / 64, hu⟩
  have hx : ∀ e : Fin 2048, (rows64 ⟨a.val / 64, hu⟩).emb (ix2 (⟨a.val % 64, by omega⟩ : Fin 64) e) = ix2 a e := by
    intro e
    funext d
    apply Fin.ext
    match d with
    | ⟨0, _⟩ =>
      show k0_off1 ⟨a.val / 64, hu⟩ 0 + 1 * (a.val % 64) = a.val
      rw [ho]
      show 64 * (a.val / 64) + 1 * (a.val % 64) = a.val
      omega
    | ⟨1, _⟩ =>
      show k0_off1 ⟨a.val / 64, hu⟩ 1 + 1 * e.val = e.val
      rw [ho]
      show 0 + 1 * e.val = e.val
      omega
  rw [hx] at h
  refine h.trans ?_
  pointwise [k0_pay12, k0_pay11]
  have hr : ∀ h, (⟨k0_off1 ⟨a.val / 64, hu⟩ 0 + a.val % 64, h⟩ : Fin 1024) = a := fun h => Fin.ext (by
    show k0_off1 ⟨a.val / 64, hu⟩ 0 + a.val % 64 = a.val
    rw [ho]
    show 64 * (a.val / 64) + a.val % 64 = a.val
    omega)
  have hc : ∀ (e : Fin 2048) h, (⟨k0_off1 ⟨a.val / 64, hu⟩ 1 + e.val, h⟩ : Fin 2048) = e := fun e h => Fin.ext (by
    show k0_off1 ⟨a.val / 64, hu⟩ 1 + e.val = e.val
    rw [ho]
    exact Nat.zero_add _)
  simp only [hr, hc, x_at, md_at m c t a, nw_at]
  rfl

/-- a group's products. -/
theorem prods_at (h : S1024x2048.Idx → Elt Ideal .bf16) (W : S1024x2048.Idx → Elt Ideal .f32) (X : S1024x1024.Idx → Elt Ideal .bf16)
    (hX : Prods h W 4 X) (a e : Fin 1024) : X (ix2 a e) = ∑ k : Fin 2048, h (ix2 a k) * W (ix2 e k) := by
  have hk : a.val / 256 < 4 := by omega
  have h1 := hX ⟨a.val / 256, hk⟩ hk (ix2 (⟨a.val % 256, by omega⟩ : Fin 256) e)
  have hx : (out256 ⟨a.val / 256, hk⟩).emb (ix2 (⟨a.val % 256, by omega⟩ : Fin 256) e) = ix2 a e := by
    funext d
    apply Fin.ext
    match d with
    | ⟨0, _⟩ => show 256 * (a.val / 256) + 1 * (a.val % 256) = a.val; omega
    | ⟨1, _⟩ => show 0 + 1 * e.val = e.val; omega
  rw [hx] at h1
  refine h1.trans ?_
  pointwise [k0_pay3]
  have hr : ∀ h, (⟨256 * (a.val / 256) + a.val % 256, h⟩ : Fin 1024) = a := fun h => Fin.ext (Nat.div_add_mod _ _)
  simp only [hr]

/-- The kernel's products. -/
abbrev kernelProj : Fin 16384 → Fin 24656 → EReal :=
  proj (fun r k => m ((c : Thread nD τ).loc main_arg0) (ix2 r k)) (fun b e => m ((c : Thread nD τ).loc main_arg1) (ix3 b (0 : Fin 1) e))
    (fun k => m ((c : Thread nD τ).loc main_arg2) (ix2 (0 : Fin 1) k)) (fun e k => m ((c : Thread nD τ).loc main_arg3) (ix2 e k))

/-- The array of a run at a row and a column of a plain tile. -/
theorem array_at (A : Buf (Elt Ideal) ((spec0 5).arr.view.loc (c : Thread nD τ))) (hA : (rdat m c).ArrAt 5 cfg0.N A) (r : Fin 16384) (e : Fin 24576)
    (he : 8192 ≤ e.val ∧ e.val < 12288 ∨ 14336 ≤ e.val) (e' : Fin 24656) (he' : e'.val = e.val + (if 16384 ≤ e.val then 80 else 64)) :
    A (ix2 r e) = kernelProj m c r e' := by
  obtain ⟨t, ht⟩ : ∃ t : Fin cfg0.N, t.val = r.val / 1024 * 24 + e.val / 1024 := ⟨⟨r.val / 1024 * 24 + e.val / 1024, by rw [show cfg0.N = 384 from N_0]; omega⟩, rfl⟩
  obtain ⟨X, hX, hAX⟩ := tile_of m c A hA t
  obtain ⟨h, hn, hp⟩ := hX (plain t (by omega))
  have hr : row t ⟨r.val % 1024, by omega⟩ = r := Fin.ext (by show t.val / 24 * 1024 + r.val % 1024 = r.val; omega)
  have hc : col t ⟨e.val % 1024, by omega⟩ = e := Fin.ext (by show t.val % 24 * 1024 + e.val % 1024 = e.val; omega)
  have hw : wcol t ⟨e.val % 1024, by omega⟩ = e' := Fin.ext (by
    show wrow (t.val % 24) + e.val % 1024 = e'.val
    unfold wrow
    split_ifs at he' ⊢ <;> omega)
  have hx := hAX ⟨r.val % 1024, by omega⟩ ⟨e.val % 1024, by omega⟩
  rw [hr, hc] at hx
  rw [hx, prods_at h _ X hp]
  simp only [rows_at m c t h hn, w_at, hr, hw]
  rfl

/-! ## The slices -/

theorem after_v1 (A : Arrs c) : After m c A main_v1 = extractStridedSlice S16384x4096 ![0, 8192] (A 5) slices_S16384x24576_S16384x4096_0_8192 := by
  unfold After hostOps1
  after_results_simp
  exact congrArg (extractStridedSlice S16384x4096 ![0, 8192] · slices_S16384x24576_S16384x4096_0_8192)
    (Pipeline.withArrays_arr spec0 launch0.win.arr_inj c (fun b => m (c, b)) A 5)

theorem after_v2 (A : Arrs c) : After m c A main_v2 = extractStridedSlice S16384x2048 ![0, 14336] (A 5) slices_S16384x24576_S16384x2048_0_14336 := by
  unfold After hostOps1
  after_results_simp
  exact congrArg (extractStridedSlice S16384x2048 ![0, 14336] · slices_S16384x24576_S16384x2048_0_14336)
    (Pipeline.withArrays_arr spec0 launch0.win.arr_inj c (fun b => m (c, b)) A 5)

theorem after_v3 (A : Arrs c) : After m c A main_v3 = extractStridedSlice S16384x8192 ![0, 16384] (A 5) slices_S16384x24576_S16384x8192_0_16384 := by
  unfold After hostOps1
  after_results_simp
  exact congrArg (extractStridedSlice S16384x8192 ![0, 16384] · slices_S16384x24576_S16384x8192_0_16384)
    (Pipeline.withArrays_arr spec0 launch0.win.arr_inj c (fun b => m (c, b)) A 5)

/-- What the three slices hold at the end. -/
theorem slices_at (s : MemSt nD τ sig (Elt Ideal)) (hs : Shows m c s) :
    s.mem ((c : Thread nD τ).loc main_v1) = (fun i => kernelProj m c (i 0) ⟨8256 + (i 1).val, by have : (i 1).val < 4096 := (i 1).isLt; omega⟩)
    ∧ s.mem ((c : Thread nD τ).loc main_v2) = (fun i => kernelProj m c (i 0) ⟨14400 + (i 1).val, by have : (i 1).val < 2048 := (i 1).isLt; omega⟩)
    ∧ s.mem ((c : Thread nD τ).loc main_v3) = (fun i => kernelProj m c (i 0) ⟨16464 + (i 1).val, by have : (i 1).val < 8192 := (i 1).isLt; omega⟩) := by
  obtain ⟨A, hA, hb⟩ := hs
  refine ⟨(hb main_v1 (by decide)).trans ((after_v1 m c A).trans ?_), (hb main_v2 (by decide)).trans ((after_v2 m c A).trans ?_),
    (hb main_v3 (by decide)).trans ((after_v3 m c A).trans ?_)⟩ <;> funext i
  · obtain ⟨r, e, rfl⟩ : ∃ (r : Fin 16384) (e : Fin 4096), i = ix2 r e := ⟨i 0, i 1, by funext x; fin_cases x <;> rfl⟩
    pointwise
    exact array_at m c (A 5) (hA 5) r _ (by dsimp only; omega) _ (by dsimp only; split_ifs <;> omega)
  · obtain ⟨r, e, rfl⟩ : ∃ (r : Fin 16384) (e : Fin 2048), i = ix2 r e := ⟨i 0, i 1, by funext x; fin_cases x <;> rfl⟩
    pointwise
    exact array_at m c (A 5) (hA 5) r _ (by dsimp only; omega) _ (by dsimp only; split_ifs <;> omega)
  · obtain ⟨r, e, rfl⟩ : ∃ (r : Fin 16384) (e : Fin 8192), i = ix2 r e := ⟨i 0, i 1, by funext x; fin_cases x <;> rfl⟩
    pointwise
    exact array_at m c (A 5) (hA 5) r _ (by dsimp only; omega) _ (by dsimp only; split_ifs <;> omega)

end

section

open Cert.Reference4Ideal Cert.Reference4Ideal.Gen

variable (x0 : FVec Ideal S16384x2048 .f32) (x1 : FVec Ideal S2x1x6144 .f32) (x2 : FVec Ideal S1x2048 .f32) (x3 : FVec Ideal S24656x2048 .f32)

/-- The reference's product, as its operations spell it. -/
def refTerm : FVec Ideal S16384x24656 .f32 :=
  Host.dotGeneral dot_S16384x2048_S2048x24656_S16384x24656_1_0_0_1_n_n none (shapeCast _ (addf (mulf (mulf (mulf (shapeCast _ x0 shapeCasts_S16384x2048_S2x8192x2048) (broadcastInDim S2x8192x2048 ![0, 1, 2] bcast_S2x8192x1_S2x8192x2048_0_1_2 (Host.rsqrt (addf (Host.divf (broadcastInDim S2x8192x1 ![0, 1] bcast_S2x8192_S2x8192x1_0_1 (Host.reduceAdd (mulf (shapeCast _ x0 shapeCasts_S16384x2048_S2x8192x2048) (shapeCast _ x0 shapeCasts_S16384x2048_S2x8192x2048)) (constant S_ .f32 0x00000000#32) reducesTo_S2x8192x2048_S2x8192_d2 h_S_)) (broadcastInDim S2x8192x1 ![] bcast_S_S2x8192x1 (constant S_ .f32 0x45000000#32))) (broadcastInDim S2x8192x1 ![] bcast_S_S2x8192x1 (constant S_ .f32 0x358637BD#32)))))) (broadcastInDim S2x8192x2048 ![0, 1, 2] bcast_S1x1x2048_S2x8192x2048_0_1_2 (broadcastInDim S1x1x2048 ![2] bcast_S2048_S1x1x2048_2 (shapeCast _ x2 shapeCasts_S1x2048_S2048)))) (broadcastInDim S2x8192x2048 ![0, 1, 2] bcast_S2x1x2048_S2x8192x2048_0_1_2 (addf (broadcastInDim S2x1x2048 ![] bcast_S_S2x1x2048 (constant S_ .f32 0x3F800000#32)) (extractStridedSlice S2x1x2048 ![0, 0, 2048] x1 slices_S2x1x6144_S2x1x2048_0_0_2048)))) (broadcastInDim S2x8192x2048 ![0, 1, 2] bcast_S2x1x2048_S2x8192x2048_0_1_2 (extractStridedSlice S2x1x2048 ![0, 0, 0] x1 slices_S2x1x6144_S2x1x2048_0_0_0))) shapeCasts_S2x8192x2048_S16384x2048) (transpose S2048x24656 [1, 0] x3 transposes_S24656x2048_S2048x24656_1_0)

/-- The reference's product at a row and a column. -/
theorem ref_at (r : Fin 16384) (e : Fin 24656) :
    refTerm x0 x1 x2 x3 (ix2 r e) = proj (fun r k => x0 (ix2 r k)) (fun b e => x1 (ix3 b (0 : Fin 1) e)) (fun k => x2 (ix2 (0 : Fin 1) k))
      (fun e k => x3 (ix2 e k)) r e := by
  pointwise [refTerm]
  rfl

/-! Its slices. -/

theorem ref_v28 (r : Fin 16384) (e : Fin 4096) :
    (truncf .bf16 (extractStridedSlice S16384x4096 ![0, 8256] (refTerm x0 x1 x2 x3) slices_S16384x24656_S16384x4096_0_8256) bitsLt_bf16_f32 : FVec Ideal S16384x4096 .bf16) (ix2 r e)
      = proj (fun r k => x0 (ix2 r k)) (fun b e => x1 (ix3 b (0 : Fin 1) e)) (fun k => x2 (ix2 (0 : Fin 1) k)) (fun e k => x3 (ix2 e k)) r ⟨8256 + e.val, by omega⟩ := by
  refine Eq.trans ?_ (ref_at x0 x1 x2 x3 r ⟨8256 + e.val, by omega⟩)
  pointwise

theorem ref_v30 (r : Fin 16384) (e : Fin 2048) :
    (truncf .bf16 (extractStridedSlice S16384x2048 ![0, 14400] (refTerm x0 x1 x2 x3) slices_S16384x24656_S16384x2048_0_14400) bitsLt_bf16_f32 : FVec Ideal S16384x2048 .bf16) (ix2 r e)
      = proj (fun r k => x0 (ix2 r k)) (fun b e => x1 (ix3 b (0 : Fin 1) e)) (fun k => x2 (ix2 (0 : Fin 1) k)) (fun e k => x3 (ix2 e k)) r ⟨14400 + e.val, by omega⟩ := by
  refine Eq.trans ?_ (ref_at x0 x1 x2 x3 r ⟨14400 + e.val, by omega⟩)
  pointwise

theorem ref_v32 (r : Fin 16384) (e : Fin 8192) :
    (truncf .bf16 (extractStridedSlice S16384x8192 ![0, 16464] (refTerm x0 x1 x2 x3) slices_S16384x24656_S16384x8192_0_16464) bitsLt_bf16_f32 : FVec Ideal S16384x8192 .bf16) (ix2 r e)
      = proj (fun r k => x0 (ix2 r k)) (fun b e => x1 (ix3 b (0 : Fin 1) e)) (fun k => x2 (ix2 (0 : Fin 1) k)) (fun e k => x3 (ix2 e k)) r ⟨16464 + e.val, by omega⟩ := by
  refine Eq.trans ?_ (ref_at x0 x1 x2 x3 r ⟨16464 + e.val, by omega⟩)
  pointwise

end

/-- From equal arguments the kernel and the reference end with equal arrays. -/
theorem equal : Cert.algebraic_Kernel4Ideal_Reference4Ideal (hKernel4Ideal := Cert.Kernel4Ideal.Gen.facts)
    (hReference4Ideal := Cert.Reference4Ideal.Gen.facts) := by
  intro m g m' g' _ ha
  refine ⟨fun c i => kernelProj m c (i 0) ⟨8256 + (i 1).val, by have : (i 1).val < 4096 := (i 1).isLt; omega⟩,
    fun c i => kernelProj m c (i 0) ⟨14400 + (i 1).val, by have : (i 1).val < 2048 := (i 1).isLt; omega⟩,
    fun c i => kernelProj m c (i 0) ⟨16464 + (i 1).val, by have : (i 1).val < 8192 := (i 1).isLt; omega⟩, ?_, ?_⟩
  · refine (θ_run Cert.Kernel4Ideal.defs _ _).mono (fun r h c => ?_) (run_quiescent m g)
    obtain ⟨h1, h2, h3⟩ := slices_at m c r.2 (h.1 c).2
    exact ⟨h1, h2, h3, arg_kept m c 0 rfl ((h.1 c).1 0), arg_kept m c 1 rfl ((h.1 c).1 1), arg_kept m c 2 rfl ((h.1 c).1 2),
      arg_kept m c 3 rfl ((h.1 c).1 3), arg_kept m c 4 rfl ((h.1 c).1 4)⟩
  · refine (θ_run Cert.Reference4Ideal.defs _ _).mono (fun r h c => ?_) (Cert.Reference4Ideal.Value.run (F := Ideal) m' g')
    obtain ⟨h0, h1, h2, hargs⟩ := h c
    obtain ⟨a0, a1, a2, a3, -⟩ := ha c
    refine ⟨h0.trans ?_, h1.trans ?_, h2.trans ?_, hargs⟩ <;> funext i <;> clear h h0 h1 h2 hargs
    · obtain ⟨r, e, rfl⟩ : ∃ (r : Fin 16384) (e : Fin 4096), i = ix2 r e := ⟨i 0, i 1, by funext x; fin_cases x <;> rfl⟩
      refine (ref_v28 _ _ _ _ r e).trans ?_
      rw [a0, a1, a2, a3]
      rfl
    · obtain ⟨r, e, rfl⟩ : ∃ (r : Fin 16384) (e : Fin 2048), i = ix2 r e := ⟨i 0, i 1, by funext x; fin_cases x <;> rfl⟩
      refine (ref_v30 _ _ _ _ r e).trans ?_
      rw [a0, a1, a2, a3]
      rfl
    · obtain ⟨r, e, rfl⟩ : ∃ (r : Fin 16384) (e : Fin 8192), i = ix2 r e := ⟨i 0, i 1, by funext x; fin_cases x <;> rfl⟩
      refine (ref_v32 _ _ _ _ r e).trans ?_
      rw [a0, a1, a2, a3]
      rfl

end Cert.Inproj
-- ==== Proof.Ada.lean ====
/- The conditioning: the silu of the conditioning vectors through the modulation's weights, its bias added. -/
module

public import proofs.«01_k».proof.Proof.Gen.Kernel5Ideal.Value
public import proofs.«01_k».proof.Proof.Gen.Reference5Ideal.Run
public import proofs.«01_k».proof.Proof.Gen.Pre_above_bottom
public import proofs.«01_k».proof.Defs
public import proofs.«01_k».proof.Proof.Gate
public import proofs.«01_k».proof.Proof.Table
public import Idealize.ShloMosaic.Lib.Claim
public import Idealize.ShloMosaic.Lib.Pipeline.ValueKit

@[expose] public section

set_option maxRecDepth 16384

noncomputable section

namespace Cert.Ada

open Idealize.ShloMosaic Idealize.SL.Sem

/-- The modulation of a vector at a column. -/
def modulation (c : Fin 8 → Fin 2048 → EReal) (w : Fin 2048 → Fin 6144 → EReal) (b : Fin 6144 → EReal) (r : Fin 8) (e : Fin 6144) : EReal :=
  (∑ k, c r k * Ideal.logistic (c r k) * w k e) + b e

section

open Cert.Kernel5Ideal Cert.Kernel5Ideal.Gen Idealize.ShloMosaic.TcCoe

variable (m : (ℓ : Loc nD τ sig) → Buf (Elt Ideal) ℓ) (c : Dev nD)

/-- The blocks' places, decided at every point. -/
theorem idx (t : Fin cfg0.N) : win0_0.index t = ![0, 0] ∧ win0_1.index t = ![0, t.val] ∧ win0_2.index t = ![0, t.val] ∧ win0_3.index t = ![0, t.val] := by
  revert t
  decide +kernel

theorem lt12 (t : Fin cfg0.N) : t.val < 12 := lt_of_lt_of_eq t.isLt N_0

/-- Column `b` of point `t`'s blocks. -/
def col (t : Fin cfg0.N) (b : Fin 512) : Fin 6144 := ⟨t.val * 512 + b.val, by have := lt12 t; omega⟩

theorem c_at (t : Fin cfg0.N) (a : Fin 8) (k : Fin 2048) : iblk m c 0 t (ix2 a k) = m ((c : Thread nD τ).loc main_arg0) (ix2 a k) := by
  blk_ext [iblk, V, idx t]

theorem w_at (t : Fin cfg0.N) (k : Fin 2048) (b : Fin 512) : iblk m c 1 t (ix2 k b) = m ((c : Thread nD τ).loc main_arg1) (ix2 k (col t b)) := by
  blk_ext [iblk, V, idx t, col] <;> omega

theorem b_at (t : Fin cfg0.N) (b : Fin 512) : iblk m c 2 t (ix2 (0 : Fin 1) b) = m ((c : Thread nD τ).loc main_arg2) (ix1 (col t b)) := by
  blk_simp [iblk, idx t]
  entry_read
  pointwise
  blk_ext [idx t, col] <;> omega

/-- The kernel's modulation. -/
abbrev kernelModulation : Fin 8 → Fin 6144 → EReal :=
  modulation (fun r k => m ((c : Thread nD τ).loc main_arg0) (ix2 r k)) (fun k e => m ((c : Thread nD τ).loc main_arg1) (ix2 k e))
    (fun e => m ((c : Thread nD τ).loc main_arg2) (ix1 e))

/-- No entry of the conditioning vectors is minus infinity. -/
def Above : Prop := ∀ (r : Fin 8) (k : Fin 2048), m ((c : Thread nD τ).loc main_arg0) (ix2 r k) ≠ (⊥ : EReal)

/-- What a point writes back. -/
theorem out_at (h : Above m c) (t : Fin cfg0.N) (a : Fin 8) (b : Fin 512) :
    out0_3 (iblk m c 0 t) (iblk m c 1 t) (iblk m c 2 t) (ix2 a b) = kernelModulation m c a (col t b) := by
  unfold out0_3
  frame_out
  pointwise [k0_pay1]
  simp only [c_at, w_at, b_at, Cert.MLstm.silu_of_tanh _ (h _ _)]
  rfl

/-- Where an element of a point's block stands in the array. -/
theorem emb_at (t : Fin cfg0.N) (a : Fin 8) (b : Fin 512) : (win0_3.blk t).view.emb (ix2 a b) = ix2 a (col t b) := by
  have h3 := (idx t).2.2.2
  funext d
  apply Fin.ext
  match d with
  | ⟨0, _⟩ =>
    show win0_3.index t 0 * 8 + 1 * a.val = _
    rw [h3]
    show 0 * 8 + 1 * a.val = a.val
    omega
  | ⟨1, _⟩ =>
    show win0_3.index t 1 * 512 + 1 * b.val = _
    rw [h3]
    show t.val * 512 + 1 * b.val = t.val * 512 + b.val
    omega

/-- The array the kernel leaves. -/
theorem array_eq (h : Above m c) : (dats m 0 c).arrAt 3 cfg0.N = fun j => kernelModulation m c (j 0) (j 1) := by
  refine (dats m 0 c).arrAt_eq_of_covers 3 _ (by decide +kernel) fun t hf y => ?_
  blk_simp
  rw [after0_3]
  obtain ⟨a, b, rfl⟩ : ∃ (a : Fin 8) (b : Fin 512), y = ix2 a b := ⟨y 0, y 1, by funext x; fin_cases x <;> rfl⟩
  refine (out_at m c h t a b).trans ?_
  rw [emb_at]
  rfl

/-- What the precondition says. -/
theorem above [Cert.Pre_above_bottom.Facts] (h : Cert.Pre_Kernel5Ideal_above_bottom m) : Above m c := by
  intro r k
  have hx := congrFun (h c) (ix2 r k)
  unfold Cert.Pre_above_bottom.fn at hx
  have := Cert.MLstm.Table.gt_of_cmp (m ((c : Thread nD τ).loc main_arg0) (ix2 r k)) ⊥ (Eq.trans ?_ hx)
  · exact ne_of_gt (α := EReal) this
  · pointwise
    rw [Cert.MLstm.Head.neg_inf]

end

section

open Cert.Reference5Ideal Cert.Reference5Ideal.Gen

variable (x0 : FVec Ideal S8x2048 .f32) (x1 : FVec Ideal S2048x6144 .f32) (x2 : FVec Ideal S6144 .f32)

/-- The reference's result, as its operations spell it. -/
def refTerm : FVec Ideal S8x6144 .f32 :=
  addf (Host.dotGeneral dot_S8x2048_S2048x6144_S8x6144_1_0_0_1_n_n none (mulf x0 (Host.divf (broadcastInDim S8x2048 ![] bcast_S_S8x2048 (constant S_ .f32 0x3F800000#32)) (addf (broadcastInDim S8x2048 ![] bcast_S_S8x2048 (constant S_ .f32 0x3F800000#32)) (Host.exp (Host.negf x0))))) x1) (broadcastInDim S8x6144 ![0, 1] bcast_S1x6144_S8x6144_0_1 (broadcastInDim S1x6144 ![1] bcast_S6144_S1x6144_1 x2))

/-- The reference's result at a row and a column. -/
theorem ref_at (r : Fin 8) (e : Fin 6144) :
    refTerm x0 x1 x2 (ix2 r e) = modulation (fun r k => x0 (ix2 r k)) (fun k e => x1 (ix2 k e)) (fun e => x2 (ix1 e)) r e := by
  pointwise [refTerm]
  rfl

end

/-- From equal arguments the kernel and the reference end with equal arrays. -/
theorem equal : Cert.algebraic_Kernel5Ideal_Reference5Ideal_pre_above_bottom (hKernel5Ideal := Cert.Kernel5Ideal.Gen.facts)
    (hReference5Ideal := Cert.Reference5Ideal.Gen.facts) (hPre_above_bottom := Cert.Pre_above_bottom.Gen.facts) := by
  intro m g m' g' hp ha
  haveI := Cert.Pre_above_bottom.Gen.facts
  refine ⟨fun c => (Cert.Kernel5Ideal.Gen.dats m 0 c).arrAt 3 Cert.Kernel5Ideal.cfg0.N, Cert.Kernel5Ideal.Value.run_blocks m g, ?_⟩
  refine (θ_run _ _ _).mono (fun r h c => ⟨(h c).1.trans ?_, (h c).2⟩) (Cert.Reference5Ideal.Value.run m' g')
  rw [(ha c).1, (ha c).2.1, (ha c).2.2]
  refine Eq.trans ?_ (array_eq m c (above m c hp)).symm
  funext i
  obtain ⟨a, e, rfl⟩ : ∃ (a : Fin 8) (e : Fin 6144), i = ix2 a e := ⟨i 0, i 1, by funext x; fin_cases x <;> rfl⟩
  exact ref_at _ _ _ a e

end Cert.Ada

end
-- ==== Proof.GatesBlock.lean ====
/- What the gates' kernel leaves in its first table's block at a grid point: one function of the blocks read, whatever state it finds. -/
module

public import proofs.«01_k».proof.Proof.Gen.Kernel6Ideal.Value
public import Idealize.ShloMosaic.Lib.Pipeline.ReadBack
public import Idealize.ShloMosaic.Lib.Pipeline.ValueKit

@[expose] public section

set_option maxRecDepth 16384

noncomputable section

namespace Cert.Gates

open Cert.Kernel6Ideal Cert.Kernel6Ideal.Gen Idealize.ShloMosaic Idealize.ShloMosaic.TcCoe Idealize.SL.Sem Idealize.ShloMosaic.Tactic

variable {F : FTy → Type} [FloatOps F]

/-- A block's products with the gates' weights. -/
def prod (x0 : Vec F S512x2048 .f32) (x1 : Vec F S1x1x6144 .f32) (x2 : Vec F S1x2048 .f32) (x3 x4 : Vec F S2048x256 .bf16) : FVec F S512x128 .f32 :=
  k0_pay7 x0 x2 (View.ld x1 (Rect.unit ![0, 0, 2048] ![1, 1, 2048] inb_S1x1x6144_S1x1x2048_0_0_2048)) (View.ld x1 (Rect.unit ![0, 0, 0] ![1, 1, 2048] inb_S1x1x6144_S1x1x2048_0_0_0)) x3 x4

/-- A block's values before they are summed. -/
def vals (x0 : Vec F S512x2048 .f32) (x1 : Vec F S1x1x6144 .f32) (x2 : Vec F S1x2048 .f32) (x3 x4 : Vec F S2048x256 .bf16) (x5 : Vec F S2x128 .f32) : FVec F S512x128 .f32 :=
  k0_pay15 (k0_pay10 (prod x0 x1 x2 x3 x4) (View.ld x5 (Rect.unit ![0, 0] ![1, 128] inb_S2x128_S1x128_0_0)) (View.ld x5 (Rect.unit ![1, 0] ![1, 128] inb_S2x128_S1x128_1_0)))
    k0_pay11 k0_pay12 (k0_pay13 (prod x0 x1 x2 x3 x4)) k0_pay14

/-- The other gates' values, which the products carry along. -/
def others (x0 : Vec F S512x2048 .f32) (x1 : Vec F S1x1x6144 .f32) (x2 : Vec F S1x2048 .f32) (x3 x4 : Vec F S2048x256 .bf16) (x6 : Vec F S1x128 .f32) : FVec F S512x128 .f32 :=
  k0_pay17 (k0_pay8 (k0_pay6 x0 x2 (View.ld x1 (Rect.unit ![0, 0, 2048] ![1, 1, 2048] inb_S1x1x6144_S1x1x2048_0_0_2048)) (View.ld x1 (Rect.unit ![0, 0, 0] ![1, 1, 2048] inb_S1x1x6144_S1x1x2048_0_0_0)) x3 x4)) (iota Kind.tc S512x128 32 [1] iota_S512x128_d1_w32) x6

/-- The table's block. -/
def tab (x0 : Vec F S512x2048 .f32) (x1 : Vec F S1x1x6144 .f32) (x2 : Vec F S1x2048 .f32) (x3 x4 : Vec F S2048x256 .bf16) (x5 : Vec F S2x128 .f32) (x6 : Vec F S1x128 .f32) : FVec F S512x128 .f32 :=
  k0_pay27 k0_pay9 (vals x0 x1 x2 x3 x4 x5) (others x0 x1 x2 x3 x4 x6) k0_pay18 k0_pay19

section
variable (c : Dev nD) (i : grid0.Coords) (arg1 : Memref sig .tc .vmem S512x2048 .f32) (harg1 : arg1.IsWhole) (arg2 : Memref sig .tc .vmem S1x1x6144 .f32) (harg2 : arg2.IsWhole) (arg3 : Memref sig .tc .vmem S1x2048 .f32) (harg3 : arg3.IsWhole) (arg4 : Memref sig .tc .vmem S2048x256 .bf16) (harg4 : arg4.IsWhole) (arg5 : Memref sig .tc .vmem S2048x256 .bf16) (harg5 : arg5.IsWhole) (arg6 : Memref sig .tc .vmem S2x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S1x128x512 .f32) (harg9 : arg9.IsWhole) (arg10 : Memref sig .tc .vmem S512x128 .f32) (harg10 : arg10.IsWhole) (arg11 : Memref sig .tc .vmem S1x128x512 .f32) (harg11 : arg11.IsWhole) (arg12 : Memref sig .tc .vmem S8x128 .f32) (harg12 : arg12.IsWhole)
  (x0 : Vec F S512x2048 .f32) (x1 : Vec F S1x1x6144 .f32) (x2 : Vec F S1x2048 .f32) (x3 x4 : Vec F S2048x256 .bf16) (x5 : Vec F S2x128 .f32) (x6 : Vec F S1x128 .f32)

theorem tabA (hc0 : cond0_0 i) :
    out0_A_7 c i arg1 harg1 arg2 harg2 arg3 harg3 arg4 harg4 arg5 harg5 arg6 harg6 arg7 harg7 arg8 harg8 arg9 harg9 arg10 harg10 arg11 harg11 arg12 harg12 hc0 x0 x1 x2 x3 x4 x5 x6 = tab x0 x1 x2 x3 x4 x5 x6 := by
  unfold out0_A_7
  frame_out
  rfl

theorem tabB (hc0 : ¬cond0_0 i) (xs0 : Vec F S8x128 .f32) :
    out0_B_7 c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0 = tab x0 x1 x2 x3 x4 x5 x6 := by
  unfold out0_B_7
  frame_out
  rfl

theorem rowA (hc0 : cond0_0 i) :
    out0_A_8 c i arg1 harg1 arg2 harg2 arg3 harg3 arg4 harg4 arg5 harg5 arg6 harg6 arg7 harg7 arg8 harg8 arg9 harg9 arg10 harg10 arg11 harg11 arg12 harg12 hc0 x0 x1 x2 x3 x4 x5 x6 = k0_pay4 (tab x0 x1 x2 x3 x4 x5 x6) := by
  unfold out0_A_8
  frame_out
  rfl

theorem rowB (hc0 : ¬cond0_0 i) (xs0 : Vec F S8x128 .f32) :
    out0_B_8 c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0 = k0_pay4 (tab x0 x1 x2 x3 x4 x5 x6) := by
  unfold out0_B_8
  frame_out
  rfl

end

end Cert.Gates

end
-- ==== Proof.GatesMath.lean ====
/- What the gates' tables need of the extended reals: a finite row stays finite through its norm, a sum in three parts is the sum, a masked sum over a block is a chunk's. -/
module

public import Idealize.ShloMosaic.PureOps.Ideal
public import Idealize.ShloMosaic.Lib.Claim

@[expose] public section

noncomputable section

namespace Cert.Gates

open Idealize.ShloMosaic

/-- A finite value. -/
def Fin' (x : EReal) : Prop := ∃ r : ℝ, x = (r : EReal)

theorem Fin'.add {x y : EReal} (hx : Fin' x) (hy : Fin' y) : Fin' (x + y) := by
  obtain ⟨a, rfl⟩ := hx
  obtain ⟨b, rfl⟩ := hy
  exact ⟨a + b, by norm_cast⟩

theorem Fin'.mul {x y : EReal} (hx : Fin' x) (hy : Fin' y) : Fin' (x * y) := by
  obtain ⟨a, rfl⟩ := hx
  obtain ⟨b, rfl⟩ := hy
  exact ⟨a * b, by norm_cast⟩

theorem Fin'.sub_self {x : EReal} (hx : Fin' x) : x - x = 0 := by
  obtain ⟨a, rfl⟩ := hx
  norm_cast
  simp

theorem Fin'.one : Fin' 1 := ⟨1, by norm_cast⟩

theorem fin_of (x : EReal) (h1 : x ≠ ⊤) (h2 : x ≠ ⊥) : Fin' x := ⟨x.toReal, (EReal.coe_toReal h1 h2).symm⟩

/-- What the precondition says of one value. -/
theorem fin_of_abs (x : EReal) (h : max x (-x) < ⊤) : Fin' x := by
  induction x with
  | bot => simp at h
  | top => simp at h
  | coe r => exact ⟨r, rfl⟩

theorem sq_nonneg' (x : EReal) : 0 ≤ x * x := by
  induction x with
  | bot => simp
  | top => simp
  | coe r =>
    norm_cast
    exact mul_self_nonneg r

theorem n_eq : Ideal.ofBits .f32 0x45000000#32 = ((2048 : ℝ) : EReal) := by
  simp [Ideal.ofBits, Ideal.ieee, -EReal.coe_mul]
  norm_num

theorem eps_pos : ∃ e : ℝ, 0 < e ∧ Ideal.ofBits .f32 0x358637BD#32 = ((e : ℝ) : EReal) := by
  refine ⟨_, ?_, by simp [Ideal.ofBits, Ideal.ieee, -EReal.coe_mul]; rfl⟩
  positivity

/-- An entry times the reciprocal root of its row's mean square is finite, whatever the row holds. -/
theorem norm_fin {n : ℕ} (x : Fin n → EReal) (k : Fin n) :
    Fin' (x k * Ideal.rsqrt (Ideal.div (∑ e, x e * x e) (Ideal.ofBits .f32 0x45000000#32) + Ideal.ofBits .f32 0x358637BD#32)) := by
  obtain ⟨ε, hε, he⟩ := eps_pos
  have h0 : (0 : EReal) ≤ ∑ e, x e * x e := Finset.sum_nonneg fun e _ => sq_nonneg' (x e)
  have hle : x k * x k ≤ ∑ e, x e * x e := Finset.single_le_sum (f := fun e => x e * x e) (fun e _ => sq_nonneg' (x e)) (Finset.mem_univ k)
  rw [he, n_eq]
  generalize (∑ e, x e * x e) = S at h0 hle
  have hd : Ideal.div S ((2048 : ℝ) : EReal) = S * (((2048 : ℝ)⁻¹ : ℝ) : EReal) := by
    rw [Ideal.div, if_neg (by norm_num), EReal.coe_inv]
  rw [hd]
  induction S with
  | bot => simp at h0
  | top =>
    rw [EReal.top_mul_coe_of_pos (by norm_num), EReal.top_add_coe, Ideal.rsqrt_top, mul_zero]
    exact ⟨0, by norm_cast⟩
  | coe s =>
    have hs : 0 ≤ s := by exact_mod_cast h0
    have hp : 0 < s * (2048 : ℝ)⁻¹ + ε := by positivity
    have hx : Fin' (x k) := by
      apply fin_of
      · intro h
        rw [h] at hle
        simp at hle
      · intro h
        rw [h] at hle
        simp at hle
    refine hx.mul ?_
    rw [← EReal.coe_mul, ← EReal.coe_add, Ideal.rsqrt_coe, if_neg (not_lt.mpr hp.le), if_neg hp.ne']
    exact ⟨_, rfl⟩

/-- The softplus, as both programs spell it. -/
def softplus (z : EReal) : EReal := max z 0 + Ideal.log (1 + Ideal.exp (-(max z (-z))))

theorem exp_nonneg (u : EReal) : 0 ≤ Ideal.exp u := by
  induction u with
  | bot => simp
  | top => simp
  | coe r =>
    rw [Ideal.exp_coe]
    exact_mod_cast (Real.exp_pos r).le

theorem log_nonneg (u : EReal) : 0 ≤ Ideal.log (1 + Ideal.exp u) := by
  induction u with
  | bot =>
    rw [Ideal.exp_bot, add_zero, ← EReal.coe_one, Ideal.log_coe, if_neg (by norm_num)]
    simp
  | top =>
    rw [Ideal.exp_top, ← EReal.coe_one, EReal.coe_add_top, Ideal.log_top]
    exact le_top
  | coe r =>
    have := Real.exp_pos r
    rw [Ideal.exp_coe, ← EReal.coe_one, ← EReal.coe_add, Ideal.log_coe, if_neg (by linarith)]
    exact_mod_cast Real.log_nonneg (by linarith)

theorem softplus_nonneg (z : EReal) : 0 ≤ softplus z := add_nonneg (le_max_right _ _) (log_nonneg _)

/-- A decay's logarithm is not plus infinity. -/
theorem decay_ne_top (p z : EReal) : -Ideal.exp p * softplus z ≠ ⊤ := by
  have h : (0 : EReal) ≤ Ideal.exp p * softplus z := mul_nonneg (exp_nonneg p) (softplus_nonneg z)
  rw [EReal.neg_mul]
  intro ht
  rw [EReal.neg_eq_top_iff] at ht
  rw [ht] at h
  simp at h

theorem sum_bot {n : ℕ} (f : Fin n → EReal) (k : Fin n) (h : f k = ⊥) : ∑ i, f i = ⊥ := by
  rw [← Finset.add_sum_erase _ _ (Finset.mem_univ k), h, EReal.bot_add]

/-- The masked sum of values taken in three parts, each the rest of the one before, is the masked sum. -/
theorem three_parts {n : ℕ} (v : Fin n → EReal) (hv : ∀ k, v k ≠ ⊤) (M : Fin n → Prop) [DecidablePred M] :
    (∑ k, (if M k then 1 else 0) * ((v k - v k) - (v k - v k))) + (∑ k, (if M k then 1 else 0) * (v k - v k)) + ∑ k, (if M k then 1 else 0) * v k
      = ∑ k, if M k then v k else 0 := by
  have e : (∑ k, (if M k then (1 : EReal) else 0) * v k) = ∑ k, if M k then v k else 0 :=
    Finset.sum_congr rfl fun k _ => by split_ifs <;> simp
  rw [e]
  by_cases hb : ∃ k, M k ∧ v k = ⊥
  · obtain ⟨k, hm, hk⟩ := hb
    rw [sum_bot (fun k => if M k then v k else 0) k (by simp [hm, hk]), EReal.add_bot]
  · have hf : ∀ k, M k → v k - v k = 0 := fun k hm =>
      (fin_of (v k) (hv k) fun h => hb ⟨k, hm, h⟩).sub_self
    rw [Finset.sum_eq_zero, Finset.sum_eq_zero, add_zero, zero_add]
    · intro k _
      split_ifs with hm
      · rw [hf k hm, mul_zero]
      · rw [zero_mul]
    · intro k _
      split_ifs with hm
      · rw [hf k hm]
        simp
      · rw [zero_mul]

/-- A sum over a block's 512 rows of what one chunk's rows hold is the sum over the chunk's 64. -/
theorem chunk_sum (f : Fin 512 → EReal) (q : Fin 8) (h : ∀ k : Fin 512, k.val / 64 ≠ q.val → f k = 0) :
    ∑ k, f k = ∑ j : Fin 64, f ⟨q.val * 64 + j.val, by omega⟩ := by
  have e : ∑ k, f k = ∑ p : Fin 8 × Fin 64, f ⟨p.1.val * 64 + p.2.val, by omega⟩ := by
    symm
    refine Fintype.sum_equiv ⟨fun p => ⟨p.1.val * 64 + p.2.val, by omega⟩, fun k => (⟨k.val / 64, by omega⟩, ⟨k.val % 64, by omega⟩), ?_, ?_⟩ _ _ fun p => rfl
    · intro p
      ext <;> simp <;> omega
    · intro k
      ext
      simp
      omega
  rw [e, Fintype.sum_prod_type, Finset.sum_eq_single q]
  · intro p _ hp
    refine Finset.sum_eq_zero fun j _ => h _ fun hq => hp (Fin.ext ?_)
    simp at hq
    omega
  · intro hq
    exact absurd (Finset.mem_univ q) hq

end Cert.Gates

end
-- ==== Proof.GatesTab.lean ====
/- The gates' first table at a grid point, element by element. -/
module

public import proofs.«01_k».proof.Proof.GatesBlock
public import proofs.«01_k».proof.Proof.GatesMath
public import proofs.«01_k».proof.Proof.Gate
public import Idealize.ShloMosaic.Lib.Pointwise

@[expose] public section

set_option maxRecDepth 16384

noncomputable section

namespace Cert.Gates

open Cert.Kernel6Ideal Cert.Kernel6Ideal.Gen Idealize.ShloMosaic Idealize.ShloMosaic.TcCoe Idealize.SL.Sem Idealize.ShloMosaic.Tactic

/-- Lane `b`'s slots, decided at every lane. -/
theorem slot_eq (b : Fin 128) (n : Fin 8) : (IntOp.cmpi .eq (IntOp.andi (BitVec.ofNat 32 b.val) 7#32) (BitVec.ofNat 32 n.val) = 1#1) ↔ b.val % 8 = n.val := by
  revert b n
  decide +kernel

theorem slot_lt2 (b : Fin 128) : (IntOp.cmpi .slt (IntOp.andi (BitVec.ofNat 32 b.val) 7#32) 2#32 = 1#1) ↔ b.val % 8 < 2 := by
  revert b
  decide +kernel

theorem or_iff (x y : BitVec 1) : (IntOp.ori x y = 1#1) ↔ x = 1#1 ∨ y = 1#1 := by
  revert x y
  decide

theorem and_iff (x y : BitVec 1) : (IntOp.andi x y = 1#1) ↔ x = 1#1 ∧ y = 1#1 := by
  revert x y
  decide

theorem ofBool_iff (p : Bool) : (BitVec.ofBool p = 1#1) ↔ p = true := by
  revert p
  decide

theorem chunk_of (a : Fin 512) : IntOp.shrsi .vector (BitVec.ofNat 32 a.val) 6#32 = BitVec.ofNat 32 (a.val / 64) := by
  revert a
  decide +kernel

theorem toInt_of (a : Fin 512) : (BitVec.ofNat 32 a.val).toInt = a.val := by
  revert a
  decide +kernel

theorem same_iff (a x : Fin 512) :
    (IntOp.cmpi .eq (IntOp.shrsi .vector (BitVec.ofNat 32 a.val) 6#32) (IntOp.shrsi .vector (BitVec.ofNat 32 x.val) 6#32) = 1#1) ↔ a.val / 64 = x.val / 64 := by
  rw [chunk_of, chunk_of]
  unfold IntOp.cmpi
  rw [ofBool_iff]
  simp only [beq_iff_eq]
  constructor
  · intro h
    have := congrArg BitVec.toNat h
    simp only [BitVec.toNat_ofNat] at this
    omega
  · intro h
    rw [h]

theorem ge_iff (a x : Fin 512) : (IntOp.cmpi .sge (BitVec.ofNat 32 a.val) (BitVec.ofNat 32 x.val) = 1#1) ↔ x.val ≤ a.val := by
  unfold IntOp.cmpi
  rw [ofBool_iff]
  simp only [BitVec.sle, decide_eq_true_eq, toInt_of]
  omega

theorem three_parts' {n : ℕ} (v : Fin n → EReal) (hv : ∀ k, v k ≠ ⊤) (M : Fin n → Prop) [DecidablePred M] :
    (∑ k, if M k then (v k - v k) - (v k - v k) else 0) + (∑ k, if M k then v k - v k else 0) + (∑ k, if M k then v k else 0)
      = ∑ k, if M k then v k else 0 := by
  have := three_parts v hv M
  simpa only [ite_mul, one_mul, zero_mul] using this

/-- Row `j` of row `a`'s chunk. -/
def inChunk (a : Fin 512) (j : Fin 64) : Fin 512 := ⟨a.val / 64 * 64 + j.val, by omega⟩

section

variable (x0 : Vec Ideal S512x2048 .f32) (x1 : Vec Ideal S1x1x6144 .f32) (x2 : Vec Ideal S1x2048 .f32) (x3 x4 : Vec Ideal S2048x256 .bf16) (x5 : Vec Ideal S2x128 .f32)
  (x6 : Vec Ideal S1x128 .f32)

/-- A block's row, normalised, scaled and shifted. -/
def hrow (a : Fin 512) (k : Fin 2048) : EReal :=
  x0 (ix2 a k) * Ideal.rsqrt (Ideal.div (∑ e : Fin 2048, x0 (ix2 a e) * x0 (ix2 a e)) (Ideal.ofBits .f32 0x45000000#32) + Ideal.ofBits .f32 0x358637BD#32) * x2 (ix2 (0 : Fin 1) k)
      * (1 + x1 (ix3 (0 : Fin 1) (0 : Fin 1) (⟨2048 + k.val, by omega⟩ : Fin 6144)))
    + x1 (ix3 (0 : Fin 1) (0 : Fin 1) (⟨k.val, by omega⟩ : Fin 6144))

/-- Lane `b` among the 256 the products carry. -/
def lane (b : Fin 128) : Fin 256 := ⟨b.val, by omega⟩

theorem sc_at (k : Fin 2048) : View.ld x1 (Rect.unit ![0, 0, 2048] ![1, 1, 2048] inb_S1x1x6144_S1x1x2048_0_0_2048) (ix3 (0 : Fin 1) (0 : Fin 1) k)
    = x1 (ix3 (0 : Fin 1) (0 : Fin 1) (⟨2048 + k.val, by omega⟩ : Fin 6144)) := by
  refine View.ld_unit_apply_of _ _ _ _ _ _ fun a => ?_
  fin_cases a <;> simp

theorem sh_at (k : Fin 2048) : View.ld x1 (Rect.unit ![0, 0, 0] ![1, 1, 2048] inb_S1x1x6144_S1x1x2048_0_0_0) (ix3 (0 : Fin 1) (0 : Fin 1) k)
    = x1 (ix3 (0 : Fin 1) (0 : Fin 1) (⟨k.val, by omega⟩ : Fin 6144)) := by
  refine View.ld_unit_apply_of _ _ _ _ _ _ fun a => ?_
  fin_cases a <;> simp

theorem p0_at (b : Fin 128) : View.ld x5 (Rect.unit ![0, 0] ![1, 128] inb_S2x128_S1x128_0_0) (ix2 (0 : Fin 1) b) = x5 (ix2 (0 : Fin 2) b) := by
  refine View.ld_unit_apply_of _ _ _ _ _ _ fun a => ?_
  fin_cases a <;> simp

theorem p1_at (b : Fin 128) : View.ld x5 (Rect.unit ![1, 0] ![1, 128] inb_S2x128_S1x128_1_0) (ix2 (0 : Fin 1) b) = x5 (ix2 (1 : Fin 2) b) := by
  refine View.ld_unit_apply_of _ _ _ _ _ _ fun a => ?_
  fin_cases a <;> simp

/-- The three products together are the product, where the row and the weights are finite. -/
theorem prod_at (hn : ∀ k, Fin' (x2 (ix2 (0 : Fin 1) k))) (hm : ∀ k : Fin 4096, Fin' (x1 (ix3 (0 : Fin 1) (0 : Fin 1) (⟨k.val, by omega⟩ : Fin 6144))))
    (hlo : ∀ k b, x4 (ix2 k (lane b)) = 0) (a : Fin 512) (b : Fin 128) :
    prod x0 x1 x2 x3 x4 (ix2 a b) = ∑ k, hrow x0 x1 x2 a k * x3 (ix2 k (lane b)) := by
  have hf : ∀ k, Fin' (hrow x0 x1 x2 a k) := fun k =>
    ((((norm_fin (fun e => x0 (ix2 a e)) k).mul (hn k)).mul (Fin'.one.add (hm ⟨2048 + k.val, by omega⟩))).add (hm ⟨k.val, by omega⟩))
  unfold prod
  have hs := sc_at x1
  have ht := sh_at x1
  revert hs ht
  generalize View.ld x1 (Rect.unit ![0, 0, 2048] ![1, 1, 2048] inb_S1x1x6144_S1x1x2048_0_0_2048) = s
  generalize View.ld x1 (Rect.unit ![0, 0, 0] ![1, 1, 2048] inb_S1x1x6144_S1x1x2048_0_0_0) = u
  intro hs ht
  pointwise [k0_pay7, k0_pay6]
  simp only [hs, ht]
  have z1 : ∀ k, hrow x0 x1 x2 a k - hrow x0 x1 x2 a k = 0 := fun k => (hf k).sub_self
  refine Eq.trans (b := (∑ k, hrow x0 x1 x2 a k * x3 (ix2 k (lane b))) + ((∑ k, hrow x0 x1 x2 a k * x4 (ix2 k (lane b)))
    + ∑ k, (hrow x0 x1 x2 a k - hrow x0 x1 x2 a k) * x3 (ix2 k (lane b)))) rfl ?_
  simp only [z1, hlo, zero_mul, mul_zero, Finset.sum_const_zero, add_zero]

/-- A value's entry: the decay, the writing strength, or nothing, by the lane's slot. -/
def valOf (y p0 p1 : EReal) (b : ℕ) : EReal :=
  if b % 8 < 2 ∨ b % 8 = 4 ∨ b % 8 = 5 then -Ideal.exp p0 * softplus (y + p1) else if b % 8 = 2 ∨ b % 8 = 3 then Ideal.logistic y else 0

theorem vals_at (a : Fin 512) (b : Fin 128) :
    vals x0 x1 x2 x3 x4 x5 (ix2 a b) = valOf (prod x0 x1 x2 x3 x4 (ix2 a b)) (x5 (ix2 (0 : Fin 2) b)) (x5 (ix2 (1 : Fin 2) b)) b.val := by
  unfold vals
  have hs := p0_at x5
  have ht := p1_at x5
  revert hs ht
  generalize View.ld x5 (Rect.unit ![0, 0] ![1, 128] inb_S2x128_S1x128_0_0) = s
  generalize View.ld x5 (Rect.unit ![1, 0] ![1, 128] inb_S2x128_S1x128_1_0) = u
  generalize prod x0 x1 x2 x3 x4 = y
  intro hs ht
  pointwise [k0_pay15, k0_pay10, k0_pay11, k0_pay12, k0_pay13, k0_pay14, k0_pay9]
  rw [hs, ht, Cert.MLstm.logistic_of_tanh]
  have c1 : (IntOp.ori (IntOp.ori (IntOp.ori (IntOp.cmpi .eq (IntOp.andi (BitVec.ofNat 32 b.val) 7#32) 0#32) (IntOp.cmpi .eq (IntOp.andi (BitVec.ofNat 32 b.val) 7#32) 1#32))
      (IntOp.cmpi .eq (IntOp.andi (BitVec.ofNat 32 b.val) 7#32) 4#32)) (IntOp.cmpi .eq (IntOp.andi (BitVec.ofNat 32 b.val) 7#32) 5#32) = 1#1)
      ↔ (b.val % 8 < 2 ∨ b.val % 8 = 4 ∨ b.val % 8 = 5) := by
    have h0 := slot_eq b 0
    have h1 := slot_eq b 1
    have h4 := slot_eq b 4
    have h5 := slot_eq b 5
    rw [or_iff, or_iff, or_iff]
    refine ((or_congr (or_congr (or_congr h0 h1) h4) h5)).trans ?_
    show ((b.val % 8 = 0 ∨ b.val % 8 = 1) ∨ b.val % 8 = 4) ∨ b.val % 8 = 5 ↔ _
    omega
  have c2 : (IntOp.ori (IntOp.cmpi .eq (IntOp.andi (BitVec.ofNat 32 b.val) 7#32) 2#32) (IntOp.cmpi .eq (IntOp.andi (BitVec.ofNat 32 b.val) 7#32) 3#32) = 1#1)
      ↔ (b.val % 8 = 2 ∨ b.val % 8 = 3) := (or_iff _ _).trans (or_congr (slot_eq b 2) (slot_eq b 3))
  unfold Scalar.select valOf softplus
  rw [zero_sub, zero_sub]
  exact if_congr c1 rfl (if_congr c2 rfl rfl)

/-- The table's entry: a chunk's running sum, its sum, or the value itself, by the lane's slot. -/
def tabOf (v : Fin 512 → EReal) (a : Fin 512) (b : ℕ) : EReal :=
  if b % 8 < 2 then ∑ j : Fin 64, (if j.val ≤ a.val % 64 then v (inChunk a j) else 0)
  else if b % 8 = 4 ∨ b % 8 = 5 then ∑ j : Fin 64, v (inChunk a j) else v a

theorem cum_eq (v : Fin 512 → EReal) (a : Fin 512) :
    (∑ k : Fin 512, if a.val / 64 = k.val / 64 ∧ k.val ≤ a.val then v k else 0) = ∑ j : Fin 64, if j.val ≤ a.val % 64 then v (inChunk a j) else 0 := by
  rw [chunk_sum _ ⟨a.val / 64, by omega⟩ fun k hk => if_neg fun h => hk h.1.symm]
  refine Finset.sum_congr rfl fun j _ => if_congr ?_ rfl rfl
  show a.val / 64 = (a.val / 64 * 64 + j.val) / 64 ∧ a.val / 64 * 64 + j.val ≤ a.val ↔ _
  omega

theorem tot_eq (v : Fin 512 → EReal) (a : Fin 512) :
    (∑ k : Fin 512, if a.val / 64 = k.val / 64 then v k else 0) = ∑ j : Fin 64, v (inChunk a j) := by
  rw [chunk_sum _ ⟨a.val / 64, by omega⟩ fun k hk => if_neg fun h => hk h.symm]
  refine Finset.sum_congr rfl fun j _ => if_pos ?_
  show a.val / 64 = (a.val / 64 * 64 + j.val) / 64
  omega

theorem tab_at (a : Fin 512) (b : Fin 128)
    (hv : b.val % 8 < 2 ∨ b.val % 8 = 4 ∨ b.val % 8 = 5 → ∀ k, vals x0 x1 x2 x3 x4 x5 (ix2 k b) ≠ (⊤ : EReal)) :
    tab x0 x1 x2 x3 x4 x5 x6 (ix2 a b) = tabOf (fun k => vals x0 x1 x2 x3 x4 x5 (ix2 k b)) a b.val := by
  unfold tab
  revert hv
  generalize vals x0 x1 x2 x3 x4 x5 = v
  generalize others x0 x1 x2 x3 x4 x6 = o
  intro hv
  pointwise [k0_pay27, k0_pay26, k0_pay25, k0_pay24, k0_pay23, k0_pay22, k0_pay21, k0_pay20, k0_pay9, k0_pay18, k0_pay19]
  unfold Scalar.select tabOf
  refine (if_congr (slot_lt2 b) rfl (if_congr ((or_iff _ _).trans (or_congr (slot_eq b 4) (slot_eq b 5))) rfl rfl)).trans ?_
  show (if b.val % 8 < 2 then _ else if b.val % 8 = 4 ∨ b.val % 8 = 5 then _ else _) = _
  have m1 : ∀ k : Fin 512, (IntOp.andi (IntOp.cmpi .eq (IntOp.shrsi .vector (BitVec.ofNat 32 a.val) 6#32) (IntOp.shrsi .vector (BitVec.ofNat 32 k.val) 6#32))
      (IntOp.cmpi .sge (BitVec.ofNat 32 a.val) (BitVec.ofNat 32 k.val)) = (1 : BitVec 1)) ↔ (a.val / 64 = k.val / 64 ∧ k.val ≤ a.val) := fun k =>
    (and_iff _ _).trans (and_congr (same_iff a k) (ge_iff a k))
  have m2 : ∀ k : Fin 512, (IntOp.cmpi .eq (IntOp.shrsi .vector (BitVec.ofNat 32 a.val) 6#32) (IntOp.shrsi .vector (BitVec.ofNat 32 k.val) 6#32)
      = (1 : BitVec 1)) ↔ a.val / 64 = k.val / 64 := fun k => same_iff a k
  simp only [m1, m2]
  by_cases h1 : b.val % 8 < 2
  · rw [if_pos h1, if_pos h1]
    exact (three_parts' (fun k => v (ix2 k b)) (hv (Or.inl h1)) _).trans (cum_eq (fun k => v (ix2 k b)) a)
  · rw [if_neg h1, if_neg h1]
    by_cases h2 : b.val % 8 = 4 ∨ b.val % 8 = 5
    · exact ((if_pos h2).trans ((three_parts' (fun k => v (ix2 k b)) (hv (Or.inr h2)) _).trans (tot_eq (fun k => v (ix2 k b)) a))).trans (if_pos h2).symm
    · exact (if_neg h2).trans (if_neg h2).symm

theorem tab_value (hn : ∀ k, Fin' (x2 (ix2 (0 : Fin 1) k))) (hm : ∀ k : Fin 4096, Fin' (x1 (ix3 (0 : Fin 1) (0 : Fin 1) (⟨k.val, by omega⟩ : Fin 6144))))
    (hlo : ∀ k b, x4 (ix2 k (lane b)) = 0) (a : Fin 512) (b : Fin 128) :
    tab x0 x1 x2 x3 x4 x5 x6 (ix2 a b)
      = tabOf (fun r => valOf (∑ k, hrow x0 x1 x2 r k * x3 (ix2 k (lane b))) (x5 (ix2 (0 : Fin 2) b)) (x5 (ix2 (1 : Fin 2) b)) b.val) a b.val := by
  rw [tab_at]
  · simp only [vals_at, prod_at x0 x1 x2 x3 x4 hn hm hlo]
  · intro hb k
    rw [vals_at]
    unfold valOf
    rw [if_pos hb]
    exact decay_ne_top _ _

end

end Cert.Gates

end
-- ==== Proof.GatesRef.lean ====
/- The gates' first table: what the reference holds at an element. -/
module

public import proofs.«01_k».proof.Proof.GatesTab
public import proofs.«01_k».proof.Proof.InprojValue
public import proofs.«01_k».proof.Proof.Gen.Reference6Ideal.Run

@[expose] public section

set_option maxRecDepth 16384

noncomputable section

namespace Cert.Gates

open Cert.Reference6Ideal Cert.Reference6Ideal.Gen Idealize.ShloMosaic Idealize.ShloMosaic.TcCoe Idealize.SL.Sem Idealize.ShloMosaic.Tactic

/-- A row's product with a lane of the gates' weights. -/
def product (x : Fin 16384 → Fin 2048 → EReal) (md : Fin 2 → Fin 6144 → EReal) (nw : Fin 2048 → EReal) (w : Fin 2048 → Fin 256 → EReal)
    (r : Fin 16384) (b : Fin 128) : EReal := ∑ k, Cert.Inproj.normed x md nw r k * w k (lane b)

/-- The row `j` of a row's chunk. -/
def chunkRow (r : Fin 16384) (j : Fin 64) : Fin 16384 := ⟨r.val / 64 * 64 + j.val, by omega⟩

/-- The table from the products: within each chunk of 64 rows the running sums of the decays, the writing strengths, and the chunk's decay. -/
def table (y : Fin 16384 → Fin 128 → EReal) (p0 p1 : Fin 128 → EReal) (r : Fin 16384) (b : Fin 128) : EReal :=
  let g := fun r => -Ideal.exp (p0 b) * softplus (y r b + p1 b)
  if b.val % 8 < 2 then ∑ j : Fin 64, (if j.val ≤ r.val % 64 then g (chunkRow r j) else 0)
  else if b.val % 8 < 4 then Ideal.logistic (y r b)
  else if b.val % 8 < 6 then ∑ j : Fin 64, g (chunkRow r j) else 0

section

variable (x0 : FVec Ideal S16384x2048 .f32) (x1 : FVec Ideal S2x1x6144 .f32) (x2 : FVec Ideal S1x2048 .f32) (x3 : FVec Ideal S2048x256 .f32) (x4 : FVec Ideal S2x128 .f32)

/-- The products, as the reference's operations spell them. -/
def refProd : FVec Ideal S16384x128 .f32 :=
  extractStridedSlice S16384x128 ![0, 0] (Host.dotGeneral dot_S16384x2048_S2048x256_S16384x256_1_0_0_1_n_n none (shapeCast _ (addf (mulf (mulf (mulf (shapeCast _ x0 shapeCasts_S16384x2048_S2x8192x2048) (broadcastInDim S2x8192x2048 ![0, 1, 2] bcast_S2x8192x1_S2x8192x2048_0_1_2 (Host.rsqrt (addf (Host.divf (broadcastInDim S2x8192x1 ![0, 1] bcast_S2x8192_S2x8192x1_0_1 (Host.reduceAdd (mulf (shapeCast _ x0 shapeCasts_S16384x2048_S2x8192x2048) (shapeCast _ x0 shapeCasts_S16384x2048_S2x8192x2048)) (constant S_ .f32 0x00000000#32) reducesTo_S2x8192x2048_S2x8192_d2 h_S_)) (broadcastInDim S2x8192x1 ![] bcast_S_S2x8192x1 (constant S_ .f32 0x45000000#32))) (broadcastInDim S2x8192x1 ![] bcast_S_S2x8192x1 (constant S_ .f32 0x358637BD#32)))))) (broadcastInDim S2x8192x2048 ![0, 1, 2] bcast_S1x1x2048_S2x8192x2048_0_1_2 (broadcastInDim S1x1x2048 ![2] bcast_S2048_S1x1x2048_2 (shapeCast _ x2 shapeCasts_S1x2048_S2048)))) (broadcastInDim S2x8192x2048 ![0, 1, 2] bcast_S2x1x2048_S2x8192x2048_0_1_2 (addf (broadcastInDim S2x1x2048 ![] bcast_S_S2x1x2048 (constant S_ .f32 0x3F800000#32)) (extractStridedSlice S2x1x2048 ![0, 0, 2048] x1 slices_S2x1x6144_S2x1x2048_0_0_2048)))) (broadcastInDim S2x8192x2048 ![0, 1, 2] bcast_S2x1x2048_S2x8192x2048_0_1_2 (extractStridedSlice S2x1x2048 ![0, 0, 0] x1 slices_S2x1x6144_S2x1x2048_0_0_0))) shapeCasts_S2x8192x2048_S16384x2048) x3) slices_S16384x256_S16384x128_0_0

/-- The decays. -/
def refDecay (y : FVec Ideal S16384x128 .f32) : FVec Ideal S16384x128 .f32 :=
  mulf (broadcastInDim S16384x128 ![0, 1] bcast_S1x128_S16384x128_0_1 (broadcastInDim S1x128 ![1] bcast_S128_S1x128_1 (Host.negf (Host.exp (shapeCast _ (extractStridedSlice S1x128 ![0, 0] x4 slices_S2x128_S1x128_0_0) shapeCasts_S1x128_S128))))) (select (cmpf .une (subf (addf y (broadcastInDim S16384x128 ![0, 1] bcast_S1x128_S16384x128_0_1 (broadcastInDim S1x128 ![1] bcast_S128_S1x128_1 (shapeCast _ (extractStridedSlice S1x128 ![1, 0] x4 slices_S2x128_S1x128_1_0) shapeCasts_S1x128_S128)))) (broadcastInDim S16384x128 ![] bcast_S_S16384x128 (constant S_ .f32 0x00000000#32))) (subf (addf y (broadcastInDim S16384x128 ![0, 1] bcast_S1x128_S16384x128_0_1 (broadcastInDim S1x128 ![1] bcast_S128_S1x128_1 (shapeCast _ (extractStridedSlice S1x128 ![1, 0] x4 slices_S2x128_S1x128_1_0) shapeCasts_S1x128_S128)))) (broadcastInDim S16384x128 ![] bcast_S_S16384x128 (constant S_ .f32 0x00000000#32)))) (addf (addf y (broadcastInDim S16384x128 ![0, 1] bcast_S1x128_S16384x128_0_1 (broadcastInDim S1x128 ![1] bcast_S128_S1x128_1 (shapeCast _ (extractStridedSlice S1x128 ![1, 0] x4 slices_S2x128_S1x128_1_0) shapeCasts_S1x128_S128)))) (broadcastInDim S16384x128 ![] bcast_S_S16384x128 (constant S_ .f32 0x00000000#32))) (addf (maximumf (addf y (broadcastInDim S16384x128 ![0, 1] bcast_S1x128_S16384x128_0_1 (broadcastInDim S1x128 ![1] bcast_S128_S1x128_1 (shapeCast _ (extractStridedSlice S1x128 ![1, 0] x4 slices_S2x128_S1x128_1_0) shapeCasts_S1x128_S128)))) (broadcastInDim S16384x128 ![] bcast_S_S16384x128 (constant S_ .f32 0x00000000#32))) (Host.log1p (Host.exp (Host.negf (Host.absf (subf (addf y (broadcastInDim S16384x128 ![0, 1] bcast_S1x128_S16384x128_0_1 (broadcastInDim S1x128 ![1] bcast_S128_S1x128_1 (shapeCast _ (extractStridedSlice S1x128 ![1, 0] x4 slices_S2x128_S1x128_1_0) shapeCasts_S1x128_S128)))) (broadcastInDim S16384x128 ![] bcast_S_S16384x128 (constant S_ .f32 0x00000000#32)))))))))

/-- The table. -/
def refTable (y g : FVec Ideal S16384x128 .f32) : FVec Ideal S16384x128 .f32 :=
  select (broadcastInDim S16384x128 ![1] bcast_S128_S16384x128_1 (cmpi .slt (andi (iotaInDim S128 32 0) (broadcastInDim S128 ![] bcast_S_S128 (constantI S_ 32 7#32))) (broadcastInDim S128 ![] bcast_S_S128 (constantI S_ 32 2#32)))) (shapeCast _ (Host.reduceAdd (select (broadcastInDim S256x64x64x128 ![1, 2, 3] bcast_S64x64x1_S256x64x64x128_1_2_3 (broadcastInDim S64x64x1 ![0, 1] bcast_S64x64_S64x64x1_0_1 (select (cmpi .sge (addi (iotaInDim S64x64 32 0) (broadcastInDim S64x64 ![] bcast_S_S64x64 (constantI S_ 32 0#32))) (iotaInDim S64x64 32 1)) (broadcastInDim S64x64 ![] bcast_S_S64x64 (constantI S_ 1 1#1)) (broadcastInDim S64x64 ![] bcast_S_S64x64 (constantI S_ 1 0#1))))) (broadcastInDim S256x64x64x128 ![0, 1, 2, 3] bcast_S256x1x64x128_S256x64x64x128_0_1_2_3 (broadcastInDim S256x1x64x128 ![0, 2, 3] bcast_S256x64x128_S256x1x64x128_0_2_3 (shapeCast _ g shapeCasts_S16384x128_S256x64x128))) (broadcastInDim S256x64x64x128 ![] bcast_S_S256x64x64x128 (id (constant S_ .f32 0x00000000#32)))) (constant S_ .f32 0x00000000#32) reducesTo_S256x64x64x128_S256x64x128_d2 h_S_) shapeCasts_S256x64x128_S16384x128) (select (broadcastInDim S16384x128 ![1] bcast_S128_S16384x128_1 (cmpi .slt (andi (iotaInDim S128 32 0) (broadcastInDim S128 ![] bcast_S_S128 (constantI S_ 32 7#32))) (broadcastInDim S128 ![] bcast_S_S128 (constantI S_ 32 4#32)))) (Host.divf (broadcastInDim S16384x128 ![] bcast_S_S16384x128 (constant S_ .f32 0x3F800000#32)) (addf (broadcastInDim S16384x128 ![] bcast_S_S16384x128 (constant S_ .f32 0x3F800000#32)) (Host.exp (Host.negf y)))) (select (broadcastInDim S16384x128 ![1] bcast_S128_S16384x128_1 (cmpi .slt (andi (iotaInDim S128 32 0) (broadcastInDim S128 ![] bcast_S_S128 (constantI S_ 32 7#32))) (broadcastInDim S128 ![] bcast_S_S128 (constantI S_ 32 6#32)))) (shapeCast _ (broadcastInDim S256x64x128 ![0, 1, 2] bcast_S256x1x128_S256x64x128_0_1_2 (broadcastInDim S256x1x128 ![0, 2] bcast_S256x128_S256x1x128_0_2 (Host.reduceAdd (shapeCast _ g shapeCasts_S16384x128_S256x64x128) (constant S_ .f32 0x00000000#32) reducesTo_S256x64x128_S256x128_d1 h_S_))) shapeCasts_S256x64x128_S16384x128) (broadcastInDim S16384x128 ![] bcast_S_S16384x128 (id (constant S_ .f32 0x00000000#32)))))

theorem refProd_at (r : Fin 16384) (b : Fin 128) :
    refProd x0 x1 x2 x3 (ix2 r b) = product (fun r k => x0 (ix2 r k)) (fun b e => x1 (ix3 b (0 : Fin 1) e)) (fun k => x2 (ix2 (0 : Fin 1) k)) (fun k e => x3 (ix2 k e)) r b := by
  pointwise [refProd]
  rfl

theorem refDecay_at (y : FVec Ideal S16384x128 .f32) (r : Fin 16384) (b : Fin 128) :
    refDecay x4 y (ix2 r b) = -Ideal.exp (x4 (ix2 (0 : Fin 2) b)) * softplus (y (ix2 r b) + x4 (ix2 (1 : Fin 2) b)) := by
  pointwise [refDecay]
  unfold softplus
  rw [if_neg (not_not.mpr rfl)]
  rfl

/-- The slots below an even bound and the chunk's lower triangle, decided. -/
theorem slot_lt (b : Fin 128) (n : Fin 8) : (IntOp.cmpi .slt (IntOp.andi (BitVec.ofNat 32 b.val) 7#32) (BitVec.ofNat 32 n.val) = (1 : BitVec 1)) ↔ b.val % 8 < n.val := by
  revert b n
  decide +kernel

theorem tril (a j : Fin 64) : (Scalar.select (IntOp.cmpi .sge (IntOp.addi (BitVec.ofNat 32 a.val) 0#32) (BitVec.ofNat 32 j.val)) 1#1 0#1 = (1 : BitVec 1)) ↔ j.val ≤ a.val := by
  revert a j
  decide +kernel

theorem refTable_at (y g : FVec Ideal S16384x128 .f32) (r : Fin 16384) (b : Fin 128) :
    refTable y g (ix2 r b) = if b.val % 8 < 2 then ∑ j : Fin 64, (if j.val ≤ r.val % 64 then g (ix2 (chunkRow r j) b) else 0)
      else if b.val % 8 < 4 then Ideal.logistic (y (ix2 r b)) else if b.val % 8 < 6 then ∑ j : Fin 64, g (ix2 (chunkRow r j) b) else 0 := by
  have z : (id (constant S_ FTy.f32 0#32) ix0 : Ideal .f32) = (0 : EReal) := by
    show constant (F := Ideal) S_ FTy.f32 0#32 ix0 = (0 : EReal)
    pointwise
  pointwise [refTable]
  rw [z]
  refine if_congr (slot_lt b 2) (Finset.sum_congr rfl fun j _ => if_congr (tril ⟨r.val % 64, by omega⟩ j) rfl rfl) ?_
  exact if_congr (slot_lt b 4) rfl (if_congr (slot_lt b 6) rfl rfl)

/-- The reference's table. -/
theorem ref_at (r : Fin 16384) (b : Fin 128) :
    refTable (refProd x0 x1 x2 x3) (refDecay x4 (refProd x0 x1 x2 x3)) (ix2 r b)
      = table (product (fun r k => x0 (ix2 r k)) (fun b e => x1 (ix3 b (0 : Fin 1) e)) (fun k => x2 (ix2 (0 : Fin 1) k)) (fun k e => x3 (ix2 k e)))
          (fun b => x4 (ix2 (0 : Fin 2) b)) (fun b => x4 (ix2 (1 : Fin 2) b)) r b := by
  rw [refTable_at]
  simp only [refDecay_at, refProd_at]
  rfl

/-- The table turned, within each batch. -/
theorem turned_at (v : FVec Ideal S16384x128 .f32) (q : Fin 2) (b : Fin 128) (s : Fin 8192) :
    (transpose S2x128x8192 [0, 2, 1] (shapeCast _ v shapeCasts_S16384x128_S2x8192x128) transposes_S2x8192x128_S2x128x8192_0_2_1 : FVec Ideal S2x128x8192 .f32) (ix3 q b s)
      = v (ix2 (⟨q.val * 8192 + s.val, by omega⟩ : Fin 16384) b) := by
  pointwise

theorem v69_eq (m : (ℓ : Loc nD τ sig) → Buf (Elt Ideal) ℓ) (c : Dev nD) :
    Cert.Reference6Ideal.Value.res_main_v69 m c = refTable (refProd (m ((c.tc : Thread nD τ).loc main_arg0)) (m ((c.tc : Thread nD τ).loc main_arg1)) (m ((c.tc : Thread nD τ).loc main_arg2)) (m ((c.tc : Thread nD τ).loc main_arg3)))
      (refDecay (m ((c.tc : Thread nD τ).loc main_arg4)) (refProd (m ((c.tc : Thread nD τ).loc main_arg0)) (m ((c.tc : Thread nD τ).loc main_arg1)) (m ((c.tc : Thread nD τ).loc main_arg2)) (m ((c.tc : Thread nD τ).loc main_arg3)))) := rfl

theorem v71_eq (m : (ℓ : Loc nD τ sig) → Buf (Elt Ideal) ℓ) (c : Dev nD) :
    Cert.Reference6Ideal.Value.res_main_v71 m c = transpose S2x128x8192 [0, 2, 1] (shapeCast _ (Cert.Reference6Ideal.Value.res_main_v69 m c) shapeCasts_S16384x128_S2x8192x128) transposes_S2x8192x128_S2x128x8192_0_2_1 := rfl

end

end Cert.Gates

end
-- ==== Proof.GatesValue.lean ====
/- The gates' call: the gated DeltaNet's table, laid out by row and by column. -/
module

public import proofs.«01_k».proof.Proof.GatesRef
public import proofs.«01_k».proof.Proof.Gen.Kernel6Ideal.Value
public import proofs.«01_k».proof.Proof.Gen.Pre_finite_weights
public import proofs.«01_k».proof.Defs
public import Idealize.ShloMosaic.Lib.Claim
public import Idealize.ShloMosaic.Lib.Pipeline.ValueKit

@[expose] public section

set_option maxRecDepth 16384

noncomputable section

namespace Cert.Gates

open Idealize.ShloMosaic Idealize.SL.Sem

section

open Cert.Kernel6Ideal Cert.Kernel6Ideal.Gen Idealize.ShloMosaic.TcCoe

variable (m : (ℓ : Loc nD τ sig) → Buf (Elt Ideal) ℓ) (c : Dev nD)

/-- The blocks' places, decided at every point. -/
theorem idx (t : Fin cfg0.N) : win0_0.index t = ![t.val, 0] ∧ win0_1.index t = ![t.val / 16, 0, 0] ∧ win0_2.index t = ![0, 0] ∧ win0_3.index t = ![0, 0]
    ∧ win0_4.index t = ![0, 0] ∧ win0_5.index t = ![0, 0] ∧ win0_7.index t = ![t.val, 0] ∧ win0_8.index t = ![t.val / 16, 0, t.val % 16] := by
  revert t
  decide +kernel

theorem lt32 (t : Fin cfg0.N) : t.val < 32 := lt_of_lt_of_eq t.isLt N_0

/-- Row `a` of point `t`'s blocks. -/
def row (t : Fin cfg0.N) (a : Fin 512) : Fin 16384 := ⟨t.val * 512 + a.val, by have := lt32 t; omega⟩

theorem x_at (t : Fin cfg0.N) (a : Fin 512) (k : Fin 2048) : iblk m c 0 t (ix2 a k) = m ((c : Thread nD τ).loc main_arg0) (ix2 (row t a) k) := by
  blk_ext [iblk, V, idx t, row] <;> omega

theorem md_at (t : Fin cfg0.N) (a : Fin 512) (e : Fin 6144) : iblk m c 1 t (ix3 (0 : Fin 1) (0 : Fin 1) e)
    = m ((c : Thread nD τ).loc main_arg1) (ix3 (⟨(row t a).val / 8192, by omega⟩ : Fin 2) (0 : Fin 1) e) := by
  have := lt32 t
  blk_ext [iblk, V, idx t, row] <;> omega

theorem nw_at (t : Fin cfg0.N) (k : Fin 2048) : iblk m c 2 t (ix2 (0 : Fin 1) k) = m ((c : Thread nD τ).loc main_arg2) (ix2 (0 : Fin 1) k) := by
  blk_ext [iblk, V, idx t]

theorem pg_at (t : Fin cfg0.N) (q : Fin 2) (b : Fin 128) : iblk m c 5 t (ix2 q b) = m ((c : Thread nD τ).loc main_arg4) (ix2 q b) := by
  blk_ext [iblk, V, idx t]

/-- The weights' first part is the weights. -/
theorem whi_at (t : Fin cfg0.N) (k : Fin 2048) (e : Fin 256) : iblk m c 3 t (ix2 k e) = m ((c : Thread nD τ).loc main_arg3) (ix2 k e) := by
  blk_simp [iblk, idx t]
  entry_read
  pointwise
  blk_ext [idx t]

/-- Where an element of the weights' second part stands, -/
theorem wemb_at (t : Fin cfg0.N) (k : Fin 2048) (e : Fin 256) : (win0_4.blk t).view.emb (ix2 k e) = ix2 k e := by
  have h4 := (idx t).2.2.2.2.1
  funext d
  apply Fin.ext
  match d with
  | ⟨0, _⟩ =>
    show win0_4.index t 0 * 2048 + 1 * k.val = _
    rw [h4]
    show 0 * 2048 + 1 * k.val = k.val
    omega
  | ⟨1, _⟩ =>
    show win0_4.index t 1 * 256 + 1 * e.val = _
    rw [h4]
    show 0 * 256 + 1 * e.val = e.val
    omega

/-- and what it is: what the first part leaves of the weights. -/
theorem wlo_at (t : Fin cfg0.N) (k : Fin 2048) (e : Fin 256) :
    iblk m c 4 t (ix2 k e) = (fun w : EReal => w - w) (m ((c : Thread nD τ).loc main_arg3) (ix2 k e)) := by
  blk_simp [iblk, idx t]
  entry_read
  pointwise
  refine congrArg (fun j => (fun w : EReal => w - w) (m ((c : Thread nD τ).loc main_arg3) j)) (wemb_at t k e)

/-- The norm's weight, the shift, the scale and the weights are finite. -/
structure Finite : Prop where
  norm : ∀ k : Fin 2048, Fin' (m ((c : Thread nD τ).loc main_arg2) (ix2 (0 : Fin 1) k))
  modu : ∀ (q : Fin 2) (k : Fin 4096), Fin' (m ((c : Thread nD τ).loc main_arg1) (ix3 q (0 : Fin 1) (⟨k.val, by omega⟩ : Fin 6144)))
  weight : ∀ (k : Fin 2048) (b : Fin 128), Fin' (m ((c : Thread nD τ).loc main_arg3) (ix2 k (lane b)))

/-- The kernel's products. -/
abbrev kernelProduct : Fin 16384 → Fin 128 → EReal :=
  product (fun r k => m ((c : Thread nD τ).loc main_arg0) (ix2 r k)) (fun b e => m ((c : Thread nD τ).loc main_arg1) (ix3 b (0 : Fin 1) e))
    (fun k => m ((c : Thread nD τ).loc main_arg2) (ix2 (0 : Fin 1) k)) (fun k e => m ((c : Thread nD τ).loc main_arg3) (ix2 k e))

/-- The kernel's table. -/
abbrev kernelTable : Fin 16384 → Fin 128 → EReal :=
  table (kernelProduct m c) (fun b => m ((c : Thread nD τ).loc main_arg4) (ix2 (0 : Fin 2) b)) (fun b => m ((c : Thread nD τ).loc main_arg4) (ix2 (1 : Fin 2) b))

theorem sum_at (t : Fin cfg0.N) (a : Fin 512) (b : Fin 128) :
    (∑ k, hrow (iblk m c 0 t) (iblk m c 1 t) (iblk m c 2 t) a k * (iblk m c 3 t : Vec Ideal S2048x256 .bf16) (ix2 k (lane b)) : EReal) = kernelProduct m c (row t a) b := by
  unfold hrow
  simp only [x_at, md_at m c t a, nw_at, whi_at]
  rfl

theorem row_chunk (t : Fin cfg0.N) (a : Fin 512) (j : Fin 64) : row t (inChunk a j) = chunkRow (row t a) j := by
  apply Fin.ext
  show t.val * 512 + (a.val / 64 * 64 + j.val) = (t.val * 512 + a.val) / 64 * 64 + j.val
  omega

/-- A block of the table from the products. -/
theorem tabOf_table (y : Fin 16384 → Fin 128 → EReal) (p0 p1 : Fin 128 → EReal) (t : Fin cfg0.N) (a : Fin 512) (b : Fin 128) :
    tabOf (fun r => valOf (y (row t r) b) (p0 b) (p1 b) b.val) a b.val = table y p0 p1 (row t a) b := by
  have hr : (row t a).val % 64 = a.val % 64 := by
    show (t.val * 512 + a.val) % 64 = _
    omega
  unfold tabOf valOf table
  simp only [row_chunk, hr]
  by_cases h1 : b.val % 8 < 2
  · simp only [h1, true_or, if_true]
  · by_cases h2 : b.val % 8 < 4
    · have h3 : ¬(b.val % 8 = 4 ∨ b.val % 8 = 5) := by omega
      have h4 : b.val % 8 = 2 ∨ b.val % 8 = 3 := by omega
      simp only [h1, h2, h3, h4, false_or, if_true, if_false]
    · by_cases h3 : b.val % 8 < 6
      · have h4 : b.val % 8 = 4 ∨ b.val % 8 = 5 := by omega
        simp only [h1, h2, h3, h4, or_true, if_true, if_false]
      · have h4 : ¬(b.val % 8 = 4 ∨ b.val % 8 = 5) := by omega
        have h5 : ¬(b.val % 8 = 2 ∨ b.val % 8 = 3) := by omega
        simp only [h1, h2, h3, h4, h5, false_or, if_false]

/-- What a point writes back. -/
theorem tab_block (h : Finite m c) (t : Fin cfg0.N) (a : Fin 512) (b : Fin 128) :
    tab (iblk m c 0 t) (iblk m c 1 t) (iblk m c 2 t) (iblk m c 3 t) (iblk m c 4 t) (iblk m c 5 t) (iblk m c 6 t) (ix2 a b) = kernelTable m c (row t a) b := by
  refine (tab_value _ _ _ _ _ _ _ (fun k => ?_) (fun k => ?_) (fun k b => ?_) a b).trans ?_
  · rw [nw_at]
    exact h.norm k
  · rw [md_at m c t (0 : Fin 512)]
    exact h.modu _ k
  · rw [wlo_at]
    exact (h.weight k b).sub_self
  · simp only [sum_at, pg_at]
    exact tabOf_table (kernelProduct m c) (fun b => m ((c : Thread nD τ).loc main_arg4) (ix2 (0 : Fin 2) b)) (fun b => m ((c : Thread nD τ).loc main_arg4) (ix2 (1 : Fin 2) b)) t a b

/-- The first output's block, whichever the case, -/
theorem col_block (t : Fin cfg0.N) : (outsAt0 m c t.val t.isLt).1
    = tab (iblk m c 0 t) (iblk m c 1 t) (iblk m c 2 t) (iblk m c 3 t) (iblk m c 4 t) (iblk m c 5 t) (iblk m c 6 t) := by
  by_cases h0 : t.val % 16 = 0
  · rw [outsAt0_A m c t h0]
    dsimp only
    rw [tabA]
  · rw [outsAt0_B m c t h0]
    dsimp only
    rw [tabB]

/-- and the second's, turned. -/
theorem row_block (t : Fin cfg0.N) : (outsAt0 m c t.val t.isLt).2.1
    = k0_pay4 (tab (iblk m c 0 t) (iblk m c 1 t) (iblk m c 2 t) (iblk m c 3 t) (iblk m c 4 t) (iblk m c 5 t) (iblk m c 6 t)) := by
  by_cases h0 : t.val % 16 = 0
  · rw [outsAt0_A m c t h0]
    dsimp only
    rw [rowA]
  · rw [outsAt0_B m c t h0]
    dsimp only
    rw [rowB]

theorem pay4_at (v : FVec Ideal S512x128 .f32) (b : Fin 128) (a : Fin 512) : k0_pay4 v (ix3 (0 : Fin 1) b a) = v (ix2 a b) := by
  pointwise [k0_pay4]

/-- Where an element of a point's blocks stands in the arrays. -/
theorem emb7 (t : Fin cfg0.N) (a : Fin 512) (b : Fin 128) : (win0_7.blk t).view.emb (ix2 a b) = ix2 (row t a) b := by
  have h7 := (idx t).2.2.2.2.2.2.1
  funext d
  apply Fin.ext
  match d with
  | ⟨0, _⟩ =>
    show win0_7.index t 0 * 512 + 1 * a.val = _
    rw [h7]
    show t.val * 512 + 1 * a.val = t.val * 512 + a.val
    omega
  | ⟨1, _⟩ =>
    show win0_7.index t 1 * 128 + 1 * b.val = _
    rw [h7]
    show 0 * 128 + 1 * b.val = b.val
    omega

theorem emb8 (t : Fin cfg0.N) (b : Fin 128) (a : Fin 512) : (win0_8.blk t).view.emb (ix3 (0 : Fin 1) b a)
    = ix3 (⟨t.val / 16, by have := lt32 t; omega⟩ : Fin 2) b (⟨t.val % 16 * 512 + a.val, by omega⟩ : Fin 8192) := by
  have h8 := (idx t).2.2.2.2.2.2.2
  funext d
  apply Fin.ext
  match d with
  | ⟨0, _⟩ =>
    show win0_8.index t 0 * 1 + 1 * 0 = _
    rw [h8]
    show t.val / 16 * 1 + 1 * 0 = t.val / 16
    omega
  | ⟨1, _⟩ =>
    show win0_8.index t 1 * 128 + 1 * b.val = _
    rw [h8]
    show 0 * 128 + 1 * b.val = b.val
    omega
  | ⟨2, _⟩ =>
    show win0_8.index t 2 * 512 + 1 * a.val = _
    rw [h8]
    show t.val % 16 * 512 + 1 * a.val = t.val % 16 * 512 + a.val
    omega

/-- The table turned, within each batch. -/
def kernelTurned (q : Fin 2) (b : Fin 128) (s : Fin 8192) : EReal := kernelTable m c (⟨q.val * 8192 + s.val, by omega⟩ : Fin 16384) b

/-- The arrays the kernel leaves. -/
theorem col_eq (h : Finite m c) : (dats m 0 c).arrAt 7 cfg0.N = fun j => kernelTable m c (j 0) (j 1) := by
  refine (dats m 0 c).arrAt_eq_of_covers 7 _ (by decide +kernel) fun t hf y => ?_
  blk_simp
  rw [after0_7, col_block]
  obtain ⟨a, b, rfl⟩ : ∃ (a : Fin 512) (b : Fin 128), y = ix2 a b := ⟨y 0, y 1, by funext x; fin_cases x <;> rfl⟩
  refine (tab_block m c h t a b).trans ?_
  rw [emb7]
  rfl

theorem row_eq (h : Finite m c) : (dats m 0 c).arrAt 8 cfg0.N = fun j => kernelTurned m c (j 0) (j 1) (j 2) := by
  refine (dats m 0 c).arrAt_eq_of_covers 8 _ (by decide +kernel) fun t hf y => ?_
  blk_simp
  rw [after0_8, row_block]
  obtain ⟨b, a, rfl⟩ : ∃ (b : Fin 128) (a : Fin 512), y = ix3 (0 : Fin 1) b a :=
    ⟨y 1, y 2, by funext x; fin_cases x; exacts [Subsingleton.elim (α := Fin 1) _ _, rfl, rfl]⟩
  refine (pay4_at _ b a).trans ((tab_block m c h t a b).trans ?_)
  rw [emb8]
  refine congrArg (fun r => kernelTable m c r b) (Fin.ext ?_)
  show t.val * 512 + a.val = t.val / 16 * 8192 + (t.val % 16 * 512 + a.val)
  omega

theorem inf_eq : Ideal.ofBits .f32 0x7F800000#32 = ⊤ := by
  simp [Ideal.ofBits, Ideal.ieee]

theorem fin_of_cmp (x : EReal) (h : Ideal.cmp .olt (max x (-x)) (Ideal.ofBits .f32 0x7F800000#32) = 1#1) : Fin' x := by
  rw [inf_eq] at h
  refine fin_of_abs x ?_
  by_contra hn
  simp [Ideal.cmp, hn] at h

/-- What the precondition says. -/
theorem finite [Cert.Pre_finite_weights.Facts] (h : Cert.Pre_Kernel6Ideal_finite_weights m) : Finite m c := by
  obtain ⟨h1, h2, h3⟩ := h c
  unfold Cert.Pre_finite_weights.fn at h1 h2 h3
  refine ⟨fun k => fin_of_cmp _ (Eq.trans ?_ (congrFun h2 (ix2 (0 : Fin 1) k))),
    fun q k => fin_of_cmp _ (Eq.trans ?_ (congrFun h1 (ix3 q (0 : Fin 1) k))), fun k b => fin_of_cmp _ (Eq.trans ?_ (congrFun h3 (ix2 k b)))⟩
  · pointwise
    rfl
  · pointwise
    rfl
  · pointwise
    rfl

end

/-- From equal arguments the kernel and the reference end with equal arrays. -/
theorem equal : Cert.algebraic_Kernel6Ideal_Reference6Ideal_pre_finite_weights (hKernel6Ideal := Cert.Kernel6Ideal.Gen.facts)
    (hReference6Ideal := Cert.Reference6Ideal.Gen.facts) (hPre_finite_weights := Cert.Pre_finite_weights.Gen.facts) := by
  intro m g m' g' hp ha
  haveI := Cert.Pre_finite_weights.Gen.facts
  refine ⟨fun c => (Cert.Kernel6Ideal.Gen.dats m 0 c).arrAt 7 Cert.Kernel6Ideal.cfg0.N, fun c => (Cert.Kernel6Ideal.Gen.dats m 0 c).arrAt 8 Cert.Kernel6Ideal.cfg0.N,
    (θ_run _ _ _).mono (fun r h c => ⟨(h c).1, (h c).2.1, (h c).2.2.2.2⟩) (Cert.Kernel6Ideal.Value.run_blocks m g), ?_⟩
  have e69 : ∀ c, Cert.Reference6Ideal.Value.res_main_v69 m' c = (Cert.Kernel6Ideal.Gen.dats m 0 c).arrAt 7 Cert.Kernel6Ideal.cfg0.N := fun c => by
    rw [v69_eq, (ha c).1, (ha c).2.1, (ha c).2.2.1, (ha c).2.2.2.1, (ha c).2.2.2.2.1]
    refine Eq.trans ?_ (col_eq m c (finite m c hp)).symm
    funext i
    obtain ⟨r, b, rfl⟩ : ∃ (r : Fin 16384) (b : Fin 128), i = ix2 r b := ⟨i 0, i 1, by funext x; fin_cases x <;> rfl⟩
    exact ref_at _ _ _ _ _ r b
  refine (θ_run _ _ _).mono (fun r h c => ⟨(h c).1.trans (e69 c), (h c).2.1.trans ?_, (h c).2.2⟩) (Cert.Reference6Ideal.Value.run m' g')
  rw [v71_eq, e69, col_eq m c (finite m c hp)]
  refine Eq.trans ?_ (row_eq m c (finite m c hp)).symm
  funext i
  obtain ⟨q, b, s, rfl⟩ : ∃ (q : Fin 2) (b : Fin 128) (s : Fin 8192), i = ix3 q b s := ⟨i 0, i 1, i 2, by funext x; fin_cases x <;> rfl⟩
  exact turned_at _ q b s

end Cert.Gates

end
-- ==== Proof.lean ====
/- The claims assembled: the kernel's frames are the generated ones; the value claim puts both programs' results at the layer's own formula, `Cert.MLstm.result`, the
   kernel's by the sweep over its grid points (KernelArray) and the reference's by its passes over the chunks (RefTrip). The merge of the branches (Merge)
   and the output projection (Out) are programs of their own, read to one formula each; so is the input projection on its plain column tiles (InprojValue),
   whose run (InprojRun) is over any float instance and gives both its frames, and the conditioning (Ada). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Pre_table_follows
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.RefRun
public import proofs.«01_k».proof.Proof.RefTrip
public import proofs.«01_k».proof.Proof.Table
public import proofs.«01_k».proof.Proof.Merge
public import proofs.«01_k».proof.Proof.Out
public import Idealize.ShloMosaic.Adequacy
public import Idealize.ShloMosaic.Init
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Pre_above_bottom
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Pre_finite_weights
public import proofs.«01_k».proof.Proof.InprojValue
public import proofs.«01_k».proof.Proof.Ada
public import proofs.«01_k».proof.Proof.GatesValue

@[expose] public section

noncomputable section

namespace Cert.Proof

open Idealize.ShloMosaic Idealize.SL.Sem

/-- From equal arguments whose table follows from its first two lanes, the kernel and the reference end with equal arrays: the mLSTM's gated, normalized outputs. -/
theorem equal : Cert.algebraic_KernelIdeal_ReferenceIdeal_pre_table_follows (hKernelIdeal := Cert.KernelIdeal.Gen.facts)
    (hReferenceIdeal := Cert.ReferenceIdeal.Gen.facts) (hPre_table_follows := Cert.Pre_table_follows.Gen.facts) := by
  intro m g m' g' hp ha
  haveI := Cert.Pre_table_follows.Gen.facts
  refine ⟨fun c => Cert.KernelIdeal.Value.G8 m c, Cert.KernelIdeal.Value.run m g, ?_⟩
  refine (θ_run _ _ _).mono (fun r h c => ⟨(h c).1.trans ?_, (h c).2⟩)
    (Cert.MLstm.Ref.result m' g' (fun c => Cert.MLstm.Ref.states (m' ((c.tc : Thread _ _).loc Cert.ReferenceIdeal.main_arg0))
      (m' ((c.tc : Thread _ _).loc Cert.ReferenceIdeal.main_arg1))) (fun _ => rfl) (fun _ _ => rfl))
  rw [(ha c).1, (ha c).2.1, (ha c).2.2]
  funext i
  obtain ⟨a, e, rfl⟩ : ∃ (a : Fin 16384) (e : Fin 2048), i = ix2 a e := ⟨i 0, i 1, by funext x; fin_cases x <;> rfl⟩
  exact (Cert.MLstm.Ref.result_at _ _ _ a e).trans
    (Cert.MLstm.Kern.array_at m c (Cert.MLstm.follows_of m hp c) (Cert.MLstm.above_of m hp c) a e).symm

/-- The reference runs, keeps its arguments and ends with every counter at zero: it has none. -/
theorem reference_frame : Cert.quiescent_ReferenceIdeal (hReferenceIdeal := Cert.ReferenceIdeal.Gen.facts) := fun m ρ _ =>
  (θ_run _ _ _).mono (fun r h => ⟨fun c => (h c).2, sem_eq_zero_of_no_sems (by decide) r.2⟩) (Cert.ReferenceIdeal.Value.run m ρ)

/-- The merge's reference runs, keeps its arguments and ends with every counter at zero: it has none. -/
theorem reference2_frame : Cert.quiescent_Reference2Ideal (hReference2Ideal := Cert.Reference2Ideal.Gen.facts) := fun m ρ _ =>
  (θ_run _ _ _).mono (fun r h => ⟨fun c => (h c).2, sem_eq_zero_of_no_sems (by decide) r.2⟩) (Cert.Reference2Ideal.Value.run m ρ)

/-- The output projection's reference runs, keeps its arguments and ends with every counter at zero: it has none. -/
theorem reference3_frame : Cert.quiescent_Reference3Ideal (hReference3Ideal := Cert.Reference3Ideal.Gen.facts) := fun m ρ _ =>
  (θ_run _ _ _).mono (fun r h => ⟨fun c => (h c).2, sem_eq_zero_of_no_sems (by decide) r.2⟩) (Cert.Reference3Ideal.Value.run m ρ)

/-- The input projection's program at its own floats and at exact ones have one body table, -/
theorem bodies_eq [Cert.Kernel4.Facts] [Cert.Kernel4Ideal.Facts] : Cert.Kernel4.defs₀ (F := Bits) = Cert.Kernel4Ideal.defs₀ (F := Bits) := by
  unfold Cert.Kernel4.defs₀ Cert.Kernel4Ideal.defs₀
  refine congrArg Defs.onTc (funext fun l => ?_)
  match l with
  | 0 => rfl

theorem defs_eq [Cert.Kernel4.Facts] [Cert.Kernel4Ideal.Facts] : Cert.Kernel4.defs (F := Bits) = Cert.Kernel4Ideal.defs (F := Bits) :=
  congrArg (Pipeline.defs Cert.Kernel4.pcfgs) bodies_eq

/-- so the run, over any float instance, is both's. -/
theorem kernel4_frame : Cert.quiescent_Kernel4 (hKernel4 := Cert.Kernel4.Gen.facts) := fun m ρ _ => by
  have e := defs_eq
  rw [e]
  exact Cert.Inproj.frame_goes (F := Bits) m ρ

/-- The input projection's reference runs, keeps its arguments and ends with every counter at zero: it has none. -/
theorem reference4_frame : Cert.quiescent_Reference4Ideal (hReference4Ideal := Cert.Reference4Ideal.Gen.facts) := fun m ρ _ =>
  (θ_run _ _ _).mono (fun r h => ⟨fun c => (h c).2.2.2, sem_eq_zero_of_no_sems (by decide) r.2⟩) (Cert.Reference4Ideal.Value.run m ρ)

/-- The conditioning's reference runs, keeps its arguments and ends with every counter at zero: it has none. -/
theorem reference5_frame : Cert.quiescent_Reference5Ideal (hReference5Ideal := Cert.Reference5Ideal.Gen.facts) := fun m ρ _ =>
  (θ_run _ _ _).mono (fun r h => ⟨fun c => (h c).2, sem_eq_zero_of_no_sems (by decide) r.2⟩) (Cert.Reference5Ideal.Value.run m ρ)

/-- The gates' reference runs, keeps its arguments and ends with every counter at zero: it has none. -/
theorem reference6_frame : Cert.quiescent_Reference6Ideal (hReference6Ideal := Cert.Reference6Ideal.Gen.facts) := fun m ρ _ =>
  (θ_run _ _ _).mono (fun r h => ⟨fun c => (h c).2.2, sem_eq_zero_of_no_sems (by decide) r.2⟩) (Cert.Reference6Ideal.Value.run m ρ)

/-- Every claim. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Pre_table_follows.Gen.facts, Cert.Pre_above_bottom.Gen.facts, Cert.Pre_finite_weights.Gen.facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial,
  fun m ρ _ => Cert.Kernel2.Gen.frame m ρ, fun m ρ _ => Cert.Kernel2Ideal.Gen.frame m ρ, reference2_frame,
  fun m ρ _ => Cert.Kernel3.Gen.frame m ρ, fun m ρ _ => Cert.Kernel3Ideal.Gen.frame m ρ, reference3_frame,
  kernel4_frame, fun m ρ _ => Cert.Inproj.frame_goes m ρ, reference4_frame,
  fun m ρ _ => Cert.Kernel5.Gen.frame m ρ, fun m ρ _ => Cert.Kernel5Ideal.Gen.frame m ρ, fun m ρ _ => Cert.Kernel5Ideal.Gen.frame m ρ,
  reference5_frame, fun m ρ _ => reference5_frame m ρ trivial,
  fun m ρ _ => Cert.Kernel6.Gen.frame m ρ, fun m ρ _ => Cert.Kernel6Ideal.Gen.frame m ρ, fun m ρ _ => Cert.Kernel6Ideal.Gen.frame m ρ,
  reference6_frame, fun m ρ _ => reference6_frame m ρ trivial,
  trivial, equal, trivial, Cert.Merge.equal, trivial, Cert.Out.equal, trivial, Cert.Inproj.equal, trivial, Cert.Ada.equal, trivial, Cert.Gates.equal⟩

end Cert.Proof

end
